-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 2048]⟩ ⟨2, ![4096, 2048]⟩ 0 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 2048]⟩ ⟨2, ![4096, 2048]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x256 : Shape := ⟨2, ![4096, 256]⟩
abbrev S256x2048 : Shape := ⟨2, ![256, 2048]⟩
abbrev S1 : Shape := ⟨1, ![1]⟩
abbrev S2x128x2048 : Shape := ⟨3, ![2, 128, 2048]⟩
abbrev S15x256x256 : Shape := ⟨3, ![15, 256, 256]⟩
abbrev S8x2x128x2048 : Shape := ⟨4, ![8, 2, 128, 2048]⟩
abbrev S15 : Shape := ⟨1, ![15]⟩
abbrev S8x2 : Shape := ⟨2, ![8, 2]⟩
abbrev S128x2048 : Shape := ⟨2, ![128, 2048]⟩
abbrev S1x128x2048 : Shape := ⟨3, ![1, 128, 2048]⟩
abbrev S256x256 : Shape := ⟨2, ![256, 256]⟩
abbrev S1x256x256 : Shape := ⟨3, ![1, 256, 256]⟩
abbrev S_ : Shape := ⟨0, ![]⟩
abbrev S1x1 : Shape := ⟨2, ![1, 1]⟩
abbrev S1x1x128x2048 : Shape := ⟨4, ![1, 1, 128, 2048]⟩
abbrev S256x128 : Shape := ⟨2, ![256, 128]⟩

abbrev nBuf : Space → Nat
  | .hbm => 5
  | .vmem => 9
  | .smem => 2
  | _ => 0

abbrev bufTy : (tb : Table) → Fin (tcTables nBuf tb) → BufTy
  | .hbm, ⟨0, _⟩ => ⟨S4096x256, .fp8e4m3⟩
  | .hbm, ⟨1, _⟩ => ⟨S256x2048, .fp8e4m3⟩
  | .hbm, ⟨2, _⟩ => ⟨S1, .f32⟩
  | .hbm, ⟨3, _⟩ => ⟨S1, .f32⟩
  | .hbm, ⟨4, _⟩ => ⟨S256x2048, .f32⟩
  | .local _ .vmem, ⟨0, _⟩ => ⟨S4096x256, .fp8e4m3⟩
  | .local _ .vmem, ⟨1, _⟩ => ⟨S256x2048, .fp8e4m3⟩
  | .local _ .vmem, ⟨2, _⟩ => ⟨S256x2048, .f32⟩
  | .local _ .vmem, ⟨3, _⟩ => ⟨S2x128x2048, .fp8e4m3⟩
  | .local _ .vmem, ⟨4, _⟩ => ⟨S15x256x256, .fp8e4m3⟩
  | .local _ .vmem, ⟨5, _⟩ => ⟨S15x256x256, .fp8e4m3⟩
  | .local _ .vmem, ⟨6, _⟩ => ⟨S8x2x128x2048, .fp8e4m3⟩
  | .local _ .vmem, ⟨7, _⟩ => ⟨S8x2x128x2048, .fp8e4m3⟩
  | .local _ .vmem, ⟨8, _⟩ => ⟨S256x2048, .f32⟩
  | .local _ .smem, ⟨0, _⟩ => ⟨S1, .f32⟩
  | .local _ .smem, ⟨1, _⟩ => ⟨S1, .f32⟩
  | _, _ => ⟨S4096x256, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | _, _ => false

abbrev semScoped : Fin 1 → Bool
  | ⟨0, _⟩ => false
  | _ => false

abbrev dmaSemScoped : Fin 99 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | _ => false

abbrev sig : RefSig :=
  (ofTc nBuf bufTy 1 99 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 16
abbrev τ : Topo := Topo.v7x

variable {F : FTy → Type} [FloatOps F]

abbrev grid0 : Pipeline.Grid := .none

def k0_off1 (d0 : Dev nD) (c10_i32_77 : BitVec 32) (c14_i32_75 : BitVec 32) (c8_i32_73 : BitVec 32) (c15_i32_71 : BitVec 32) (c6_i32_69 : BitVec 32) (c13_i32_67 : BitVec 32) (c4_i32_65 : BitVec 32) (c11_i32_63 : BitVec 32) (c2_i32_61 : BitVec 32) (c9_i32_59 : BitVec 32) (c0_i32_57 : BitVec 32) (c7_i32_55 : BitVec 32) (c3_i32_53 : BitVec 32) (c5_i32_51 : BitVec 32) (c1_i32_48 : BitVec 32) (c12_i32_49 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_76 : BitVec 32 := 14#32
  let v91 : BitVec 1 := Scalar.cmpi .eq v2 c14_i32_76
  let c13_i32_74 : BitVec 32 := 13#32
  let v89 : BitVec 1 := Scalar.cmpi .eq v2 c13_i32_74
  let c12_i32_72 : BitVec 32 := 12#32
  let v87 : BitVec 1 := Scalar.cmpi .eq v2 c12_i32_72
  let c11_i32_70 : BitVec 32 := 11#32
  let v85 : BitVec 1 := Scalar.cmpi .eq v2 c11_i32_70
  let c10_i32_68 : BitVec 32 := 10#32
  let v83 : BitVec 1 := Scalar.cmpi .eq v2 c10_i32_68
  let c9_i32_66 : BitVec 32 := 9#32
  let v81 : BitVec 1 := Scalar.cmpi .eq v2 c9_i32_66
  let c8_i32_64 : BitVec 32 := 8#32
  let v79 : BitVec 1 := Scalar.cmpi .eq v2 c8_i32_64
  let c7_i32_62 : BitVec 32 := 7#32
  let v77 : BitVec 1 := Scalar.cmpi .eq v2 c7_i32_62
  let c6_i32_60 : BitVec 32 := 6#32
  let v75 : BitVec 1 := Scalar.cmpi .eq v2 c6_i32_60
  let c5_i32_58 : BitVec 32 := 5#32
  let v73 : BitVec 1 := Scalar.cmpi .eq v2 c5_i32_58
  let c4_i32_56 : BitVec 32 := 4#32
  let v71 : BitVec 1 := Scalar.cmpi .eq v2 c4_i32_56
  let c3_i32_54 : BitVec 32 := 3#32
  let v69 : BitVec 1 := Scalar.cmpi .eq v2 c3_i32_54
  let c2_i32_52 : BitVec 32 := 2#32
  let v67 : BitVec 1 := Scalar.cmpi .eq v2 c2_i32_52
  let c1_i32_50 : BitVec 32 := 1#32
  let v65 : BitVec 1 := Scalar.cmpi .eq v2 c1_i32_50
  let c0_i32_47 : BitVec 32 := 0#32
  let v63 : BitVec 1 := Scalar.cmpi .eq v2 c0_i32_47
  let v64 : BitVec 32 := Scalar.select v63 c1_i32_48 c12_i32_49
  let v66 : BitVec 32 := Scalar.select v65 c5_i32_51 v64
  let v68 : BitVec 32 := Scalar.select v67 c3_i32_53 v66
  let v70 : BitVec 32 := Scalar.select v69 c7_i32_55 v68
  let v72 : BitVec 32 := Scalar.select v71 c0_i32_57 v70
  let v74 : BitVec 32 := Scalar.select v73 c9_i32_59 v72
  let v76 : BitVec 32 := Scalar.select v75 c2_i32_61 v74
  let v78 : BitVec 32 := Scalar.select v77 c11_i32_63 v76
  let v80 : BitVec 32 := Scalar.select v79 c4_i32_65 v78
  let v82 : BitVec 32 := Scalar.select v81 c13_i32_67 v80
  let v84 : BitVec 32 := Scalar.select v83 c6_i32_69 v82
  let v86 : BitVec 32 := Scalar.select v85 c15_i32_71 v84
  let v88 : BitVec 32 := Scalar.select v87 c8_i32_73 v86
  let v90 : BitVec 32 := Scalar.select v89 c14_i32_75 v88
  let v92 : BitVec 32 := Scalar.select v91 c10_i32_77 v90
  let c256_i32 : BitVec 32 := 256#32
  let v523 : BitVec 32 := Scalar.muli v92 c256_i32
  let v524 : Index := Scalar.indexCast v523
  let c0_519 : Index := 0#32
  ![v524.toNat, 0]
def k0_off1_at (r : Fin 15) : BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 :=
  if r.val < 7 then
    if r.val < 3 then
      if r.val < 1 then
        (10#32, 14#32, 8#32, 15#32, 6#32, 13#32, 4#32, 11#32, 2#32, 9#32, 0#32, 7#32, 3#32, 5#32, 1#32, 12#32)
      else
        if r.val < 2 then
          (6#32, 10#32, 4#32, 12#32, 2#32, 14#32, 0#32, 15#32, 3#32, 13#32, 1#32, 11#32, 7#32, 9#32, 5#32, 8#32)
        else
          (2#32, 6#32, 0#32, 8#32, 3#32, 10#32, 1#32, 12#32, 7#32, 14#32, 5#32, 15#32, 11#32, 13#32, 9#32, 4#32)
    else
      if r.val < 5 then
        if r.val < 4 then
          (3#32, 2#32, 1#32, 4#32, 7#32, 6#32, 5#32, 8#32, 11#32, 10#32, 9#32, 12#32, 15#32, 14#32, 13#32, 0#32)
        else
          (7#32, 3#32, 5#32, 0#32, 11#32, 2#32, 9#32, 4#32, 15#32, 6#32, 13#32, 8#32, 12#32, 10#32, 14#32, 1#32)
      else
        if r.val < 6 then
          (11#32, 7#32, 9#32, 1#32, 15#32, 3#32, 13#32, 0#32, 12#32, 2#32, 14#32, 4#32, 8#32, 6#32, 10#32, 5#32)
        else
          (15#32, 11#32, 13#32, 5#32, 12#32, 7#32, 14#32, 1#32, 8#32, 3#32, 10#32, 0#32, 4#32, 2#32, 6#32, 9#32)
  else
    if r.val < 11 then
      if r.val < 9 then
        if r.val < 8 then
          (12#32, 15#32, 14#32, 9#32, 8#32, 11#32, 10#32, 5#32, 4#32, 7#32, 6#32, 1#32, 0#32, 3#32, 2#32, 13#32)
        else
          (8#32, 12#32, 10#32, 13#32, 4#32, 15#32, 6#32, 9#32, 0#32, 11#32, 2#32, 5#32, 1#32, 7#32, 3#32, 14#32)
      else
        if r.val < 10 then
          (4#32, 8#32, 6#32, 14#32, 0#32, 12#32, 2#32, 13#32, 1#32, 15#32, 3#32, 9#32, 5#32, 11#32, 7#32, 10#32)
        else
          (0#32, 4#32, 2#32, 10#32, 1#32, 8#32, 3#32, 14#32, 5#32, 12#32, 7#32, 13#32, 9#32, 15#32, 11#32, 6#32)
    else
      if r.val < 13 then
        if r.val < 12 then
          (1#32, 0#32, 3#32, 6#32, 5#32, 4#32, 7#32, 10#32, 9#32, 8#32, 11#32, 14#32, 13#32, 12#32, 15#32, 2#32)
        else
          (5#32, 1#32, 7#32, 2#32, 9#32, 0#32, 11#32, 6#32, 13#32, 4#32, 15#32, 10#32, 14#32, 8#32, 12#32, 3#32)
      else
        if r.val < 14 then
          (9#32, 5#32, 11#32, 3#32, 13#32, 1#32, 15#32, 2#32, 14#32, 0#32, 12#32, 6#32, 10#32, 4#32, 8#32, 7#32)
        else
          (13#32, 9#32, 15#32, 7#32, 14#32, 5#32, 12#32, 3#32, 10#32, 1#32, 8#32, 2#32, 6#32, 0#32, 4#32, 11#32)
def k0_dev1 (d0 : Dev nD) : Nat :=
  let c0_i32_584 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_580 : BitVec 32 := 1#32
  let v629 : BitVec 32 := Scalar.addi v2 c1_i32_580
  let c16_i32_581 : BitVec 32 := 16#32
  let v630 : BitVec 32 := Scalar.remsi v629 c16_i32_581
  let c1_i32_583 : BitVec 32 := 1#32
  let v631 : BitVec 32 := Scalar.muli v630 c1_i32_583
  let v632 : BitVec 32 := Scalar.addi c0_i32_584 v631
  v632.toNat
def k0_dev2 (d0 : Dev nD) : Nat :=
  let c0_i32_589 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_585 : BitVec 32 := 2#32
  let v633 : BitVec 32 := Scalar.addi v2 c2_i32_585
  let c16_i32_586 : BitVec 32 := 16#32
  let v634 : BitVec 32 := Scalar.remsi v633 c16_i32_586
  let c1_i32_588 : BitVec 32 := 1#32
  let v635 : BitVec 32 := Scalar.muli v634 c1_i32_588
  let v636 : BitVec 32 := Scalar.addi c0_i32_589 v635
  v636.toNat
def k0_dev3 (d0 : Dev nD) : Nat :=
  let c0_i32_594 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_590 : BitVec 32 := 3#32
  let v637 : BitVec 32 := Scalar.addi v2 c3_i32_590
  let c16_i32_591 : BitVec 32 := 16#32
  let v638 : BitVec 32 := Scalar.remsi v637 c16_i32_591
  let c1_i32_593 : BitVec 32 := 1#32
  let v639 : BitVec 32 := Scalar.muli v638 c1_i32_593
  let v640 : BitVec 32 := Scalar.addi c0_i32_594 v639
  v640.toNat
def k0_dev4 (d0 : Dev nD) : Nat :=
  let c0_i32_599 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_595 : BitVec 32 := 4#32
  let v641 : BitVec 32 := Scalar.addi v2 c4_i32_595
  let c16_i32_596 : BitVec 32 := 16#32
  let v642 : BitVec 32 := Scalar.remsi v641 c16_i32_596
  let c1_i32_598 : BitVec 32 := 1#32
  let v643 : BitVec 32 := Scalar.muli v642 c1_i32_598
  let v644 : BitVec 32 := Scalar.addi c0_i32_599 v643
  v644.toNat
def k0_dev5 (d0 : Dev nD) : Nat :=
  let c0_i32_604 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_600 : BitVec 32 := 5#32
  let v645 : BitVec 32 := Scalar.addi v2 c5_i32_600
  let c16_i32_601 : BitVec 32 := 16#32
  let v646 : BitVec 32 := Scalar.remsi v645 c16_i32_601
  let c1_i32_603 : BitVec 32 := 1#32
  let v647 : BitVec 32 := Scalar.muli v646 c1_i32_603
  let v648 : BitVec 32 := Scalar.addi c0_i32_604 v647
  v648.toNat
def k0_dev6 (d0 : Dev nD) : Nat :=
  let c0_i32_609 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_605 : BitVec 32 := 6#32
  let v649 : BitVec 32 := Scalar.addi v2 c6_i32_605
  let c16_i32_606 : BitVec 32 := 16#32
  let v650 : BitVec 32 := Scalar.remsi v649 c16_i32_606
  let c1_i32_608 : BitVec 32 := 1#32
  let v651 : BitVec 32 := Scalar.muli v650 c1_i32_608
  let v652 : BitVec 32 := Scalar.addi c0_i32_609 v651
  v652.toNat
def k0_dev7 (d0 : Dev nD) : Nat :=
  let c0_i32_614 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_610 : BitVec 32 := 7#32
  let v653 : BitVec 32 := Scalar.addi v2 c7_i32_610
  let c16_i32_611 : BitVec 32 := 16#32
  let v654 : BitVec 32 := Scalar.remsi v653 c16_i32_611
  let c1_i32_613 : BitVec 32 := 1#32
  let v655 : BitVec 32 := Scalar.muli v654 c1_i32_613
  let v656 : BitVec 32 := Scalar.addi c0_i32_614 v655
  v656.toNat
def k0_dev8 (d0 : Dev nD) : Nat :=
  let c0_i32_619 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_615 : BitVec 32 := 8#32
  let v657 : BitVec 32 := Scalar.addi v2 c8_i32_615
  let c16_i32_616 : BitVec 32 := 16#32
  let v658 : BitVec 32 := Scalar.remsi v657 c16_i32_616
  let c1_i32_618 : BitVec 32 := 1#32
  let v659 : BitVec 32 := Scalar.muli v658 c1_i32_618
  let v660 : BitVec 32 := Scalar.addi c0_i32_619 v659
  v660.toNat
def k0_dev9 (d0 : Dev nD) : Nat :=
  let c0_i32_624 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_620 : BitVec 32 := 9#32
  let v661 : BitVec 32 := Scalar.addi v2 c9_i32_620
  let c16_i32_621 : BitVec 32 := 16#32
  let v662 : BitVec 32 := Scalar.remsi v661 c16_i32_621
  let c1_i32_623 : BitVec 32 := 1#32
  let v663 : BitVec 32 := Scalar.muli v662 c1_i32_623
  let v664 : BitVec 32 := Scalar.addi c0_i32_624 v663
  v664.toNat
def k0_dev10 (d0 : Dev nD) : Nat :=
  let c0_i32_629 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_625 : BitVec 32 := 10#32
  let v665 : BitVec 32 := Scalar.addi v2 c10_i32_625
  let c16_i32_626 : BitVec 32 := 16#32
  let v666 : BitVec 32 := Scalar.remsi v665 c16_i32_626
  let c1_i32_628 : BitVec 32 := 1#32
  let v667 : BitVec 32 := Scalar.muli v666 c1_i32_628
  let v668 : BitVec 32 := Scalar.addi c0_i32_629 v667
  v668.toNat
def k0_dev11 (d0 : Dev nD) : Nat :=
  let c0_i32_634 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_630 : BitVec 32 := 11#32
  let v669 : BitVec 32 := Scalar.addi v2 c11_i32_630
  let c16_i32_631 : BitVec 32 := 16#32
  let v670 : BitVec 32 := Scalar.remsi v669 c16_i32_631
  let c1_i32_633 : BitVec 32 := 1#32
  let v671 : BitVec 32 := Scalar.muli v670 c1_i32_633
  let v672 : BitVec 32 := Scalar.addi c0_i32_634 v671
  v672.toNat
def k0_dev12 (d0 : Dev nD) : Nat :=
  let c0_i32_639 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_635 : BitVec 32 := 12#32
  let v673 : BitVec 32 := Scalar.addi v2 c12_i32_635
  let c16_i32_636 : BitVec 32 := 16#32
  let v674 : BitVec 32 := Scalar.remsi v673 c16_i32_636
  let c1_i32_638 : BitVec 32 := 1#32
  let v675 : BitVec 32 := Scalar.muli v674 c1_i32_638
  let v676 : BitVec 32 := Scalar.addi c0_i32_639 v675
  v676.toNat
def k0_dev13 (d0 : Dev nD) : Nat :=
  let c0_i32_644 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_640 : BitVec 32 := 13#32
  let v677 : BitVec 32 := Scalar.addi v2 c13_i32_640
  let c16_i32_641 : BitVec 32 := 16#32
  let v678 : BitVec 32 := Scalar.remsi v677 c16_i32_641
  let c1_i32_643 : BitVec 32 := 1#32
  let v679 : BitVec 32 := Scalar.muli v678 c1_i32_643
  let v680 : BitVec 32 := Scalar.addi c0_i32_644 v679
  v680.toNat
def k0_dev14 (d0 : Dev nD) : Nat :=
  let c0_i32_649 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_645 : BitVec 32 := 14#32
  let v681 : BitVec 32 := Scalar.addi v2 c14_i32_645
  let c16_i32_646 : BitVec 32 := 16#32
  let v682 : BitVec 32 := Scalar.remsi v681 c16_i32_646
  let c1_i32_648 : BitVec 32 := 1#32
  let v683 : BitVec 32 := Scalar.muli v682 c1_i32_648
  let v684 : BitVec 32 := Scalar.addi c0_i32_649 v683
  v684.toNat
def k0_dev15 (d0 : Dev nD) : Nat :=
  let c0_i32_654 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_650 : BitVec 32 := 15#32
  let v685 : BitVec 32 := Scalar.addi v2 c15_i32_650
  let c16_i32_651 : BitVec 32 := 16#32
  let v686 : BitVec 32 := Scalar.remsi v685 c16_i32_651
  let c1_i32_653 : BitVec 32 := 1#32
  let v687 : BitVec 32 := Scalar.muli v686 c1_i32_653
  let v688 : BitVec 32 := Scalar.addi c0_i32_654 v687
  v688.toNat
def k0_dev16 (d0 : Dev nD) : Nat :=
  let c0_i32_664 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_14 : BitVec 32 := 14#32
  let v31 : BitVec 1 := Scalar.cmpi .eq v2 c14_i32_14
  let c10_i32_15 : BitVec 32 := 10#32
  let c13_i32_13 : BitVec 32 := 13#32
  let v29 : BitVec 1 := Scalar.cmpi .eq v2 c13_i32_13
  let c14_i32 : BitVec 32 := 14#32
  let c12_i32_11 : BitVec 32 := 12#32
  let v27 : BitVec 1 := Scalar.cmpi .eq v2 c12_i32_11
  let c8_i32_12 : BitVec 32 := 8#32
  let c11_i32_10 : BitVec 32 := 11#32
  let v25 : BitVec 1 := Scalar.cmpi .eq v2 c11_i32_10
  let c15_i32 : BitVec 32 := 15#32
  let c10_i32 : BitVec 32 := 10#32
  let v23 : BitVec 1 := Scalar.cmpi .eq v2 c10_i32
  let c6_i32_9 : BitVec 32 := 6#32
  let c9_i32_8 : BitVec 32 := 9#32
  let v21 : BitVec 1 := Scalar.cmpi .eq v2 c9_i32_8
  let c13_i32 : BitVec 32 := 13#32
  let c8_i32 : BitVec 32 := 8#32
  let v19 : BitVec 1 := Scalar.cmpi .eq v2 c8_i32
  let c4_i32_7 : BitVec 32 := 4#32
  let c7_i32_6 : BitVec 32 := 7#32
  let v17 : BitVec 1 := Scalar.cmpi .eq v2 c7_i32_6
  let c11_i32 : BitVec 32 := 11#32
  let c6_i32 : BitVec 32 := 6#32
  let v15 : BitVec 1 := Scalar.cmpi .eq v2 c6_i32
  let c2_i32_5 : BitVec 32 := 2#32
  let c5_i32_4 : BitVec 32 := 5#32
  let v13 : BitVec 1 := Scalar.cmpi .eq v2 c5_i32_4
  let c9_i32 : BitVec 32 := 9#32
  let c4_i32 : BitVec 32 := 4#32
  let v11 : BitVec 1 := Scalar.cmpi .eq v2 c4_i32
  let c0_i32_3 : BitVec 32 := 0#32
  let c3_i32_2 : BitVec 32 := 3#32
  let v9 : BitVec 1 := Scalar.cmpi .eq v2 c3_i32_2
  let c7_i32 : BitVec 32 := 7#32
  let c2_i32 : BitVec 32 := 2#32
  let v7 : BitVec 1 := Scalar.cmpi .eq v2 c2_i32
  let c3_i32 : BitVec 32 := 3#32
  let c1_i32_1 : BitVec 32 := 1#32
  let v5 : BitVec 1 := Scalar.cmpi .eq v2 c1_i32_1
  let c5_i32 : BitVec 32 := 5#32
  let c0_i32 : BitVec 32 := 0#32
  let v3 : BitVec 1 := Scalar.cmpi .eq v2 c0_i32
  let c1_i32_0 : BitVec 32 := 1#32
  let c12_i32 : BitVec 32 := 12#32
  let v4 : BitVec 32 := Scalar.select v3 c1_i32_0 c12_i32
  let v6 : BitVec 32 := Scalar.select v5 c5_i32 v4
  let v8 : BitVec 32 := Scalar.select v7 c3_i32 v6
  let v10 : BitVec 32 := Scalar.select v9 c7_i32 v8
  let v12 : BitVec 32 := Scalar.select v11 c0_i32_3 v10
  let v14 : BitVec 32 := Scalar.select v13 c9_i32 v12
  let v16 : BitVec 32 := Scalar.select v15 c2_i32_5 v14
  let v18 : BitVec 32 := Scalar.select v17 c11_i32 v16
  let v20 : BitVec 32 := Scalar.select v19 c4_i32_7 v18
  let v22 : BitVec 32 := Scalar.select v21 c13_i32 v20
  let v24 : BitVec 32 := Scalar.select v23 c6_i32_9 v22
  let v26 : BitVec 32 := Scalar.select v25 c15_i32 v24
  let v28 : BitVec 32 := Scalar.select v27 c8_i32_12 v26
  let v30 : BitVec 32 := Scalar.select v29 c14_i32 v28
  let v32 : BitVec 32 := Scalar.select v31 c10_i32_15 v30
  let c1_i32_663 : BitVec 32 := 1#32
  let v689 : BitVec 32 := Scalar.muli v32 c1_i32_663
  let v690 : BitVec 32 := Scalar.addi c0_i32_664 v689
  v690.toNat
def k0_dev17 (d0 : Dev nD) : Nat :=
  let c0_i32_677 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_14 : BitVec 32 := 14#32
  let v31 : BitVec 1 := Scalar.cmpi .eq v2 c14_i32_14
  let c10_i32_15 : BitVec 32 := 10#32
  let c13_i32_13 : BitVec 32 := 13#32
  let v29 : BitVec 1 := Scalar.cmpi .eq v2 c13_i32_13
  let c14_i32 : BitVec 32 := 14#32
  let c12_i32_11 : BitVec 32 := 12#32
  let v27 : BitVec 1 := Scalar.cmpi .eq v2 c12_i32_11
  let c8_i32_12 : BitVec 32 := 8#32
  let c11_i32_10 : BitVec 32 := 11#32
  let v25 : BitVec 1 := Scalar.cmpi .eq v2 c11_i32_10
  let c15_i32 : BitVec 32 := 15#32
  let c10_i32 : BitVec 32 := 10#32
  let v23 : BitVec 1 := Scalar.cmpi .eq v2 c10_i32
  let c6_i32_9 : BitVec 32 := 6#32
  let c9_i32_8 : BitVec 32 := 9#32
  let v21 : BitVec 1 := Scalar.cmpi .eq v2 c9_i32_8
  let c13_i32 : BitVec 32 := 13#32
  let c8_i32 : BitVec 32 := 8#32
  let v19 : BitVec 1 := Scalar.cmpi .eq v2 c8_i32
  let c4_i32_7 : BitVec 32 := 4#32
  let c7_i32_6 : BitVec 32 := 7#32
  let v17 : BitVec 1 := Scalar.cmpi .eq v2 c7_i32_6
  let c11_i32 : BitVec 32 := 11#32
  let c6_i32 : BitVec 32 := 6#32
  let v15 : BitVec 1 := Scalar.cmpi .eq v2 c6_i32
  let c2_i32_5 : BitVec 32 := 2#32
  let c5_i32_4 : BitVec 32 := 5#32
  let v13 : BitVec 1 := Scalar.cmpi .eq v2 c5_i32_4
  let c9_i32 : BitVec 32 := 9#32
  let c4_i32 : BitVec 32 := 4#32
  let v11 : BitVec 1 := Scalar.cmpi .eq v2 c4_i32
  let c0_i32_3 : BitVec 32 := 0#32
  let c3_i32_2 : BitVec 32 := 3#32
  let v9 : BitVec 1 := Scalar.cmpi .eq v2 c3_i32_2
  let c7_i32 : BitVec 32 := 7#32
  let c2_i32 : BitVec 32 := 2#32
  let v7 : BitVec 1 := Scalar.cmpi .eq v2 c2_i32
  let c3_i32 : BitVec 32 := 3#32
  let c1_i32_1 : BitVec 32 := 1#32
  let v5 : BitVec 1 := Scalar.cmpi .eq v2 c1_i32_1
  let c5_i32 : BitVec 32 := 5#32
  let c0_i32 : BitVec 32 := 0#32
  let v3 : BitVec 1 := Scalar.cmpi .eq v2 c0_i32
  let c1_i32_0 : BitVec 32 := 1#32
  let c12_i32 : BitVec 32 := 12#32
  let v4 : BitVec 32 := Scalar.select v3 c1_i32_0 c12_i32
  let v6 : BitVec 32 := Scalar.select v5 c5_i32 v4
  let v8 : BitVec 32 := Scalar.select v7 c3_i32 v6
  let v10 : BitVec 32 := Scalar.select v9 c7_i32 v8
  let v12 : BitVec 32 := Scalar.select v11 c0_i32_3 v10
  let v14 : BitVec 32 := Scalar.select v13 c9_i32 v12
  let v16 : BitVec 32 := Scalar.select v15 c2_i32_5 v14
  let v18 : BitVec 32 := Scalar.select v17 c11_i32 v16
  let v20 : BitVec 32 := Scalar.select v19 c4_i32_7 v18
  let v22 : BitVec 32 := Scalar.select v21 c13_i32 v20
  let v24 : BitVec 32 := Scalar.select v23 c6_i32_9 v22
  let v26 : BitVec 32 := Scalar.select v25 c15_i32 v24
  let v28 : BitVec 32 := Scalar.select v27 c8_i32_12 v26
  let v30 : BitVec 32 := Scalar.select v29 c14_i32 v28
  let v32 : BitVec 32 := Scalar.select v31 c10_i32_15 v30
  let c1_i32_676 : BitVec 32 := 1#32
  let v699 : BitVec 32 := Scalar.muli v32 c1_i32_676
  let v700 : BitVec 32 := Scalar.addi c0_i32_677 v699
  v700.toNat
def k0_dev18 (d0 : Dev nD) : Nat :=
  let c0_i32_690 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_45 : BitVec 32 := 14#32
  let v61 : BitVec 1 := Scalar.cmpi .eq v2 c14_i32_45
  let c13_i32_46 : BitVec 32 := 13#32
  let c13_i32_43 : BitVec 32 := 13#32
  let v59 : BitVec 1 := Scalar.cmpi .eq v2 c13_i32_43
  let c9_i32_44 : BitVec 32 := 9#32
  let c12_i32_41 : BitVec 32 := 12#32
  let v57 : BitVec 1 := Scalar.cmpi .eq v2 c12_i32_41
  let c15_i32_42 : BitVec 32 := 15#32
  let c11_i32_39 : BitVec 32 := 11#32
  let v55 : BitVec 1 := Scalar.cmpi .eq v2 c11_i32_39
  let c7_i32_40 : BitVec 32 := 7#32
  let c10_i32_37 : BitVec 32 := 10#32
  let v53 : BitVec 1 := Scalar.cmpi .eq v2 c10_i32_37
  let c14_i32_38 : BitVec 32 := 14#32
  let c9_i32_35 : BitVec 32 := 9#32
  let v51 : BitVec 1 := Scalar.cmpi .eq v2 c9_i32_35
  let c5_i32_36 : BitVec 32 := 5#32
  let c8_i32_33 : BitVec 32 := 8#32
  let v49 : BitVec 1 := Scalar.cmpi .eq v2 c8_i32_33
  let c12_i32_34 : BitVec 32 := 12#32
  let c7_i32_31 : BitVec 32 := 7#32
  let v47 : BitVec 1 := Scalar.cmpi .eq v2 c7_i32_31
  let c3_i32_32 : BitVec 32 := 3#32
  let c6_i32_29 : BitVec 32 := 6#32
  let v45 : BitVec 1 := Scalar.cmpi .eq v2 c6_i32_29
  let c10_i32_30 : BitVec 32 := 10#32
  let c5_i32_27 : BitVec 32 := 5#32
  let v43 : BitVec 1 := Scalar.cmpi .eq v2 c5_i32_27
  let c1_i32_28 : BitVec 32 := 1#32
  let c4_i32_25 : BitVec 32 := 4#32
  let v41 : BitVec 1 := Scalar.cmpi .eq v2 c4_i32_25
  let c8_i32_26 : BitVec 32 := 8#32
  let c3_i32_23 : BitVec 32 := 3#32
  let v39 : BitVec 1 := Scalar.cmpi .eq v2 c3_i32_23
  let c2_i32_24 : BitVec 32 := 2#32
  let c2_i32_21 : BitVec 32 := 2#32
  let v37 : BitVec 1 := Scalar.cmpi .eq v2 c2_i32_21
  let c6_i32_22 : BitVec 32 := 6#32
  let c1_i32_19 : BitVec 32 := 1#32
  let v35 : BitVec 1 := Scalar.cmpi .eq v2 c1_i32_19
  let c0_i32_20 : BitVec 32 := 0#32
  let c0_i32_16 : BitVec 32 := 0#32
  let v33 : BitVec 1 := Scalar.cmpi .eq v2 c0_i32_16
  let c4_i32_17 : BitVec 32 := 4#32
  let c11_i32_18 : BitVec 32 := 11#32
  let v34 : BitVec 32 := Scalar.select v33 c4_i32_17 c11_i32_18
  let v36 : BitVec 32 := Scalar.select v35 c0_i32_20 v34
  let v38 : BitVec 32 := Scalar.select v37 c6_i32_22 v36
  let v40 : BitVec 32 := Scalar.select v39 c2_i32_24 v38
  let v42 : BitVec 32 := Scalar.select v41 c8_i32_26 v40
  let v44 : BitVec 32 := Scalar.select v43 c1_i32_28 v42
  let v46 : BitVec 32 := Scalar.select v45 c10_i32_30 v44
  let v48 : BitVec 32 := Scalar.select v47 c3_i32_32 v46
  let v50 : BitVec 32 := Scalar.select v49 c12_i32_34 v48
  let v52 : BitVec 32 := Scalar.select v51 c5_i32_36 v50
  let v54 : BitVec 32 := Scalar.select v53 c14_i32_38 v52
  let v56 : BitVec 32 := Scalar.select v55 c7_i32_40 v54
  let v58 : BitVec 32 := Scalar.select v57 c15_i32_42 v56
  let v60 : BitVec 32 := Scalar.select v59 c9_i32_44 v58
  let v62 : BitVec 32 := Scalar.select v61 c13_i32_46 v60
  let c1_i32_689 : BitVec 32 := 1#32
  let v709 : BitVec 32 := Scalar.muli v62 c1_i32_689
  let v710 : BitVec 32 := Scalar.addi c0_i32_690 v709
  v710.toNat
def k0_dev19 (d0 : Dev nD) : Nat :=
  let c0_i32_703 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_45 : BitVec 32 := 14#32
  let v61 : BitVec 1 := Scalar.cmpi .eq v2 c14_i32_45
  let c13_i32_46 : BitVec 32 := 13#32
  let c13_i32_43 : BitVec 32 := 13#32
  let v59 : BitVec 1 := Scalar.cmpi .eq v2 c13_i32_43
  let c9_i32_44 : BitVec 32 := 9#32
  let c12_i32_41 : BitVec 32 := 12#32
  let v57 : BitVec 1 := Scalar.cmpi .eq v2 c12_i32_41
  let c15_i32_42 : BitVec 32 := 15#32
  let c11_i32_39 : BitVec 32 := 11#32
  let v55 : BitVec 1 := Scalar.cmpi .eq v2 c11_i32_39
  let c7_i32_40 : BitVec 32 := 7#32
  let c10_i32_37 : BitVec 32 := 10#32
  let v53 : BitVec 1 := Scalar.cmpi .eq v2 c10_i32_37
  let c14_i32_38 : BitVec 32 := 14#32
  let c9_i32_35 : BitVec 32 := 9#32
  let v51 : BitVec 1 := Scalar.cmpi .eq v2 c9_i32_35
  let c5_i32_36 : BitVec 32 := 5#32
  let c8_i32_33 : BitVec 32 := 8#32
  let v49 : BitVec 1 := Scalar.cmpi .eq v2 c8_i32_33
  let c12_i32_34 : BitVec 32 := 12#32
  let c7_i32_31 : BitVec 32 := 7#32
  let v47 : BitVec 1 := Scalar.cmpi .eq v2 c7_i32_31
  let c3_i32_32 : BitVec 32 := 3#32
  let c6_i32_29 : BitVec 32 := 6#32
  let v45 : BitVec 1 := Scalar.cmpi .eq v2 c6_i32_29
  let c10_i32_30 : BitVec 32 := 10#32
  let c5_i32_27 : BitVec 32 := 5#32
  let v43 : BitVec 1 := Scalar.cmpi .eq v2 c5_i32_27
  let c1_i32_28 : BitVec 32 := 1#32
  let c4_i32_25 : BitVec 32 := 4#32
  let v41 : BitVec 1 := Scalar.cmpi .eq v2 c4_i32_25
  let c8_i32_26 : BitVec 32 := 8#32
  let c3_i32_23 : BitVec 32 := 3#32
  let v39 : BitVec 1 := Scalar.cmpi .eq v2 c3_i32_23
  let c2_i32_24 : BitVec 32 := 2#32
  let c2_i32_21 : BitVec 32 := 2#32
  let v37 : BitVec 1 := Scalar.cmpi .eq v2 c2_i32_21
  let c6_i32_22 : BitVec 32 := 6#32
  let c1_i32_19 : BitVec 32 := 1#32
  let v35 : BitVec 1 := Scalar.cmpi .eq v2 c1_i32_19
  let c0_i32_20 : BitVec 32 := 0#32
  let c0_i32_16 : BitVec 32 := 0#32
  let v33 : BitVec 1 := Scalar.cmpi .eq v2 c0_i32_16
  let c4_i32_17 : BitVec 32 := 4#32
  let c11_i32_18 : BitVec 32 := 11#32
  let v34 : BitVec 32 := Scalar.select v33 c4_i32_17 c11_i32_18
  let v36 : BitVec 32 := Scalar.select v35 c0_i32_20 v34
  let v38 : BitVec 32 := Scalar.select v37 c6_i32_22 v36
  let v40 : BitVec 32 := Scalar.select v39 c2_i32_24 v38
  let v42 : BitVec 32 := Scalar.select v41 c8_i32_26 v40
  let v44 : BitVec 32 := Scalar.select v43 c1_i32_28 v42
  let v46 : BitVec 32 := Scalar.select v45 c10_i32_30 v44
  let v48 : BitVec 32 := Scalar.select v47 c3_i32_32 v46
  let v50 : BitVec 32 := Scalar.select v49 c12_i32_34 v48
  let v52 : BitVec 32 := Scalar.select v51 c5_i32_36 v50
  let v54 : BitVec 32 := Scalar.select v53 c14_i32_38 v52
  let v56 : BitVec 32 := Scalar.select v55 c7_i32_40 v54
  let v58 : BitVec 32 := Scalar.select v57 c15_i32_42 v56
  let v60 : BitVec 32 := Scalar.select v59 c9_i32_44 v58
  let v62 : BitVec 32 := Scalar.select v61 c13_i32_46 v60
  let c1_i32_702 : BitVec 32 := 1#32
  let v719 : BitVec 32 := Scalar.muli v62 c1_i32_702
  let v720 : BitVec 32 := Scalar.addi c0_i32_703 v719
  v720.toNat
def k0_dev20 (d0 : Dev nD) : Nat :=
  let c0_i32_713 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_76 : BitVec 32 := 14#32
  let v91 : BitVec 1 := Scalar.cmpi .eq v2 c14_i32_76
  let c10_i32_77 : BitVec 32 := 10#32
  let c13_i32_74 : BitVec 32 := 13#32
  let v89 : BitVec 1 := Scalar.cmpi .eq v2 c13_i32_74
  let c14_i32_75 : BitVec 32 := 14#32
  let c12_i32_72 : BitVec 32 := 12#32
  let v87 : BitVec 1 := Scalar.cmpi .eq v2 c12_i32_72
  let c8_i32_73 : BitVec 32 := 8#32
  let c11_i32_70 : BitVec 32 := 11#32
  let v85 : BitVec 1 := Scalar.cmpi .eq v2 c11_i32_70
  let c15_i32_71 : BitVec 32 := 15#32
  let c10_i32_68 : BitVec 32 := 10#32
  let v83 : BitVec 1 := Scalar.cmpi .eq v2 c10_i32_68
  let c6_i32_69 : BitVec 32 := 6#32
  let c9_i32_66 : BitVec 32 := 9#32
  let v81 : BitVec 1 := Scalar.cmpi .eq v2 c9_i32_66
  let c13_i32_67 : BitVec 32 := 13#32
  let c8_i32_64 : BitVec 32 := 8#32
  let v79 : BitVec 1 := Scalar.cmpi .eq v2 c8_i32_64
  let c4_i32_65 : BitVec 32 := 4#32
  let c7_i32_62 : BitVec 32 := 7#32
  let v77 : BitVec 1 := Scalar.cmpi .eq v2 c7_i32_62
  let c11_i32_63 : BitVec 32 := 11#32
  let c6_i32_60 : BitVec 32 := 6#32
  let v75 : BitVec 1 := Scalar.cmpi .eq v2 c6_i32_60
  let c2_i32_61 : BitVec 32 := 2#32
  let c5_i32_58 : BitVec 32 := 5#32
  let v73 : BitVec 1 := Scalar.cmpi .eq v2 c5_i32_58
  let c9_i32_59 : BitVec 32 := 9#32
  let c4_i32_56 : BitVec 32 := 4#32
  let v71 : BitVec 1 := Scalar.cmpi .eq v2 c4_i32_56
  let c0_i32_57 : BitVec 32 := 0#32
  let c3_i32_54 : BitVec 32 := 3#32
  let v69 : BitVec 1 := Scalar.cmpi .eq v2 c3_i32_54
  let c7_i32_55 : BitVec 32 := 7#32
  let c2_i32_52 : BitVec 32 := 2#32
  let v67 : BitVec 1 := Scalar.cmpi .eq v2 c2_i32_52
  let c3_i32_53 : BitVec 32 := 3#32
  let c1_i32_50 : BitVec 32 := 1#32
  let v65 : BitVec 1 := Scalar.cmpi .eq v2 c1_i32_50
  let c5_i32_51 : BitVec 32 := 5#32
  let c0_i32_47 : BitVec 32 := 0#32
  let v63 : BitVec 1 := Scalar.cmpi .eq v2 c0_i32_47
  let c1_i32_48 : BitVec 32 := 1#32
  let c12_i32_49 : BitVec 32 := 12#32
  let v64 : BitVec 32 := Scalar.select v63 c1_i32_48 c12_i32_49
  let v66 : BitVec 32 := Scalar.select v65 c5_i32_51 v64
  let v68 : BitVec 32 := Scalar.select v67 c3_i32_53 v66
  let v70 : BitVec 32 := Scalar.select v69 c7_i32_55 v68
  let v72 : BitVec 32 := Scalar.select v71 c0_i32_57 v70
  let v74 : BitVec 32 := Scalar.select v73 c9_i32_59 v72
  let v76 : BitVec 32 := Scalar.select v75 c2_i32_61 v74
  let v78 : BitVec 32 := Scalar.select v77 c11_i32_63 v76
  let v80 : BitVec 32 := Scalar.select v79 c4_i32_65 v78
  let v82 : BitVec 32 := Scalar.select v81 c13_i32_67 v80
  let v84 : BitVec 32 := Scalar.select v83 c6_i32_69 v82
  let v86 : BitVec 32 := Scalar.select v85 c15_i32_71 v84
  let v88 : BitVec 32 := Scalar.select v87 c8_i32_73 v86
  let v90 : BitVec 32 := Scalar.select v89 c14_i32_75 v88
  let v92 : BitVec 32 := Scalar.select v91 c10_i32_77 v90
  let c1_i32_712 : BitVec 32 := 1#32
  let v729 : BitVec 32 := Scalar.muli v92 c1_i32_712
  let v730 : BitVec 32 := Scalar.addi c0_i32_713 v729
  v730.toNat
def k0_dev21 (d0 : Dev nD) : Nat :=
  let c0_i32_723 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_107 : BitVec 32 := 14#32
  let v121 : BitVec 1 := Scalar.cmpi .eq v2 c14_i32_107
  let c6_i32_108 : BitVec 32 := 6#32
  let c13_i32_105 : BitVec 32 := 13#32
  let v119 : BitVec 1 := Scalar.cmpi .eq v2 c13_i32_105
  let c10_i32_106 : BitVec 32 := 10#32
  let c12_i32_103 : BitVec 32 := 12#32
  let v117 : BitVec 1 := Scalar.cmpi .eq v2 c12_i32_103
  let c4_i32_104 : BitVec 32 := 4#32
  let c11_i32_101 : BitVec 32 := 11#32
  let v115 : BitVec 1 := Scalar.cmpi .eq v2 c11_i32_101
  let c12_i32_102 : BitVec 32 := 12#32
  let c10_i32_99 : BitVec 32 := 10#32
  let v113 : BitVec 1 := Scalar.cmpi .eq v2 c10_i32_99
  let c2_i32_100 : BitVec 32 := 2#32
  let c9_i32_97 : BitVec 32 := 9#32
  let v111 : BitVec 1 := Scalar.cmpi .eq v2 c9_i32_97
  let c14_i32_98 : BitVec 32 := 14#32
  let c8_i32_95 : BitVec 32 := 8#32
  let v109 : BitVec 1 := Scalar.cmpi .eq v2 c8_i32_95
  let c0_i32_96 : BitVec 32 := 0#32
  let c7_i32_93 : BitVec 32 := 7#32
  let v107 : BitVec 1 := Scalar.cmpi .eq v2 c7_i32_93
  let c15_i32_94 : BitVec 32 := 15#32
  let c6_i32_91 : BitVec 32 := 6#32
  let v105 : BitVec 1 := Scalar.cmpi .eq v2 c6_i32_91
  let c3_i32_92 : BitVec 32 := 3#32
  let c5_i32_89 : BitVec 32 := 5#32
  let v103 : BitVec 1 := Scalar.cmpi .eq v2 c5_i32_89
  let c13_i32_90 : BitVec 32 := 13#32
  let c4_i32_87 : BitVec 32 := 4#32
  let v101 : BitVec 1 := Scalar.cmpi .eq v2 c4_i32_87
  let c1_i32_88 : BitVec 32 := 1#32
  let c3_i32_85 : BitVec 32 := 3#32
  let v99 : BitVec 1 := Scalar.cmpi .eq v2 c3_i32_85
  let c11_i32_86 : BitVec 32 := 11#32
  let c2_i32_83 : BitVec 32 := 2#32
  let v97 : BitVec 1 := Scalar.cmpi .eq v2 c2_i32_83
  let c7_i32_84 : BitVec 32 := 7#32
  let c1_i32_81 : BitVec 32 := 1#32
  let v95 : BitVec 1 := Scalar.cmpi .eq v2 c1_i32_81
  let c9_i32_82 : BitVec 32 := 9#32
  let c0_i32_78 : BitVec 32 := 0#32
  let v93 : BitVec 1 := Scalar.cmpi .eq v2 c0_i32_78
  let c5_i32_79 : BitVec 32 := 5#32
  let c8_i32_80 : BitVec 32 := 8#32
  let v94 : BitVec 32 := Scalar.select v93 c5_i32_79 c8_i32_80
  let v96 : BitVec 32 := Scalar.select v95 c9_i32_82 v94
  let v98 : BitVec 32 := Scalar.select v97 c7_i32_84 v96
  let v100 : BitVec 32 := Scalar.select v99 c11_i32_86 v98
  let v102 : BitVec 32 := Scalar.select v101 c1_i32_88 v100
  let v104 : BitVec 32 := Scalar.select v103 c13_i32_90 v102
  let v106 : BitVec 32 := Scalar.select v105 c3_i32_92 v104
  let v108 : BitVec 32 := Scalar.select v107 c15_i32_94 v106
  let v110 : BitVec 32 := Scalar.select v109 c0_i32_96 v108
  let v112 : BitVec 32 := Scalar.select v111 c14_i32_98 v110
  let v114 : BitVec 32 := Scalar.select v113 c2_i32_100 v112
  let v116 : BitVec 32 := Scalar.select v115 c12_i32_102 v114
  let v118 : BitVec 32 := Scalar.select v117 c4_i32_104 v116
  let v120 : BitVec 32 := Scalar.select v119 c10_i32_106 v118
  let v122 : BitVec 32 := Scalar.select v121 c6_i32_108 v120
  let c1_i32_722 : BitVec 32 := 1#32
  let v739 : BitVec 32 := Scalar.muli v122 c1_i32_722
  let v740 : BitVec 32 := Scalar.addi c0_i32_723 v739
  v740.toNat
def k0_dev22 (d0 : Dev nD) : Nat :=
  let c0_i32_733 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_138 : BitVec 32 := 14#32
  let v151 : BitVec 1 := Scalar.cmpi .eq v2 c14_i32_138
  let c2_i32_139 : BitVec 32 := 2#32
  let c13_i32_136 : BitVec 32 := 13#32
  let v149 : BitVec 1 := Scalar.cmpi .eq v2 c13_i32_136
  let c6_i32_137 : BitVec 32 := 6#32
  let c12_i32_134 : BitVec 32 := 12#32
  let v147 : BitVec 1 := Scalar.cmpi .eq v2 c12_i32_134
  let c0_i32_135 : BitVec 32 := 0#32
  let c11_i32_132 : BitVec 32 := 11#32
  let v145 : BitVec 1 := Scalar.cmpi .eq v2 c11_i32_132
  let c8_i32_133 : BitVec 32 := 8#32
  let c10_i32_130 : BitVec 32 := 10#32
  let v143 : BitVec 1 := Scalar.cmpi .eq v2 c10_i32_130
  let c3_i32_131 : BitVec 32 := 3#32
  let c9_i32_128 : BitVec 32 := 9#32
  let v141 : BitVec 1 := Scalar.cmpi .eq v2 c9_i32_128
  let c10_i32_129 : BitVec 32 := 10#32
  let c8_i32_126 : BitVec 32 := 8#32
  let v139 : BitVec 1 := Scalar.cmpi .eq v2 c8_i32_126
  let c1_i32_127 : BitVec 32 := 1#32
  let c7_i32_124 : BitVec 32 := 7#32
  let v137 : BitVec 1 := Scalar.cmpi .eq v2 c7_i32_124
  let c12_i32_125 : BitVec 32 := 12#32
  let c6_i32_122 : BitVec 32 := 6#32
  let v135 : BitVec 1 := Scalar.cmpi .eq v2 c6_i32_122
  let c7_i32_123 : BitVec 32 := 7#32
  let c5_i32_120 : BitVec 32 := 5#32
  let v133 : BitVec 1 := Scalar.cmpi .eq v2 c5_i32_120
  let c14_i32_121 : BitVec 32 := 14#32
  let c4_i32_118 : BitVec 32 := 4#32
  let v131 : BitVec 1 := Scalar.cmpi .eq v2 c4_i32_118
  let c5_i32_119 : BitVec 32 := 5#32
  let c3_i32_116 : BitVec 32 := 3#32
  let v129 : BitVec 1 := Scalar.cmpi .eq v2 c3_i32_116
  let c15_i32_117 : BitVec 32 := 15#32
  let c2_i32_114 : BitVec 32 := 2#32
  let v127 : BitVec 1 := Scalar.cmpi .eq v2 c2_i32_114
  let c11_i32_115 : BitVec 32 := 11#32
  let c1_i32_112 : BitVec 32 := 1#32
  let v125 : BitVec 1 := Scalar.cmpi .eq v2 c1_i32_112
  let c13_i32_113 : BitVec 32 := 13#32
  let c0_i32_109 : BitVec 32 := 0#32
  let v123 : BitVec 1 := Scalar.cmpi .eq v2 c0_i32_109
  let c9_i32_110 : BitVec 32 := 9#32
  let c4_i32_111 : BitVec 32 := 4#32
  let v124 : BitVec 32 := Scalar.select v123 c9_i32_110 c4_i32_111
  let v126 : BitVec 32 := Scalar.select v125 c13_i32_113 v124
  let v128 : BitVec 32 := Scalar.select v127 c11_i32_115 v126
  let v130 : BitVec 32 := Scalar.select v129 c15_i32_117 v128
  let v132 : BitVec 32 := Scalar.select v131 c5_i32_119 v130
  let v134 : BitVec 32 := Scalar.select v133 c14_i32_121 v132
  let v136 : BitVec 32 := Scalar.select v135 c7_i32_123 v134
  let v138 : BitVec 32 := Scalar.select v137 c12_i32_125 v136
  let v140 : BitVec 32 := Scalar.select v139 c1_i32_127 v138
  let v142 : BitVec 32 := Scalar.select v141 c10_i32_129 v140
  let v144 : BitVec 32 := Scalar.select v143 c3_i32_131 v142
  let v146 : BitVec 32 := Scalar.select v145 c8_i32_133 v144
  let v148 : BitVec 32 := Scalar.select v147 c0_i32_135 v146
  let v150 : BitVec 32 := Scalar.select v149 c6_i32_137 v148
  let v152 : BitVec 32 := Scalar.select v151 c2_i32_139 v150
  let c1_i32_732 : BitVec 32 := 1#32
  let v749 : BitVec 32 := Scalar.muli v152 c1_i32_732
  let v750 : BitVec 32 := Scalar.addi c0_i32_733 v749
  v750.toNat
def k0_dev23 (d0 : Dev nD) : Nat :=
  let c0_i32_743 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_510 : BitVec 32 := 14#32
  let v511 : BitVec 1 := Scalar.cmpi .eq v2 c14_i32_510
  let c13_i32_511 : BitVec 32 := 13#32
  let c13_i32_508 : BitVec 32 := 13#32
  let v509 : BitVec 1 := Scalar.cmpi .eq v2 c13_i32_508
  let c9_i32_509 : BitVec 32 := 9#32
  let c12_i32_506 : BitVec 32 := 12#32
  let v507 : BitVec 1 := Scalar.cmpi .eq v2 c12_i32_506
  let c15_i32_507 : BitVec 32 := 15#32
  let c11_i32_504 : BitVec 32 := 11#32
  let v505 : BitVec 1 := Scalar.cmpi .eq v2 c11_i32_504
  let c7_i32_505 : BitVec 32 := 7#32
  let c10_i32_502 : BitVec 32 := 10#32
  let v503 : BitVec 1 := Scalar.cmpi .eq v2 c10_i32_502
  let c14_i32_503 : BitVec 32 := 14#32
  let c9_i32_500 : BitVec 32 := 9#32
  let v501 : BitVec 1 := Scalar.cmpi .eq v2 c9_i32_500
  let c5_i32_501 : BitVec 32 := 5#32
  let c8_i32_498 : BitVec 32 := 8#32
  let v499 : BitVec 1 := Scalar.cmpi .eq v2 c8_i32_498
  let c12_i32_499 : BitVec 32 := 12#32
  let c7_i32_496 : BitVec 32 := 7#32
  let v497 : BitVec 1 := Scalar.cmpi .eq v2 c7_i32_496
  let c3_i32_497 : BitVec 32 := 3#32
  let c6_i32_494 : BitVec 32 := 6#32
  let v495 : BitVec 1 := Scalar.cmpi .eq v2 c6_i32_494
  let c10_i32_495 : BitVec 32 := 10#32
  let c5_i32_492 : BitVec 32 := 5#32
  let v493 : BitVec 1 := Scalar.cmpi .eq v2 c5_i32_492
  let c1_i32_493 : BitVec 32 := 1#32
  let c4_i32_490 : BitVec 32 := 4#32
  let v491 : BitVec 1 := Scalar.cmpi .eq v2 c4_i32_490
  let c8_i32_491 : BitVec 32 := 8#32
  let c3_i32_488 : BitVec 32 := 3#32
  let v489 : BitVec 1 := Scalar.cmpi .eq v2 c3_i32_488
  let c2_i32_489 : BitVec 32 := 2#32
  let c2_i32_486 : BitVec 32 := 2#32
  let v487 : BitVec 1 := Scalar.cmpi .eq v2 c2_i32_486
  let c6_i32_487 : BitVec 32 := 6#32
  let c1_i32_484 : BitVec 32 := 1#32
  let v485 : BitVec 1 := Scalar.cmpi .eq v2 c1_i32_484
  let c0_i32_485 : BitVec 32 := 0#32
  let c0_i32_481 : BitVec 32 := 0#32
  let v483 : BitVec 1 := Scalar.cmpi .eq v2 c0_i32_481
  let c4_i32_482 : BitVec 32 := 4#32
  let c11_i32_483 : BitVec 32 := 11#32
  let v484 : BitVec 32 := Scalar.select v483 c4_i32_482 c11_i32_483
  let v486 : BitVec 32 := Scalar.select v485 c0_i32_485 v484
  let v488 : BitVec 32 := Scalar.select v487 c6_i32_487 v486
  let v490 : BitVec 32 := Scalar.select v489 c2_i32_489 v488
  let v492 : BitVec 32 := Scalar.select v491 c8_i32_491 v490
  let v494 : BitVec 32 := Scalar.select v493 c1_i32_493 v492
  let v496 : BitVec 32 := Scalar.select v495 c10_i32_495 v494
  let v498 : BitVec 32 := Scalar.select v497 c3_i32_497 v496
  let v500 : BitVec 32 := Scalar.select v499 c12_i32_499 v498
  let v502 : BitVec 32 := Scalar.select v501 c5_i32_501 v500
  let v504 : BitVec 32 := Scalar.select v503 c14_i32_503 v502
  let v506 : BitVec 32 := Scalar.select v505 c7_i32_505 v504
  let v508 : BitVec 32 := Scalar.select v507 c15_i32_507 v506
  let v510 : BitVec 32 := Scalar.select v509 c9_i32_509 v508
  let v512 : BitVec 32 := Scalar.select v511 c13_i32_511 v510
  let c1_i32_742 : BitVec 32 := 1#32
  let v759 : BitVec 32 := Scalar.muli v512 c1_i32_742
  let v760 : BitVec 32 := Scalar.addi c0_i32_743 v759
  v760.toNat
def k0_dev24 (d0 : Dev nD) : Nat :=
  let c0_i32_753 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_479 : BitVec 32 := 14#32
  let v481 : BitVec 1 := Scalar.cmpi .eq v2 c14_i32_479
  let c9_i32_480 : BitVec 32 := 9#32
  let c13_i32_477 : BitVec 32 := 13#32
  let v479 : BitVec 1 := Scalar.cmpi .eq v2 c13_i32_477
  let c5_i32_478 : BitVec 32 := 5#32
  let c12_i32_475 : BitVec 32 := 12#32
  let v477 : BitVec 1 := Scalar.cmpi .eq v2 c12_i32_475
  let c11_i32_476 : BitVec 32 := 11#32
  let c11_i32_473 : BitVec 32 := 11#32
  let v475 : BitVec 1 := Scalar.cmpi .eq v2 c11_i32_473
  let c3_i32_474 : BitVec 32 := 3#32
  let c10_i32_471 : BitVec 32 := 10#32
  let v473 : BitVec 1 := Scalar.cmpi .eq v2 c10_i32_471
  let c13_i32_472 : BitVec 32 := 13#32
  let c9_i32_469 : BitVec 32 := 9#32
  let v471 : BitVec 1 := Scalar.cmpi .eq v2 c9_i32_469
  let c1_i32_470 : BitVec 32 := 1#32
  let c8_i32_467 : BitVec 32 := 8#32
  let v469 : BitVec 1 := Scalar.cmpi .eq v2 c8_i32_467
  let c15_i32_468 : BitVec 32 := 15#32
  let c7_i32_465 : BitVec 32 := 7#32
  let v467 : BitVec 1 := Scalar.cmpi .eq v2 c7_i32_465
  let c2_i32_466 : BitVec 32 := 2#32
  let c6_i32_463 : BitVec 32 := 6#32
  let v465 : BitVec 1 := Scalar.cmpi .eq v2 c6_i32_463
  let c14_i32_464 : BitVec 32 := 14#32
  let c5_i32_461 : BitVec 32 := 5#32
  let v463 : BitVec 1 := Scalar.cmpi .eq v2 c5_i32_461
  let c0_i32_462 : BitVec 32 := 0#32
  let c4_i32_459 : BitVec 32 := 4#32
  let v461 : BitVec 1 := Scalar.cmpi .eq v2 c4_i32_459
  let c12_i32_460 : BitVec 32 := 12#32
  let c3_i32_457 : BitVec 32 := 3#32
  let v459 : BitVec 1 := Scalar.cmpi .eq v2 c3_i32_457
  let c6_i32_458 : BitVec 32 := 6#32
  let c2_i32_455 : BitVec 32 := 2#32
  let v457 : BitVec 1 := Scalar.cmpi .eq v2 c2_i32_455
  let c10_i32_456 : BitVec 32 := 10#32
  let c1_i32_453 : BitVec 32 := 1#32
  let v455 : BitVec 1 := Scalar.cmpi .eq v2 c1_i32_453
  let c4_i32_454 : BitVec 32 := 4#32
  let c0_i32_450 : BitVec 32 := 0#32
  let v453 : BitVec 1 := Scalar.cmpi .eq v2 c0_i32_450
  let c8_i32_451 : BitVec 32 := 8#32
  let c7_i32_452 : BitVec 32 := 7#32
  let v454 : BitVec 32 := Scalar.select v453 c8_i32_451 c7_i32_452
  let v456 : BitVec 32 := Scalar.select v455 c4_i32_454 v454
  let v458 : BitVec 32 := Scalar.select v457 c10_i32_456 v456
  let v460 : BitVec 32 := Scalar.select v459 c6_i32_458 v458
  let v462 : BitVec 32 := Scalar.select v461 c12_i32_460 v460
  let v464 : BitVec 32 := Scalar.select v463 c0_i32_462 v462
  let v466 : BitVec 32 := Scalar.select v465 c14_i32_464 v464
  let v468 : BitVec 32 := Scalar.select v467 c2_i32_466 v466
  let v470 : BitVec 32 := Scalar.select v469 c15_i32_468 v468
  let v472 : BitVec 32 := Scalar.select v471 c1_i32_470 v470
  let v474 : BitVec 32 := Scalar.select v473 c13_i32_472 v472
  let v476 : BitVec 32 := Scalar.select v475 c3_i32_474 v474
  let v478 : BitVec 32 := Scalar.select v477 c11_i32_476 v476
  let v480 : BitVec 32 := Scalar.select v479 c5_i32_478 v478
  let v482 : BitVec 32 := Scalar.select v481 c9_i32_480 v480
  let c1_i32_752 : BitVec 32 := 1#32
  let v769 : BitVec 32 := Scalar.muli v482 c1_i32_752
  let v770 : BitVec 32 := Scalar.addi c0_i32_753 v769
  v770.toNat
def k0_dev25 (d0 : Dev nD) : Nat :=
  let c0_i32_763 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_448 : BitVec 32 := 14#32
  let v451 : BitVec 1 := Scalar.cmpi .eq v2 c14_i32_448
  let c5_i32_449 : BitVec 32 := 5#32
  let c13_i32_446 : BitVec 32 := 13#32
  let v449 : BitVec 1 := Scalar.cmpi .eq v2 c13_i32_446
  let c1_i32_447 : BitVec 32 := 1#32
  let c12_i32_444 : BitVec 32 := 12#32
  let v447 : BitVec 1 := Scalar.cmpi .eq v2 c12_i32_444
  let c7_i32_445 : BitVec 32 := 7#32
  let c11_i32_442 : BitVec 32 := 11#32
  let v445 : BitVec 1 := Scalar.cmpi .eq v2 c11_i32_442
  let c2_i32_443 : BitVec 32 := 2#32
  let c10_i32_440 : BitVec 32 := 10#32
  let v443 : BitVec 1 := Scalar.cmpi .eq v2 c10_i32_440
  let c9_i32_441 : BitVec 32 := 9#32
  let c9_i32_438 : BitVec 32 := 9#32
  let v441 : BitVec 1 := Scalar.cmpi .eq v2 c9_i32_438
  let c0_i32_439 : BitVec 32 := 0#32
  let c8_i32_436 : BitVec 32 := 8#32
  let v439 : BitVec 1 := Scalar.cmpi .eq v2 c8_i32_436
  let c11_i32_437 : BitVec 32 := 11#32
  let c7_i32_434 : BitVec 32 := 7#32
  let v437 : BitVec 1 := Scalar.cmpi .eq v2 c7_i32_434
  let c6_i32_435 : BitVec 32 := 6#32
  let c6_i32_432 : BitVec 32 := 6#32
  let v435 : BitVec 1 := Scalar.cmpi .eq v2 c6_i32_432
  let c13_i32_433 : BitVec 32 := 13#32
  let c5_i32_430 : BitVec 32 := 5#32
  let v433 : BitVec 1 := Scalar.cmpi .eq v2 c5_i32_430
  let c4_i32_431 : BitVec 32 := 4#32
  let c4_i32_428 : BitVec 32 := 4#32
  let v431 : BitVec 1 := Scalar.cmpi .eq v2 c4_i32_428
  let c15_i32_429 : BitVec 32 := 15#32
  let c3_i32_426 : BitVec 32 := 3#32
  let v429 : BitVec 1 := Scalar.cmpi .eq v2 c3_i32_426
  let c10_i32_427 : BitVec 32 := 10#32
  let c2_i32_424 : BitVec 32 := 2#32
  let v427 : BitVec 1 := Scalar.cmpi .eq v2 c2_i32_424
  let c14_i32_425 : BitVec 32 := 14#32
  let c1_i32_422 : BitVec 32 := 1#32
  let v425 : BitVec 1 := Scalar.cmpi .eq v2 c1_i32_422
  let c8_i32_423 : BitVec 32 := 8#32
  let c0_i32_419 : BitVec 32 := 0#32
  let v423 : BitVec 1 := Scalar.cmpi .eq v2 c0_i32_419
  let c12_i32_420 : BitVec 32 := 12#32
  let c3_i32_421 : BitVec 32 := 3#32
  let v424 : BitVec 32 := Scalar.select v423 c12_i32_420 c3_i32_421
  let v426 : BitVec 32 := Scalar.select v425 c8_i32_423 v424
  let v428 : BitVec 32 := Scalar.select v427 c14_i32_425 v426
  let v430 : BitVec 32 := Scalar.select v429 c10_i32_427 v428
  let v432 : BitVec 32 := Scalar.select v431 c15_i32_429 v430
  let v434 : BitVec 32 := Scalar.select v433 c4_i32_431 v432
  let v436 : BitVec 32 := Scalar.select v435 c13_i32_433 v434
  let v438 : BitVec 32 := Scalar.select v437 c6_i32_435 v436
  let v440 : BitVec 32 := Scalar.select v439 c11_i32_437 v438
  let v442 : BitVec 32 := Scalar.select v441 c0_i32_439 v440
  let v444 : BitVec 32 := Scalar.select v443 c9_i32_441 v442
  let v446 : BitVec 32 := Scalar.select v445 c2_i32_443 v444
  let v448 : BitVec 32 := Scalar.select v447 c7_i32_445 v446
  let v450 : BitVec 32 := Scalar.select v449 c1_i32_447 v448
  let v452 : BitVec 32 := Scalar.select v451 c5_i32_449 v450
  let c1_i32_762 : BitVec 32 := 1#32
  let v779 : BitVec 32 := Scalar.muli v452 c1_i32_762
  let v780 : BitVec 32 := Scalar.addi c0_i32_763 v779
  v780.toNat
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_768 : BitVec 32 := 256#32
  let v789 : BitVec 32 := Scalar.muli v2 c256_i32_768
  let v790 : Index := Scalar.indexCast v789
  let c0_769 : Index := 0#32
  ![v790.toNat, 0]
def k0_dev26 (d0 : Dev nD) : Nat :=
  let c0_i32_809 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_14 : BitVec 32 := 14#32
  let v31 : BitVec 1 := Scalar.cmpi .eq v2 c14_i32_14
  let c10_i32_15 : BitVec 32 := 10#32
  let c13_i32_13 : BitVec 32 := 13#32
  let v29 : BitVec 1 := Scalar.cmpi .eq v2 c13_i32_13
  let c14_i32 : BitVec 32 := 14#32
  let c12_i32_11 : BitVec 32 := 12#32
  let v27 : BitVec 1 := Scalar.cmpi .eq v2 c12_i32_11
  let c8_i32_12 : BitVec 32 := 8#32
  let c11_i32_10 : BitVec 32 := 11#32
  let v25 : BitVec 1 := Scalar.cmpi .eq v2 c11_i32_10
  let c15_i32 : BitVec 32 := 15#32
  let c10_i32 : BitVec 32 := 10#32
  let v23 : BitVec 1 := Scalar.cmpi .eq v2 c10_i32
  let c6_i32_9 : BitVec 32 := 6#32
  let c9_i32_8 : BitVec 32 := 9#32
  let v21 : BitVec 1 := Scalar.cmpi .eq v2 c9_i32_8
  let c13_i32 : BitVec 32 := 13#32
  let c8_i32 : BitVec 32 := 8#32
  let v19 : BitVec 1 := Scalar.cmpi .eq v2 c8_i32
  let c4_i32_7 : BitVec 32 := 4#32
  let c7_i32_6 : BitVec 32 := 7#32
  let v17 : BitVec 1 := Scalar.cmpi .eq v2 c7_i32_6
  let c11_i32 : BitVec 32 := 11#32
  let c6_i32 : BitVec 32 := 6#32
  let v15 : BitVec 1 := Scalar.cmpi .eq v2 c6_i32
  let c2_i32_5 : BitVec 32 := 2#32
  let c5_i32_4 : BitVec 32 := 5#32
  let v13 : BitVec 1 := Scalar.cmpi .eq v2 c5_i32_4
  let c9_i32 : BitVec 32 := 9#32
  let c4_i32 : BitVec 32 := 4#32
  let v11 : BitVec 1 := Scalar.cmpi .eq v2 c4_i32
  let c0_i32_3 : BitVec 32 := 0#32
  let c3_i32_2 : BitVec 32 := 3#32
  let v9 : BitVec 1 := Scalar.cmpi .eq v2 c3_i32_2
  let c7_i32 : BitVec 32 := 7#32
  let c2_i32 : BitVec 32 := 2#32
  let v7 : BitVec 1 := Scalar.cmpi .eq v2 c2_i32
  let c3_i32 : BitVec 32 := 3#32
  let c1_i32_1 : BitVec 32 := 1#32
  let v5 : BitVec 1 := Scalar.cmpi .eq v2 c1_i32_1
  let c5_i32 : BitVec 32 := 5#32
  let c0_i32 : BitVec 32 := 0#32
  let v3 : BitVec 1 := Scalar.cmpi .eq v2 c0_i32
  let c1_i32_0 : BitVec 32 := 1#32
  let c12_i32 : BitVec 32 := 12#32
  let v4 : BitVec 32 := Scalar.select v3 c1_i32_0 c12_i32
  let v6 : BitVec 32 := Scalar.select v5 c5_i32 v4
  let v8 : BitVec 32 := Scalar.select v7 c3_i32 v6
  let v10 : BitVec 32 := Scalar.select v9 c7_i32 v8
  let v12 : BitVec 32 := Scalar.select v11 c0_i32_3 v10
  let v14 : BitVec 32 := Scalar.select v13 c9_i32 v12
  let v16 : BitVec 32 := Scalar.select v15 c2_i32_5 v14
  let v18 : BitVec 32 := Scalar.select v17 c11_i32 v16
  let v20 : BitVec 32 := Scalar.select v19 c4_i32_7 v18
  let v22 : BitVec 32 := Scalar.select v21 c13_i32 v20
  let v24 : BitVec 32 := Scalar.select v23 c6_i32_9 v22
  let v26 : BitVec 32 := Scalar.select v25 c15_i32 v24
  let v28 : BitVec 32 := Scalar.select v27 c8_i32_12 v26
  let v30 : BitVec 32 := Scalar.select v29 c14_i32 v28
  let v32 : BitVec 32 := Scalar.select v31 c10_i32_15 v30
  let c1_i32_808 : BitVec 32 := 1#32
  let v817 : BitVec 32 := Scalar.muli v32 c1_i32_808
  let v818 : BitVec 32 := Scalar.addi c0_i32_809 v817
  v818.toNat
def k0_dev27 (d0 : Dev nD) : Nat :=
  let c0_i32_823 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_14 : BitVec 32 := 14#32
  let v31 : BitVec 1 := Scalar.cmpi .eq v2 c14_i32_14
  let c10_i32_15 : BitVec 32 := 10#32
  let c13_i32_13 : BitVec 32 := 13#32
  let v29 : BitVec 1 := Scalar.cmpi .eq v2 c13_i32_13
  let c14_i32 : BitVec 32 := 14#32
  let c12_i32_11 : BitVec 32 := 12#32
  let v27 : BitVec 1 := Scalar.cmpi .eq v2 c12_i32_11
  let c8_i32_12 : BitVec 32 := 8#32
  let c11_i32_10 : BitVec 32 := 11#32
  let v25 : BitVec 1 := Scalar.cmpi .eq v2 c11_i32_10
  let c15_i32 : BitVec 32 := 15#32
  let c10_i32 : BitVec 32 := 10#32
  let v23 : BitVec 1 := Scalar.cmpi .eq v2 c10_i32
  let c6_i32_9 : BitVec 32 := 6#32
  let c9_i32_8 : BitVec 32 := 9#32
  let v21 : BitVec 1 := Scalar.cmpi .eq v2 c9_i32_8
  let c13_i32 : BitVec 32 := 13#32
  let c8_i32 : BitVec 32 := 8#32
  let v19 : BitVec 1 := Scalar.cmpi .eq v2 c8_i32
  let c4_i32_7 : BitVec 32 := 4#32
  let c7_i32_6 : BitVec 32 := 7#32
  let v17 : BitVec 1 := Scalar.cmpi .eq v2 c7_i32_6
  let c11_i32 : BitVec 32 := 11#32
  let c6_i32 : BitVec 32 := 6#32
  let v15 : BitVec 1 := Scalar.cmpi .eq v2 c6_i32
  let c2_i32_5 : BitVec 32 := 2#32
  let c5_i32_4 : BitVec 32 := 5#32
  let v13 : BitVec 1 := Scalar.cmpi .eq v2 c5_i32_4
  let c9_i32 : BitVec 32 := 9#32
  let c4_i32 : BitVec 32 := 4#32
  let v11 : BitVec 1 := Scalar.cmpi .eq v2 c4_i32
  let c0_i32_3 : BitVec 32 := 0#32
  let c3_i32_2 : BitVec 32 := 3#32
  let v9 : BitVec 1 := Scalar.cmpi .eq v2 c3_i32_2
  let c7_i32 : BitVec 32 := 7#32
  let c2_i32 : BitVec 32 := 2#32
  let v7 : BitVec 1 := Scalar.cmpi .eq v2 c2_i32
  let c3_i32 : BitVec 32 := 3#32
  let c1_i32_1 : BitVec 32 := 1#32
  let v5 : BitVec 1 := Scalar.cmpi .eq v2 c1_i32_1
  let c5_i32 : BitVec 32 := 5#32
  let c0_i32 : BitVec 32 := 0#32
  let v3 : BitVec 1 := Scalar.cmpi .eq v2 c0_i32
  let c1_i32_0 : BitVec 32 := 1#32
  let c12_i32 : BitVec 32 := 12#32
  let v4 : BitVec 32 := Scalar.select v3 c1_i32_0 c12_i32
  let v6 : BitVec 32 := Scalar.select v5 c5_i32 v4
  let v8 : BitVec 32 := Scalar.select v7 c3_i32 v6
  let v10 : BitVec 32 := Scalar.select v9 c7_i32 v8
  let v12 : BitVec 32 := Scalar.select v11 c0_i32_3 v10
  let v14 : BitVec 32 := Scalar.select v13 c9_i32 v12
  let v16 : BitVec 32 := Scalar.select v15 c2_i32_5 v14
  let v18 : BitVec 32 := Scalar.select v17 c11_i32 v16
  let v20 : BitVec 32 := Scalar.select v19 c4_i32_7 v18
  let v22 : BitVec 32 := Scalar.select v21 c13_i32 v20
  let v24 : BitVec 32 := Scalar.select v23 c6_i32_9 v22
  let v26 : BitVec 32 := Scalar.select v25 c15_i32 v24
  let v28 : BitVec 32 := Scalar.select v27 c8_i32_12 v26
  let v30 : BitVec 32 := Scalar.select v29 c14_i32 v28
  let v32 : BitVec 32 := Scalar.select v31 c10_i32_15 v30
  let c1_i32_822 : BitVec 32 := 1#32
  let v827 : BitVec 32 := Scalar.muli v32 c1_i32_822
  let v828 : BitVec 32 := Scalar.addi c0_i32_823 v827
  v828.toNat
def k0_dev28 (d0 : Dev nD) : Nat :=
  let c0_i32_863 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_45 : BitVec 32 := 14#32
  let v61 : BitVec 1 := Scalar.cmpi .eq v2 c14_i32_45
  let c13_i32_46 : BitVec 32 := 13#32
  let c13_i32_43 : BitVec 32 := 13#32
  let v59 : BitVec 1 := Scalar.cmpi .eq v2 c13_i32_43
  let c9_i32_44 : BitVec 32 := 9#32
  let c12_i32_41 : BitVec 32 := 12#32
  let v57 : BitVec 1 := Scalar.cmpi .eq v2 c12_i32_41
  let c15_i32_42 : BitVec 32 := 15#32
  let c11_i32_39 : BitVec 32 := 11#32
  let v55 : BitVec 1 := Scalar.cmpi .eq v2 c11_i32_39
  let c7_i32_40 : BitVec 32 := 7#32
  let c10_i32_37 : BitVec 32 := 10#32
  let v53 : BitVec 1 := Scalar.cmpi .eq v2 c10_i32_37
  let c14_i32_38 : BitVec 32 := 14#32
  let c9_i32_35 : BitVec 32 := 9#32
  let v51 : BitVec 1 := Scalar.cmpi .eq v2 c9_i32_35
  let c5_i32_36 : BitVec 32 := 5#32
  let c8_i32_33 : BitVec 32 := 8#32
  let v49 : BitVec 1 := Scalar.cmpi .eq v2 c8_i32_33
  let c12_i32_34 : BitVec 32 := 12#32
  let c7_i32_31 : BitVec 32 := 7#32
  let v47 : BitVec 1 := Scalar.cmpi .eq v2 c7_i32_31
  let c3_i32_32 : BitVec 32 := 3#32
  let c6_i32_29 : BitVec 32 := 6#32
  let v45 : BitVec 1 := Scalar.cmpi .eq v2 c6_i32_29
  let c10_i32_30 : BitVec 32 := 10#32
  let c5_i32_27 : BitVec 32 := 5#32
  let v43 : BitVec 1 := Scalar.cmpi .eq v2 c5_i32_27
  let c1_i32_28 : BitVec 32 := 1#32
  let c4_i32_25 : BitVec 32 := 4#32
  let v41 : BitVec 1 := Scalar.cmpi .eq v2 c4_i32_25
  let c8_i32_26 : BitVec 32 := 8#32
  let c3_i32_23 : BitVec 32 := 3#32
  let v39 : BitVec 1 := Scalar.cmpi .eq v2 c3_i32_23
  let c2_i32_24 : BitVec 32 := 2#32
  let c2_i32_21 : BitVec 32 := 2#32
  let v37 : BitVec 1 := Scalar.cmpi .eq v2 c2_i32_21
  let c6_i32_22 : BitVec 32 := 6#32
  let c1_i32_19 : BitVec 32 := 1#32
  let v35 : BitVec 1 := Scalar.cmpi .eq v2 c1_i32_19
  let c0_i32_20 : BitVec 32 := 0#32
  let c0_i32_16 : BitVec 32 := 0#32
  let v33 : BitVec 1 := Scalar.cmpi .eq v2 c0_i32_16
  let c4_i32_17 : BitVec 32 := 4#32
  let c11_i32_18 : BitVec 32 := 11#32
  let v34 : BitVec 32 := Scalar.select v33 c4_i32_17 c11_i32_18
  let v36 : BitVec 32 := Scalar.select v35 c0_i32_20 v34
  let v38 : BitVec 32 := Scalar.select v37 c6_i32_22 v36
  let v40 : BitVec 32 := Scalar.select v39 c2_i32_24 v38
  let v42 : BitVec 32 := Scalar.select v41 c8_i32_26 v40
  let v44 : BitVec 32 := Scalar.select v43 c1_i32_28 v42
  let v46 : BitVec 32 := Scalar.select v45 c10_i32_30 v44
  let v48 : BitVec 32 := Scalar.select v47 c3_i32_32 v46
  let v50 : BitVec 32 := Scalar.select v49 c12_i32_34 v48
  let v52 : BitVec 32 := Scalar.select v51 c5_i32_36 v50
  let v54 : BitVec 32 := Scalar.select v53 c14_i32_38 v52
  let v56 : BitVec 32 := Scalar.select v55 c7_i32_40 v54
  let v58 : BitVec 32 := Scalar.select v57 c15_i32_42 v56
  let v60 : BitVec 32 := Scalar.select v59 c9_i32_44 v58
  let v62 : BitVec 32 := Scalar.select v61 c13_i32_46 v60
  let c1_i32_862 : BitVec 32 := 1#32
  let v853 : BitVec 32 := Scalar.muli v62 c1_i32_862
  let v854 : BitVec 32 := Scalar.addi c0_i32_863 v853
  v854.toNat
def k0_dev29 (d0 : Dev nD) : Nat :=
  let c0_i32_877 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_45 : BitVec 32 := 14#32
  let v61 : BitVec 1 := Scalar.cmpi .eq v2 c14_i32_45
  let c13_i32_46 : BitVec 32 := 13#32
  let c13_i32_43 : BitVec 32 := 13#32
  let v59 : BitVec 1 := Scalar.cmpi .eq v2 c13_i32_43
  let c9_i32_44 : BitVec 32 := 9#32
  let c12_i32_41 : BitVec 32 := 12#32
  let v57 : BitVec 1 := Scalar.cmpi .eq v2 c12_i32_41
  let c15_i32_42 : BitVec 32 := 15#32
  let c11_i32_39 : BitVec 32 := 11#32
  let v55 : BitVec 1 := Scalar.cmpi .eq v2 c11_i32_39
  let c7_i32_40 : BitVec 32 := 7#32
  let c10_i32_37 : BitVec 32 := 10#32
  let v53 : BitVec 1 := Scalar.cmpi .eq v2 c10_i32_37
  let c14_i32_38 : BitVec 32 := 14#32
  let c9_i32_35 : BitVec 32 := 9#32
  let v51 : BitVec 1 := Scalar.cmpi .eq v2 c9_i32_35
  let c5_i32_36 : BitVec 32 := 5#32
  let c8_i32_33 : BitVec 32 := 8#32
  let v49 : BitVec 1 := Scalar.cmpi .eq v2 c8_i32_33
  let c12_i32_34 : BitVec 32 := 12#32
  let c7_i32_31 : BitVec 32 := 7#32
  let v47 : BitVec 1 := Scalar.cmpi .eq v2 c7_i32_31
  let c3_i32_32 : BitVec 32 := 3#32
  let c6_i32_29 : BitVec 32 := 6#32
  let v45 : BitVec 1 := Scalar.cmpi .eq v2 c6_i32_29
  let c10_i32_30 : BitVec 32 := 10#32
  let c5_i32_27 : BitVec 32 := 5#32
  let v43 : BitVec 1 := Scalar.cmpi .eq v2 c5_i32_27
  let c1_i32_28 : BitVec 32 := 1#32
  let c4_i32_25 : BitVec 32 := 4#32
  let v41 : BitVec 1 := Scalar.cmpi .eq v2 c4_i32_25
  let c8_i32_26 : BitVec 32 := 8#32
  let c3_i32_23 : BitVec 32 := 3#32
  let v39 : BitVec 1 := Scalar.cmpi .eq v2 c3_i32_23
  let c2_i32_24 : BitVec 32 := 2#32
  let c2_i32_21 : BitVec 32 := 2#32
  let v37 : BitVec 1 := Scalar.cmpi .eq v2 c2_i32_21
  let c6_i32_22 : BitVec 32 := 6#32
  let c1_i32_19 : BitVec 32 := 1#32
  let v35 : BitVec 1 := Scalar.cmpi .eq v2 c1_i32_19
  let c0_i32_20 : BitVec 32 := 0#32
  let c0_i32_16 : BitVec 32 := 0#32
  let v33 : BitVec 1 := Scalar.cmpi .eq v2 c0_i32_16
  let c4_i32_17 : BitVec 32 := 4#32
  let c11_i32_18 : BitVec 32 := 11#32
  let v34 : BitVec 32 := Scalar.select v33 c4_i32_17 c11_i32_18
  let v36 : BitVec 32 := Scalar.select v35 c0_i32_20 v34
  let v38 : BitVec 32 := Scalar.select v37 c6_i32_22 v36
  let v40 : BitVec 32 := Scalar.select v39 c2_i32_24 v38
  let v42 : BitVec 32 := Scalar.select v41 c8_i32_26 v40
  let v44 : BitVec 32 := Scalar.select v43 c1_i32_28 v42
  let v46 : BitVec 32 := Scalar.select v45 c10_i32_30 v44
  let v48 : BitVec 32 := Scalar.select v47 c3_i32_32 v46
  let v50 : BitVec 32 := Scalar.select v49 c12_i32_34 v48
  let v52 : BitVec 32 := Scalar.select v51 c5_i32_36 v50
  let v54 : BitVec 32 := Scalar.select v53 c14_i32_38 v52
  let v56 : BitVec 32 := Scalar.select v55 c7_i32_40 v54
  let v58 : BitVec 32 := Scalar.select v57 c15_i32_42 v56
  let v60 : BitVec 32 := Scalar.select v59 c9_i32_44 v58
  let v62 : BitVec 32 := Scalar.select v61 c13_i32_46 v60
  let c1_i32_876 : BitVec 32 := 1#32
  let v863 : BitVec 32 := Scalar.muli v62 c1_i32_876
  let v864 : BitVec 32 := Scalar.addi c0_i32_877 v863
  v864.toNat
def k0_dev30 (d0 : Dev nD) : Nat :=
  let c0_i32_887 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_169 : BitVec 32 := 14#32
  let v181 : BitVec 1 := Scalar.cmpi .eq v2 c14_i32_169
  let c3_i32_170 : BitVec 32 := 3#32
  let c13_i32_167 : BitVec 32 := 13#32
  let v179 : BitVec 1 := Scalar.cmpi .eq v2 c13_i32_167
  let c2_i32_168 : BitVec 32 := 2#32
  let c12_i32_165 : BitVec 32 := 12#32
  let v177 : BitVec 1 := Scalar.cmpi .eq v2 c12_i32_165
  let c1_i32_166 : BitVec 32 := 1#32
  let c11_i32_163 : BitVec 32 := 11#32
  let v175 : BitVec 1 := Scalar.cmpi .eq v2 c11_i32_163
  let c4_i32_164 : BitVec 32 := 4#32
  let c10_i32_161 : BitVec 32 := 10#32
  let v173 : BitVec 1 := Scalar.cmpi .eq v2 c10_i32_161
  let c7_i32_162 : BitVec 32 := 7#32
  let c9_i32_159 : BitVec 32 := 9#32
  let v171 : BitVec 1 := Scalar.cmpi .eq v2 c9_i32_159
  let c6_i32_160 : BitVec 32 := 6#32
  let c8_i32_157 : BitVec 32 := 8#32
  let v169 : BitVec 1 := Scalar.cmpi .eq v2 c8_i32_157
  let c5_i32_158 : BitVec 32 := 5#32
  let c7_i32_155 : BitVec 32 := 7#32
  let v167 : BitVec 1 := Scalar.cmpi .eq v2 c7_i32_155
  let c8_i32_156 : BitVec 32 := 8#32
  let c6_i32_153 : BitVec 32 := 6#32
  let v165 : BitVec 1 := Scalar.cmpi .eq v2 c6_i32_153
  let c11_i32_154 : BitVec 32 := 11#32
  let c5_i32_151 : BitVec 32 := 5#32
  let v163 : BitVec 1 := Scalar.cmpi .eq v2 c5_i32_151
  let c10_i32_152 : BitVec 32 := 10#32
  let c4_i32_149 : BitVec 32 := 4#32
  let v161 : BitVec 1 := Scalar.cmpi .eq v2 c4_i32_149
  let c9_i32_150 : BitVec 32 := 9#32
  let c3_i32_147 : BitVec 32 := 3#32
  let v159 : BitVec 1 := Scalar.cmpi .eq v2 c3_i32_147
  let c12_i32_148 : BitVec 32 := 12#32
  let c2_i32_145 : BitVec 32 := 2#32
  let v157 : BitVec 1 := Scalar.cmpi .eq v2 c2_i32_145
  let c15_i32_146 : BitVec 32 := 15#32
  let c1_i32_143 : BitVec 32 := 1#32
  let v155 : BitVec 1 := Scalar.cmpi .eq v2 c1_i32_143
  let c14_i32_144 : BitVec 32 := 14#32
  let c0_i32_140 : BitVec 32 := 0#32
  let v153 : BitVec 1 := Scalar.cmpi .eq v2 c0_i32_140
  let c13_i32_141 : BitVec 32 := 13#32
  let c0_i32_142 : BitVec 32 := 0#32
  let v154 : BitVec 32 := Scalar.select v153 c13_i32_141 c0_i32_142
  let v156 : BitVec 32 := Scalar.select v155 c14_i32_144 v154
  let v158 : BitVec 32 := Scalar.select v157 c15_i32_146 v156
  let v160 : BitVec 32 := Scalar.select v159 c12_i32_148 v158
  let v162 : BitVec 32 := Scalar.select v161 c9_i32_150 v160
  let v164 : BitVec 32 := Scalar.select v163 c10_i32_152 v162
  let v166 : BitVec 32 := Scalar.select v165 c11_i32_154 v164
  let v168 : BitVec 32 := Scalar.select v167 c8_i32_156 v166
  let v170 : BitVec 32 := Scalar.select v169 c5_i32_158 v168
  let v172 : BitVec 32 := Scalar.select v171 c6_i32_160 v170
  let v174 : BitVec 32 := Scalar.select v173 c7_i32_162 v172
  let v176 : BitVec 32 := Scalar.select v175 c4_i32_164 v174
  let v178 : BitVec 32 := Scalar.select v177 c1_i32_166 v176
  let v180 : BitVec 32 := Scalar.select v179 c2_i32_168 v178
  let v182 : BitVec 32 := Scalar.select v181 c3_i32_170 v180
  let c1_i32_886 : BitVec 32 := 1#32
  let v873 : BitVec 32 := Scalar.muli v182 c1_i32_886
  let v874 : BitVec 32 := Scalar.addi c0_i32_887 v873
  v874.toNat
def k0_dev31 (d0 : Dev nD) : Nat :=
  let c0_i32_897 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_200 : BitVec 32 := 14#32
  let v211 : BitVec 1 := Scalar.cmpi .eq v2 c14_i32_200
  let c7_i32_201 : BitVec 32 := 7#32
  let c13_i32_198 : BitVec 32 := 13#32
  let v209 : BitVec 1 := Scalar.cmpi .eq v2 c13_i32_198
  let c3_i32_199 : BitVec 32 := 3#32
  let c12_i32_196 : BitVec 32 := 12#32
  let v207 : BitVec 1 := Scalar.cmpi .eq v2 c12_i32_196
  let c5_i32_197 : BitVec 32 := 5#32
  let c11_i32_194 : BitVec 32 := 11#32
  let v205 : BitVec 1 := Scalar.cmpi .eq v2 c11_i32_194
  let c0_i32_195 : BitVec 32 := 0#32
  let c10_i32_192 : BitVec 32 := 10#32
  let v203 : BitVec 1 := Scalar.cmpi .eq v2 c10_i32_192
  let c11_i32_193 : BitVec 32 := 11#32
  let c9_i32_190 : BitVec 32 := 9#32
  let v201 : BitVec 1 := Scalar.cmpi .eq v2 c9_i32_190
  let c2_i32_191 : BitVec 32 := 2#32
  let c8_i32_188 : BitVec 32 := 8#32
  let v199 : BitVec 1 := Scalar.cmpi .eq v2 c8_i32_188
  let c9_i32_189 : BitVec 32 := 9#32
  let c7_i32_186 : BitVec 32 := 7#32
  let v197 : BitVec 1 := Scalar.cmpi .eq v2 c7_i32_186
  let c4_i32_187 : BitVec 32 := 4#32
  let c6_i32_184 : BitVec 32 := 6#32
  let v195 : BitVec 1 := Scalar.cmpi .eq v2 c6_i32_184
  let c15_i32_185 : BitVec 32 := 15#32
  let c5_i32_182 : BitVec 32 := 5#32
  let v193 : BitVec 1 := Scalar.cmpi .eq v2 c5_i32_182
  let c6_i32_183 : BitVec 32 := 6#32
  let c4_i32_180 : BitVec 32 := 4#32
  let v191 : BitVec 1 := Scalar.cmpi .eq v2 c4_i32_180
  let c13_i32_181 : BitVec 32 := 13#32
  let c3_i32_178 : BitVec 32 := 3#32
  let v189 : BitVec 1 := Scalar.cmpi .eq v2 c3_i32_178
  let c8_i32_179 : BitVec 32 := 8#32
  let c2_i32_176 : BitVec 32 := 2#32
  let v187 : BitVec 1 := Scalar.cmpi .eq v2 c2_i32_176
  let c12_i32_177 : BitVec 32 := 12#32
  let c1_i32_174 : BitVec 32 := 1#32
  let v185 : BitVec 1 := Scalar.cmpi .eq v2 c1_i32_174
  let c10_i32_175 : BitVec 32 := 10#32
  let c0_i32_171 : BitVec 32 := 0#32
  let v183 : BitVec 1 := Scalar.cmpi .eq v2 c0_i32_171
  let c14_i32_172 : BitVec 32 := 14#32
  let c1_i32_173 : BitVec 32 := 1#32
  let v184 : BitVec 32 := Scalar.select v183 c14_i32_172 c1_i32_173
  let v186 : BitVec 32 := Scalar.select v185 c10_i32_175 v184
  let v188 : BitVec 32 := Scalar.select v187 c12_i32_177 v186
  let v190 : BitVec 32 := Scalar.select v189 c8_i32_179 v188
  let v192 : BitVec 32 := Scalar.select v191 c13_i32_181 v190
  let v194 : BitVec 32 := Scalar.select v193 c6_i32_183 v192
  let v196 : BitVec 32 := Scalar.select v195 c15_i32_185 v194
  let v198 : BitVec 32 := Scalar.select v197 c4_i32_187 v196
  let v200 : BitVec 32 := Scalar.select v199 c9_i32_189 v198
  let v202 : BitVec 32 := Scalar.select v201 c2_i32_191 v200
  let v204 : BitVec 32 := Scalar.select v203 c11_i32_193 v202
  let v206 : BitVec 32 := Scalar.select v205 c0_i32_195 v204
  let v208 : BitVec 32 := Scalar.select v207 c5_i32_197 v206
  let v210 : BitVec 32 := Scalar.select v209 c3_i32_199 v208
  let v212 : BitVec 32 := Scalar.select v211 c7_i32_201 v210
  let c1_i32_896 : BitVec 32 := 1#32
  let v883 : BitVec 32 := Scalar.muli v212 c1_i32_896
  let v884 : BitVec 32 := Scalar.addi c0_i32_897 v883
  v884.toNat
def k0_dev32 (d0 : Dev nD) : Nat :=
  let c0_i32_907 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_231 : BitVec 32 := 14#32
  let v241 : BitVec 1 := Scalar.cmpi .eq v2 c14_i32_231
  let c11_i32_232 : BitVec 32 := 11#32
  let c13_i32_229 : BitVec 32 := 13#32
  let v239 : BitVec 1 := Scalar.cmpi .eq v2 c13_i32_229
  let c7_i32_230 : BitVec 32 := 7#32
  let c12_i32_227 : BitVec 32 := 12#32
  let v237 : BitVec 1 := Scalar.cmpi .eq v2 c12_i32_227
  let c9_i32_228 : BitVec 32 := 9#32
  let c11_i32_225 : BitVec 32 := 11#32
  let v235 : BitVec 1 := Scalar.cmpi .eq v2 c11_i32_225
  let c1_i32_226 : BitVec 32 := 1#32
  let c10_i32_223 : BitVec 32 := 10#32
  let v233 : BitVec 1 := Scalar.cmpi .eq v2 c10_i32_223
  let c15_i32_224 : BitVec 32 := 15#32
  let c9_i32_221 : BitVec 32 := 9#32
  let v231 : BitVec 1 := Scalar.cmpi .eq v2 c9_i32_221
  let c3_i32_222 : BitVec 32 := 3#32
  let c8_i32_219 : BitVec 32 := 8#32
  let v229 : BitVec 1 := Scalar.cmpi .eq v2 c8_i32_219
  let c13_i32_220 : BitVec 32 := 13#32
  let c7_i32_217 : BitVec 32 := 7#32
  let v227 : BitVec 1 := Scalar.cmpi .eq v2 c7_i32_217
  let c0_i32_218 : BitVec 32 := 0#32
  let c6_i32_215 : BitVec 32 := 6#32
  let v225 : BitVec 1 := Scalar.cmpi .eq v2 c6_i32_215
  let c12_i32_216 : BitVec 32 := 12#32
  let c5_i32_213 : BitVec 32 := 5#32
  let v223 : BitVec 1 := Scalar.cmpi .eq v2 c5_i32_213
  let c2_i32_214 : BitVec 32 := 2#32
  let c4_i32_211 : BitVec 32 := 4#32
  let v221 : BitVec 1 := Scalar.cmpi .eq v2 c4_i32_211
  let c14_i32_212 : BitVec 32 := 14#32
  let c3_i32_209 : BitVec 32 := 3#32
  let v219 : BitVec 1 := Scalar.cmpi .eq v2 c3_i32_209
  let c4_i32_210 : BitVec 32 := 4#32
  let c2_i32_207 : BitVec 32 := 2#32
  let v217 : BitVec 1 := Scalar.cmpi .eq v2 c2_i32_207
  let c8_i32_208 : BitVec 32 := 8#32
  let c1_i32_205 : BitVec 32 := 1#32
  let v215 : BitVec 1 := Scalar.cmpi .eq v2 c1_i32_205
  let c6_i32_206 : BitVec 32 := 6#32
  let c0_i32_202 : BitVec 32 := 0#32
  let v213 : BitVec 1 := Scalar.cmpi .eq v2 c0_i32_202
  let c10_i32_203 : BitVec 32 := 10#32
  let c5_i32_204 : BitVec 32 := 5#32
  let v214 : BitVec 32 := Scalar.select v213 c10_i32_203 c5_i32_204
  let v216 : BitVec 32 := Scalar.select v215 c6_i32_206 v214
  let v218 : BitVec 32 := Scalar.select v217 c8_i32_208 v216
  let v220 : BitVec 32 := Scalar.select v219 c4_i32_210 v218
  let v222 : BitVec 32 := Scalar.select v221 c14_i32_212 v220
  let v224 : BitVec 32 := Scalar.select v223 c2_i32_214 v222
  let v226 : BitVec 32 := Scalar.select v225 c12_i32_216 v224
  let v228 : BitVec 32 := Scalar.select v227 c0_i32_218 v226
  let v230 : BitVec 32 := Scalar.select v229 c13_i32_220 v228
  let v232 : BitVec 32 := Scalar.select v231 c3_i32_222 v230
  let v234 : BitVec 32 := Scalar.select v233 c15_i32_224 v232
  let v236 : BitVec 32 := Scalar.select v235 c1_i32_226 v234
  let v238 : BitVec 32 := Scalar.select v237 c9_i32_228 v236
  let v240 : BitVec 32 := Scalar.select v239 c7_i32_230 v238
  let v242 : BitVec 32 := Scalar.select v241 c11_i32_232 v240
  let c1_i32_906 : BitVec 32 := 1#32
  let v893 : BitVec 32 := Scalar.muli v242 c1_i32_906
  let v894 : BitVec 32 := Scalar.addi c0_i32_907 v893
  v894.toNat
def k0_dev33 (d0 : Dev nD) : Nat :=
  let c0_i32_917 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_262 : BitVec 32 := 14#32
  let v271 : BitVec 1 := Scalar.cmpi .eq v2 c14_i32_262
  let c15_i32_263 : BitVec 32 := 15#32
  let c13_i32_260 : BitVec 32 := 13#32
  let v269 : BitVec 1 := Scalar.cmpi .eq v2 c13_i32_260
  let c11_i32_261 : BitVec 32 := 11#32
  let c12_i32_258 : BitVec 32 := 12#32
  let v267 : BitVec 1 := Scalar.cmpi .eq v2 c12_i32_258
  let c13_i32_259 : BitVec 32 := 13#32
  let c11_i32_256 : BitVec 32 := 11#32
  let v265 : BitVec 1 := Scalar.cmpi .eq v2 c11_i32_256
  let c5_i32_257 : BitVec 32 := 5#32
  let c10_i32_254 : BitVec 32 := 10#32
  let v263 : BitVec 1 := Scalar.cmpi .eq v2 c10_i32_254
  let c12_i32_255 : BitVec 32 := 12#32
  let c9_i32_252 : BitVec 32 := 9#32
  let v261 : BitVec 1 := Scalar.cmpi .eq v2 c9_i32_252
  let c7_i32_253 : BitVec 32 := 7#32
  let c8_i32_250 : BitVec 32 := 8#32
  let v259 : BitVec 1 := Scalar.cmpi .eq v2 c8_i32_250
  let c14_i32_251 : BitVec 32 := 14#32
  let c7_i32_248 : BitVec 32 := 7#32
  let v257 : BitVec 1 := Scalar.cmpi .eq v2 c7_i32_248
  let c1_i32_249 : BitVec 32 := 1#32
  let c6_i32_246 : BitVec 32 := 6#32
  let v255 : BitVec 1 := Scalar.cmpi .eq v2 c6_i32_246
  let c8_i32_247 : BitVec 32 := 8#32
  let c5_i32_244 : BitVec 32 := 5#32
  let v253 : BitVec 1 := Scalar.cmpi .eq v2 c5_i32_244
  let c3_i32_245 : BitVec 32 := 3#32
  let c4_i32_242 : BitVec 32 := 4#32
  let v251 : BitVec 1 := Scalar.cmpi .eq v2 c4_i32_242
  let c10_i32_243 : BitVec 32 := 10#32
  let c3_i32_240 : BitVec 32 := 3#32
  let v249 : BitVec 1 := Scalar.cmpi .eq v2 c3_i32_240
  let c0_i32_241 : BitVec 32 := 0#32
  let c2_i32_238 : BitVec 32 := 2#32
  let v247 : BitVec 1 := Scalar.cmpi .eq v2 c2_i32_238
  let c4_i32_239 : BitVec 32 := 4#32
  let c1_i32_236 : BitVec 32 := 1#32
  let v245 : BitVec 1 := Scalar.cmpi .eq v2 c1_i32_236
  let c2_i32_237 : BitVec 32 := 2#32
  let c0_i32_233 : BitVec 32 := 0#32
  let v243 : BitVec 1 := Scalar.cmpi .eq v2 c0_i32_233
  let c6_i32_234 : BitVec 32 := 6#32
  let c9_i32_235 : BitVec 32 := 9#32
  let v244 : BitVec 32 := Scalar.select v243 c6_i32_234 c9_i32_235
  let v246 : BitVec 32 := Scalar.select v245 c2_i32_237 v244
  let v248 : BitVec 32 := Scalar.select v247 c4_i32_239 v246
  let v250 : BitVec 32 := Scalar.select v249 c0_i32_241 v248
  let v252 : BitVec 32 := Scalar.select v251 c10_i32_243 v250
  let v254 : BitVec 32 := Scalar.select v253 c3_i32_245 v252
  let v256 : BitVec 32 := Scalar.select v255 c8_i32_247 v254
  let v258 : BitVec 32 := Scalar.select v257 c1_i32_249 v256
  let v260 : BitVec 32 := Scalar.select v259 c14_i32_251 v258
  let v262 : BitVec 32 := Scalar.select v261 c7_i32_253 v260
  let v264 : BitVec 32 := Scalar.select v263 c12_i32_255 v262
  let v266 : BitVec 32 := Scalar.select v265 c5_i32_257 v264
  let v268 : BitVec 32 := Scalar.select v267 c13_i32_259 v266
  let v270 : BitVec 32 := Scalar.select v269 c11_i32_261 v268
  let v272 : BitVec 32 := Scalar.select v271 c15_i32_263 v270
  let c1_i32_916 : BitVec 32 := 1#32
  let v903 : BitVec 32 := Scalar.muli v272 c1_i32_916
  let v904 : BitVec 32 := Scalar.addi c0_i32_917 v903
  v904.toNat
def k0_dev34 (d0 : Dev nD) : Nat :=
  let c0_i32_927 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_293 : BitVec 32 := 14#32
  let v301 : BitVec 1 := Scalar.cmpi .eq v2 c14_i32_293
  let c12_i32_294 : BitVec 32 := 12#32
  let c13_i32_291 : BitVec 32 := 13#32
  let v299 : BitVec 1 := Scalar.cmpi .eq v2 c13_i32_291
  let c15_i32_292 : BitVec 32 := 15#32
  let c12_i32_289 : BitVec 32 := 12#32
  let v297 : BitVec 1 := Scalar.cmpi .eq v2 c12_i32_289
  let c14_i32_290 : BitVec 32 := 14#32
  let c11_i32_287 : BitVec 32 := 11#32
  let v295 : BitVec 1 := Scalar.cmpi .eq v2 c11_i32_287
  let c9_i32_288 : BitVec 32 := 9#32
  let c10_i32_285 : BitVec 32 := 10#32
  let v293 : BitVec 1 := Scalar.cmpi .eq v2 c10_i32_285
  let c8_i32_286 : BitVec 32 := 8#32
  let c9_i32_283 : BitVec 32 := 9#32
  let v291 : BitVec 1 := Scalar.cmpi .eq v2 c9_i32_283
  let c11_i32_284 : BitVec 32 := 11#32
  let c8_i32_281 : BitVec 32 := 8#32
  let v289 : BitVec 1 := Scalar.cmpi .eq v2 c8_i32_281
  let c10_i32_282 : BitVec 32 := 10#32
  let c7_i32_279 : BitVec 32 := 7#32
  let v287 : BitVec 1 := Scalar.cmpi .eq v2 c7_i32_279
  let c5_i32_280 : BitVec 32 := 5#32
  let c6_i32_277 : BitVec 32 := 6#32
  let v285 : BitVec 1 := Scalar.cmpi .eq v2 c6_i32_277
  let c4_i32_278 : BitVec 32 := 4#32
  let c5_i32_275 : BitVec 32 := 5#32
  let v283 : BitVec 1 := Scalar.cmpi .eq v2 c5_i32_275
  let c7_i32_276 : BitVec 32 := 7#32
  let c4_i32_273 : BitVec 32 := 4#32
  let v281 : BitVec 1 := Scalar.cmpi .eq v2 c4_i32_273
  let c6_i32_274 : BitVec 32 := 6#32
  let c3_i32_271 : BitVec 32 := 3#32
  let v279 : BitVec 1 := Scalar.cmpi .eq v2 c3_i32_271
  let c1_i32_272 : BitVec 32 := 1#32
  let c2_i32_269 : BitVec 32 := 2#32
  let v277 : BitVec 1 := Scalar.cmpi .eq v2 c2_i32_269
  let c0_i32_270 : BitVec 32 := 0#32
  let c1_i32_267 : BitVec 32 := 1#32
  let v275 : BitVec 1 := Scalar.cmpi .eq v2 c1_i32_267
  let c3_i32_268 : BitVec 32 := 3#32
  let c0_i32_264 : BitVec 32 := 0#32
  let v273 : BitVec 1 := Scalar.cmpi .eq v2 c0_i32_264
  let c2_i32_265 : BitVec 32 := 2#32
  let c13_i32_266 : BitVec 32 := 13#32
  let v274 : BitVec 32 := Scalar.select v273 c2_i32_265 c13_i32_266
  let v276 : BitVec 32 := Scalar.select v275 c3_i32_268 v274
  let v278 : BitVec 32 := Scalar.select v277 c0_i32_270 v276
  let v280 : BitVec 32 := Scalar.select v279 c1_i32_272 v278
  let v282 : BitVec 32 := Scalar.select v281 c6_i32_274 v280
  let v284 : BitVec 32 := Scalar.select v283 c7_i32_276 v282
  let v286 : BitVec 32 := Scalar.select v285 c4_i32_278 v284
  let v288 : BitVec 32 := Scalar.select v287 c5_i32_280 v286
  let v290 : BitVec 32 := Scalar.select v289 c10_i32_282 v288
  let v292 : BitVec 32 := Scalar.select v291 c11_i32_284 v290
  let v294 : BitVec 32 := Scalar.select v293 c8_i32_286 v292
  let v296 : BitVec 32 := Scalar.select v295 c9_i32_288 v294
  let v298 : BitVec 32 := Scalar.select v297 c14_i32_290 v296
  let v300 : BitVec 32 := Scalar.select v299 c15_i32_292 v298
  let v302 : BitVec 32 := Scalar.select v301 c12_i32_294 v300
  let c1_i32_926 : BitVec 32 := 1#32
  let v913 : BitVec 32 := Scalar.muli v302 c1_i32_926
  let v914 : BitVec 32 := Scalar.addi c0_i32_927 v913
  v914.toNat
def k0_dev35 (d0 : Dev nD) : Nat :=
  let c0_i32_937 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_324 : BitVec 32 := 14#32
  let v331 : BitVec 1 := Scalar.cmpi .eq v2 c14_i32_324
  let c8_i32_325 : BitVec 32 := 8#32
  let c13_i32_322 : BitVec 32 := 13#32
  let v329 : BitVec 1 := Scalar.cmpi .eq v2 c13_i32_322
  let c12_i32_323 : BitVec 32 := 12#32
  let c12_i32_320 : BitVec 32 := 12#32
  let v327 : BitVec 1 := Scalar.cmpi .eq v2 c12_i32_320
  let c10_i32_321 : BitVec 32 := 10#32
  let c11_i32_318 : BitVec 32 := 11#32
  let v325 : BitVec 1 := Scalar.cmpi .eq v2 c11_i32_318
  let c13_i32_319 : BitVec 32 := 13#32
  let c10_i32_316 : BitVec 32 := 10#32
  let v323 : BitVec 1 := Scalar.cmpi .eq v2 c10_i32_316
  let c4_i32_317 : BitVec 32 := 4#32
  let c9_i32_314 : BitVec 32 := 9#32
  let v321 : BitVec 1 := Scalar.cmpi .eq v2 c9_i32_314
  let c15_i32_315 : BitVec 32 := 15#32
  let c8_i32_312 : BitVec 32 := 8#32
  let v319 : BitVec 1 := Scalar.cmpi .eq v2 c8_i32_312
  let c6_i32_313 : BitVec 32 := 6#32
  let c7_i32_310 : BitVec 32 := 7#32
  let v317 : BitVec 1 := Scalar.cmpi .eq v2 c7_i32_310
  let c9_i32_311 : BitVec 32 := 9#32
  let c6_i32_308 : BitVec 32 := 6#32
  let v315 : BitVec 1 := Scalar.cmpi .eq v2 c6_i32_308
  let c0_i32_309 : BitVec 32 := 0#32
  let c5_i32_306 : BitVec 32 := 5#32
  let v313 : BitVec 1 := Scalar.cmpi .eq v2 c5_i32_306
  let c11_i32_307 : BitVec 32 := 11#32
  let c4_i32_304 : BitVec 32 := 4#32
  let v311 : BitVec 1 := Scalar.cmpi .eq v2 c4_i32_304
  let c2_i32_305 : BitVec 32 := 2#32
  let c3_i32_302 : BitVec 32 := 3#32
  let v309 : BitVec 1 := Scalar.cmpi .eq v2 c3_i32_302
  let c5_i32_303 : BitVec 32 := 5#32
  let c2_i32_300 : BitVec 32 := 2#32
  let v307 : BitVec 1 := Scalar.cmpi .eq v2 c2_i32_300
  let c1_i32_301 : BitVec 32 := 1#32
  let c1_i32_298 : BitVec 32 := 1#32
  let v305 : BitVec 1 := Scalar.cmpi .eq v2 c1_i32_298
  let c7_i32_299 : BitVec 32 := 7#32
  let c0_i32_295 : BitVec 32 := 0#32
  let v303 : BitVec 1 := Scalar.cmpi .eq v2 c0_i32_295
  let c3_i32_296 : BitVec 32 := 3#32
  let c14_i32_297 : BitVec 32 := 14#32
  let v304 : BitVec 32 := Scalar.select v303 c3_i32_296 c14_i32_297
  let v306 : BitVec 32 := Scalar.select v305 c7_i32_299 v304
  let v308 : BitVec 32 := Scalar.select v307 c1_i32_301 v306
  let v310 : BitVec 32 := Scalar.select v309 c5_i32_303 v308
  let v312 : BitVec 32 := Scalar.select v311 c2_i32_305 v310
  let v314 : BitVec 32 := Scalar.select v313 c11_i32_307 v312
  let v316 : BitVec 32 := Scalar.select v315 c0_i32_309 v314
  let v318 : BitVec 32 := Scalar.select v317 c9_i32_311 v316
  let v320 : BitVec 32 := Scalar.select v319 c6_i32_313 v318
  let v322 : BitVec 32 := Scalar.select v321 c15_i32_315 v320
  let v324 : BitVec 32 := Scalar.select v323 c4_i32_317 v322
  let v326 : BitVec 32 := Scalar.select v325 c13_i32_319 v324
  let v328 : BitVec 32 := Scalar.select v327 c10_i32_321 v326
  let v330 : BitVec 32 := Scalar.select v329 c12_i32_323 v328
  let v332 : BitVec 32 := Scalar.select v331 c8_i32_325 v330
  let c1_i32_936 : BitVec 32 := 1#32
  let v923 : BitVec 32 := Scalar.muli v332 c1_i32_936
  let v924 : BitVec 32 := Scalar.addi c0_i32_937 v923
  v924.toNat
def k0_dev36 (d0 : Dev nD) : Nat :=
  let c0_i32_947 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_355 : BitVec 32 := 14#32
  let v361 : BitVec 1 := Scalar.cmpi .eq v2 c14_i32_355
  let c4_i32_356 : BitVec 32 := 4#32
  let c13_i32_353 : BitVec 32 := 13#32
  let v359 : BitVec 1 := Scalar.cmpi .eq v2 c13_i32_353
  let c8_i32_354 : BitVec 32 := 8#32
  let c12_i32_351 : BitVec 32 := 12#32
  let v357 : BitVec 1 := Scalar.cmpi .eq v2 c12_i32_351
  let c6_i32_352 : BitVec 32 := 6#32
  let c11_i32_349 : BitVec 32 := 11#32
  let v355 : BitVec 1 := Scalar.cmpi .eq v2 c11_i32_349
  let c14_i32_350 : BitVec 32 := 14#32
  let c10_i32_347 : BitVec 32 := 10#32
  let v353 : BitVec 1 := Scalar.cmpi .eq v2 c10_i32_347
  let c0_i32_348 : BitVec 32 := 0#32
  let c9_i32_345 : BitVec 32 := 9#32
  let v351 : BitVec 1 := Scalar.cmpi .eq v2 c9_i32_345
  let c12_i32_346 : BitVec 32 := 12#32
  let c8_i32_343 : BitVec 32 := 8#32
  let v349 : BitVec 1 := Scalar.cmpi .eq v2 c8_i32_343
  let c2_i32_344 : BitVec 32 := 2#32
  let c7_i32_341 : BitVec 32 := 7#32
  let v347 : BitVec 1 := Scalar.cmpi .eq v2 c7_i32_341
  let c13_i32_342 : BitVec 32 := 13#32
  let c6_i32_339 : BitVec 32 := 6#32
  let v345 : BitVec 1 := Scalar.cmpi .eq v2 c6_i32_339
  let c1_i32_340 : BitVec 32 := 1#32
  let c5_i32_337 : BitVec 32 := 5#32
  let v343 : BitVec 1 := Scalar.cmpi .eq v2 c5_i32_337
  let c15_i32_338 : BitVec 32 := 15#32
  let c4_i32_335 : BitVec 32 := 4#32
  let v341 : BitVec 1 := Scalar.cmpi .eq v2 c4_i32_335
  let c3_i32_336 : BitVec 32 := 3#32
  let c3_i32_333 : BitVec 32 := 3#32
  let v339 : BitVec 1 := Scalar.cmpi .eq v2 c3_i32_333
  let c9_i32_334 : BitVec 32 := 9#32
  let c2_i32_331 : BitVec 32 := 2#32
  let v337 : BitVec 1 := Scalar.cmpi .eq v2 c2_i32_331
  let c5_i32_332 : BitVec 32 := 5#32
  let c1_i32_329 : BitVec 32 := 1#32
  let v335 : BitVec 1 := Scalar.cmpi .eq v2 c1_i32_329
  let c11_i32_330 : BitVec 32 := 11#32
  let c0_i32_326 : BitVec 32 := 0#32
  let v333 : BitVec 1 := Scalar.cmpi .eq v2 c0_i32_326
  let c7_i32_327 : BitVec 32 := 7#32
  let c10_i32_328 : BitVec 32 := 10#32
  let v334 : BitVec 32 := Scalar.select v333 c7_i32_327 c10_i32_328
  let v336 : BitVec 32 := Scalar.select v335 c11_i32_330 v334
  let v338 : BitVec 32 := Scalar.select v337 c5_i32_332 v336
  let v340 : BitVec 32 := Scalar.select v339 c9_i32_334 v338
  let v342 : BitVec 32 := Scalar.select v341 c3_i32_336 v340
  let v344 : BitVec 32 := Scalar.select v343 c15_i32_338 v342
  let v346 : BitVec 32 := Scalar.select v345 c1_i32_340 v344
  let v348 : BitVec 32 := Scalar.select v347 c13_i32_342 v346
  let v350 : BitVec 32 := Scalar.select v349 c2_i32_344 v348
  let v352 : BitVec 32 := Scalar.select v351 c12_i32_346 v350
  let v354 : BitVec 32 := Scalar.select v353 c0_i32_348 v352
  let v356 : BitVec 32 := Scalar.select v355 c14_i32_350 v354
  let v358 : BitVec 32 := Scalar.select v357 c6_i32_352 v356
  let v360 : BitVec 32 := Scalar.select v359 c8_i32_354 v358
  let v362 : BitVec 32 := Scalar.select v361 c4_i32_356 v360
  let c1_i32_946 : BitVec 32 := 1#32
  let v933 : BitVec 32 := Scalar.muli v362 c1_i32_946
  let v934 : BitVec 32 := Scalar.addi c0_i32_947 v933
  v934.toNat
def k0_dev37 (d0 : Dev nD) : Nat :=
  let c0_i32_957 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_386 : BitVec 32 := 14#32
  let v391 : BitVec 1 := Scalar.cmpi .eq v2 c14_i32_386
  let c0_i32_387 : BitVec 32 := 0#32
  let c13_i32_384 : BitVec 32 := 13#32
  let v389 : BitVec 1 := Scalar.cmpi .eq v2 c13_i32_384
  let c4_i32_385 : BitVec 32 := 4#32
  let c12_i32_382 : BitVec 32 := 12#32
  let v387 : BitVec 1 := Scalar.cmpi .eq v2 c12_i32_382
  let c2_i32_383 : BitVec 32 := 2#32
  let c11_i32_380 : BitVec 32 := 11#32
  let v385 : BitVec 1 := Scalar.cmpi .eq v2 c11_i32_380
  let c10_i32_381 : BitVec 32 := 10#32
  let c10_i32_378 : BitVec 32 := 10#32
  let v383 : BitVec 1 := Scalar.cmpi .eq v2 c10_i32_378
  let c1_i32_379 : BitVec 32 := 1#32
  let c9_i32_376 : BitVec 32 := 9#32
  let v381 : BitVec 1 := Scalar.cmpi .eq v2 c9_i32_376
  let c8_i32_377 : BitVec 32 := 8#32
  let c8_i32_374 : BitVec 32 := 8#32
  let v379 : BitVec 1 := Scalar.cmpi .eq v2 c8_i32_374
  let c3_i32_375 : BitVec 32 := 3#32
  let c7_i32_372 : BitVec 32 := 7#32
  let v377 : BitVec 1 := Scalar.cmpi .eq v2 c7_i32_372
  let c14_i32_373 : BitVec 32 := 14#32
  let c6_i32_370 : BitVec 32 := 6#32
  let v375 : BitVec 1 := Scalar.cmpi .eq v2 c6_i32_370
  let c5_i32_371 : BitVec 32 := 5#32
  let c5_i32_368 : BitVec 32 := 5#32
  let v373 : BitVec 1 := Scalar.cmpi .eq v2 c5_i32_368
  let c12_i32_369 : BitVec 32 := 12#32
  let c4_i32_366 : BitVec 32 := 4#32
  let v371 : BitVec 1 := Scalar.cmpi .eq v2 c4_i32_366
  let c7_i32_367 : BitVec 32 := 7#32
  let c3_i32_364 : BitVec 32 := 3#32
  let v369 : BitVec 1 := Scalar.cmpi .eq v2 c3_i32_364
  let c13_i32_365 : BitVec 32 := 13#32
  let c2_i32_362 : BitVec 32 := 2#32
  let v367 : BitVec 1 := Scalar.cmpi .eq v2 c2_i32_362
  let c9_i32_363 : BitVec 32 := 9#32
  let c1_i32_360 : BitVec 32 := 1#32
  let v365 : BitVec 1 := Scalar.cmpi .eq v2 c1_i32_360
  let c15_i32_361 : BitVec 32 := 15#32
  let c0_i32_357 : BitVec 32 := 0#32
  let v363 : BitVec 1 := Scalar.cmpi .eq v2 c0_i32_357
  let c11_i32_358 : BitVec 32 := 11#32
  let c6_i32_359 : BitVec 32 := 6#32
  let v364 : BitVec 32 := Scalar.select v363 c11_i32_358 c6_i32_359
  let v366 : BitVec 32 := Scalar.select v365 c15_i32_361 v364
  let v368 : BitVec 32 := Scalar.select v367 c9_i32_363 v366
  let v370 : BitVec 32 := Scalar.select v369 c13_i32_365 v368
  let v372 : BitVec 32 := Scalar.select v371 c7_i32_367 v370
  let v374 : BitVec 32 := Scalar.select v373 c12_i32_369 v372
  let v376 : BitVec 32 := Scalar.select v375 c5_i32_371 v374
  let v378 : BitVec 32 := Scalar.select v377 c14_i32_373 v376
  let v380 : BitVec 32 := Scalar.select v379 c3_i32_375 v378
  let v382 : BitVec 32 := Scalar.select v381 c8_i32_377 v380
  let v384 : BitVec 32 := Scalar.select v383 c1_i32_379 v382
  let v386 : BitVec 32 := Scalar.select v385 c10_i32_381 v384
  let v388 : BitVec 32 := Scalar.select v387 c2_i32_383 v386
  let v390 : BitVec 32 := Scalar.select v389 c4_i32_385 v388
  let v392 : BitVec 32 := Scalar.select v391 c0_i32_387 v390
  let c1_i32_956 : BitVec 32 := 1#32
  let v943 : BitVec 32 := Scalar.muli v392 c1_i32_956
  let v944 : BitVec 32 := Scalar.addi c0_i32_957 v943
  v944.toNat
def k0_dev38 (d0 : Dev nD) : Nat :=
  let c0_i32_967 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_417 : BitVec 32 := 14#32
  let v421 : BitVec 1 := Scalar.cmpi .eq v2 c14_i32_417
  let c1_i32_418 : BitVec 32 := 1#32
  let c13_i32_415 : BitVec 32 := 13#32
  let v419 : BitVec 1 := Scalar.cmpi .eq v2 c13_i32_415
  let c0_i32_416 : BitVec 32 := 0#32
  let c12_i32_413 : BitVec 32 := 12#32
  let v417 : BitVec 1 := Scalar.cmpi .eq v2 c12_i32_413
  let c3_i32_414 : BitVec 32 := 3#32
  let c11_i32_411 : BitVec 32 := 11#32
  let v415 : BitVec 1 := Scalar.cmpi .eq v2 c11_i32_411
  let c6_i32_412 : BitVec 32 := 6#32
  let c10_i32_409 : BitVec 32 := 10#32
  let v413 : BitVec 1 := Scalar.cmpi .eq v2 c10_i32_409
  let c5_i32_410 : BitVec 32 := 5#32
  let c9_i32_407 : BitVec 32 := 9#32
  let v411 : BitVec 1 := Scalar.cmpi .eq v2 c9_i32_407
  let c4_i32_408 : BitVec 32 := 4#32
  let c8_i32_405 : BitVec 32 := 8#32
  let v409 : BitVec 1 := Scalar.cmpi .eq v2 c8_i32_405
  let c7_i32_406 : BitVec 32 := 7#32
  let c7_i32_403 : BitVec 32 := 7#32
  let v407 : BitVec 1 := Scalar.cmpi .eq v2 c7_i32_403
  let c10_i32_404 : BitVec 32 := 10#32
  let c6_i32_401 : BitVec 32 := 6#32
  let v405 : BitVec 1 := Scalar.cmpi .eq v2 c6_i32_401
  let c9_i32_402 : BitVec 32 := 9#32
  let c5_i32_399 : BitVec 32 := 5#32
  let v403 : BitVec 1 := Scalar.cmpi .eq v2 c5_i32_399
  let c8_i32_400 : BitVec 32 := 8#32
  let c4_i32_397 : BitVec 32 := 4#32
  let v401 : BitVec 1 := Scalar.cmpi .eq v2 c4_i32_397
  let c11_i32_398 : BitVec 32 := 11#32
  let c3_i32_395 : BitVec 32 := 3#32
  let v399 : BitVec 1 := Scalar.cmpi .eq v2 c3_i32_395
  let c14_i32_396 : BitVec 32 := 14#32
  let c2_i32_393 : BitVec 32 := 2#32
  let v397 : BitVec 1 := Scalar.cmpi .eq v2 c2_i32_393
  let c13_i32_394 : BitVec 32 := 13#32
  let c1_i32_391 : BitVec 32 := 1#32
  let v395 : BitVec 1 := Scalar.cmpi .eq v2 c1_i32_391
  let c12_i32_392 : BitVec 32 := 12#32
  let c0_i32_388 : BitVec 32 := 0#32
  let v393 : BitVec 1 := Scalar.cmpi .eq v2 c0_i32_388
  let c15_i32_389 : BitVec 32 := 15#32
  let c2_i32_390 : BitVec 32 := 2#32
  let v394 : BitVec 32 := Scalar.select v393 c15_i32_389 c2_i32_390
  let v396 : BitVec 32 := Scalar.select v395 c12_i32_392 v394
  let v398 : BitVec 32 := Scalar.select v397 c13_i32_394 v396
  let v400 : BitVec 32 := Scalar.select v399 c14_i32_396 v398
  let v402 : BitVec 32 := Scalar.select v401 c11_i32_398 v400
  let v404 : BitVec 32 := Scalar.select v403 c8_i32_400 v402
  let v406 : BitVec 32 := Scalar.select v405 c9_i32_402 v404
  let v408 : BitVec 32 := Scalar.select v407 c10_i32_404 v406
  let v410 : BitVec 32 := Scalar.select v409 c7_i32_406 v408
  let v412 : BitVec 32 := Scalar.select v411 c4_i32_408 v410
  let v414 : BitVec 32 := Scalar.select v413 c5_i32_410 v412
  let v416 : BitVec 32 := Scalar.select v415 c6_i32_412 v414
  let v418 : BitVec 32 := Scalar.select v417 c3_i32_414 v416
  let v420 : BitVec 32 := Scalar.select v419 c0_i32_416 v418
  let v422 : BitVec 32 := Scalar.select v421 c1_i32_418 v420
  let c1_i32_966 : BitVec 32 := 1#32
  let v953 : BitVec 32 := Scalar.muli v422 c1_i32_966
  let v954 : BitVec 32 := Scalar.addi c0_i32_967 v953
  v954.toNat
def k0_dev39 (d0 : Dev nD) : Nat :=
  let c0_i32_1063 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_14 : BitVec 32 := 14#32
  let v31 : BitVec 1 := Scalar.cmpi .eq v2 c14_i32_14
  let c10_i32_15 : BitVec 32 := 10#32
  let c13_i32_13 : BitVec 32 := 13#32
  let v29 : BitVec 1 := Scalar.cmpi .eq v2 c13_i32_13
  let c14_i32 : BitVec 32 := 14#32
  let c12_i32_11 : BitVec 32 := 12#32
  let v27 : BitVec 1 := Scalar.cmpi .eq v2 c12_i32_11
  let c8_i32_12 : BitVec 32 := 8#32
  let c11_i32_10 : BitVec 32 := 11#32
  let v25 : BitVec 1 := Scalar.cmpi .eq v2 c11_i32_10
  let c15_i32 : BitVec 32 := 15#32
  let c10_i32 : BitVec 32 := 10#32
  let v23 : BitVec 1 := Scalar.cmpi .eq v2 c10_i32
  let c6_i32_9 : BitVec 32 := 6#32
  let c9_i32_8 : BitVec 32 := 9#32
  let v21 : BitVec 1 := Scalar.cmpi .eq v2 c9_i32_8
  let c13_i32 : BitVec 32 := 13#32
  let c8_i32 : BitVec 32 := 8#32
  let v19 : BitVec 1 := Scalar.cmpi .eq v2 c8_i32
  let c4_i32_7 : BitVec 32 := 4#32
  let c7_i32_6 : BitVec 32 := 7#32
  let v17 : BitVec 1 := Scalar.cmpi .eq v2 c7_i32_6
  let c11_i32 : BitVec 32 := 11#32
  let c6_i32 : BitVec 32 := 6#32
  let v15 : BitVec 1 := Scalar.cmpi .eq v2 c6_i32
  let c2_i32_5 : BitVec 32 := 2#32
  let c5_i32_4 : BitVec 32 := 5#32
  let v13 : BitVec 1 := Scalar.cmpi .eq v2 c5_i32_4
  let c9_i32 : BitVec 32 := 9#32
  let c4_i32 : BitVec 32 := 4#32
  let v11 : BitVec 1 := Scalar.cmpi .eq v2 c4_i32
  let c0_i32_3 : BitVec 32 := 0#32
  let c3_i32_2 : BitVec 32 := 3#32
  let v9 : BitVec 1 := Scalar.cmpi .eq v2 c3_i32_2
  let c7_i32 : BitVec 32 := 7#32
  let c2_i32 : BitVec 32 := 2#32
  let v7 : BitVec 1 := Scalar.cmpi .eq v2 c2_i32
  let c3_i32 : BitVec 32 := 3#32
  let c1_i32_1 : BitVec 32 := 1#32
  let v5 : BitVec 1 := Scalar.cmpi .eq v2 c1_i32_1
  let c5_i32 : BitVec 32 := 5#32
  let c0_i32 : BitVec 32 := 0#32
  let v3 : BitVec 1 := Scalar.cmpi .eq v2 c0_i32
  let c1_i32_0 : BitVec 32 := 1#32
  let c12_i32 : BitVec 32 := 12#32
  let v4 : BitVec 32 := Scalar.select v3 c1_i32_0 c12_i32
  let v6 : BitVec 32 := Scalar.select v5 c5_i32 v4
  let v8 : BitVec 32 := Scalar.select v7 c3_i32 v6
  let v10 : BitVec 32 := Scalar.select v9 c7_i32 v8
  let v12 : BitVec 32 := Scalar.select v11 c0_i32_3 v10
  let v14 : BitVec 32 := Scalar.select v13 c9_i32 v12
  let v16 : BitVec 32 := Scalar.select v15 c2_i32_5 v14
  let v18 : BitVec 32 := Scalar.select v17 c11_i32 v16
  let v20 : BitVec 32 := Scalar.select v19 c4_i32_7 v18
  let v22 : BitVec 32 := Scalar.select v21 c13_i32 v20
  let v24 : BitVec 32 := Scalar.select v23 c6_i32_9 v22
  let v26 : BitVec 32 := Scalar.select v25 c15_i32 v24
  let v28 : BitVec 32 := Scalar.select v27 c8_i32_12 v26
  let v30 : BitVec 32 := Scalar.select v29 c14_i32 v28
  let v32 : BitVec 32 := Scalar.select v31 c10_i32_15 v30
  let c1_i32_1062 : BitVec 32 := 1#32
  let v1033 : BitVec 32 := Scalar.muli v32 c1_i32_1062
  let v1034 : BitVec 32 := Scalar.addi c0_i32_1063 v1033
  v1034.toNat
def k0_dev40 (d0 : Dev nD) : Nat :=
  let c0_i32_1077 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_14 : BitVec 32 := 14#32
  let v31 : BitVec 1 := Scalar.cmpi .eq v2 c14_i32_14
  let c10_i32_15 : BitVec 32 := 10#32
  let c13_i32_13 : BitVec 32 := 13#32
  let v29 : BitVec 1 := Scalar.cmpi .eq v2 c13_i32_13
  let c14_i32 : BitVec 32 := 14#32
  let c12_i32_11 : BitVec 32 := 12#32
  let v27 : BitVec 1 := Scalar.cmpi .eq v2 c12_i32_11
  let c8_i32_12 : BitVec 32 := 8#32
  let c11_i32_10 : BitVec 32 := 11#32
  let v25 : BitVec 1 := Scalar.cmpi .eq v2 c11_i32_10
  let c15_i32 : BitVec 32 := 15#32
  let c10_i32 : BitVec 32 := 10#32
  let v23 : BitVec 1 := Scalar.cmpi .eq v2 c10_i32
  let c6_i32_9 : BitVec 32 := 6#32
  let c9_i32_8 : BitVec 32 := 9#32
  let v21 : BitVec 1 := Scalar.cmpi .eq v2 c9_i32_8
  let c13_i32 : BitVec 32 := 13#32
  let c8_i32 : BitVec 32 := 8#32
  let v19 : BitVec 1 := Scalar.cmpi .eq v2 c8_i32
  let c4_i32_7 : BitVec 32 := 4#32
  let c7_i32_6 : BitVec 32 := 7#32
  let v17 : BitVec 1 := Scalar.cmpi .eq v2 c7_i32_6
  let c11_i32 : BitVec 32 := 11#32
  let c6_i32 : BitVec 32 := 6#32
  let v15 : BitVec 1 := Scalar.cmpi .eq v2 c6_i32
  let c2_i32_5 : BitVec 32 := 2#32
  let c5_i32_4 : BitVec 32 := 5#32
  let v13 : BitVec 1 := Scalar.cmpi .eq v2 c5_i32_4
  let c9_i32 : BitVec 32 := 9#32
  let c4_i32 : BitVec 32 := 4#32
  let v11 : BitVec 1 := Scalar.cmpi .eq v2 c4_i32
  let c0_i32_3 : BitVec 32 := 0#32
  let c3_i32_2 : BitVec 32 := 3#32
  let v9 : BitVec 1 := Scalar.cmpi .eq v2 c3_i32_2
  let c7_i32 : BitVec 32 := 7#32
  let c2_i32 : BitVec 32 := 2#32
  let v7 : BitVec 1 := Scalar.cmpi .eq v2 c2_i32
  let c3_i32 : BitVec 32 := 3#32
  let c1_i32_1 : BitVec 32 := 1#32
  let v5 : BitVec 1 := Scalar.cmpi .eq v2 c1_i32_1
  let c5_i32 : BitVec 32 := 5#32
  let c0_i32 : BitVec 32 := 0#32
  let v3 : BitVec 1 := Scalar.cmpi .eq v2 c0_i32
  let c1_i32_0 : BitVec 32 := 1#32
  let c12_i32 : BitVec 32 := 12#32
  let v4 : BitVec 32 := Scalar.select v3 c1_i32_0 c12_i32
  let v6 : BitVec 32 := Scalar.select v5 c5_i32 v4
  let v8 : BitVec 32 := Scalar.select v7 c3_i32 v6
  let v10 : BitVec 32 := Scalar.select v9 c7_i32 v8
  let v12 : BitVec 32 := Scalar.select v11 c0_i32_3 v10
  let v14 : BitVec 32 := Scalar.select v13 c9_i32 v12
  let v16 : BitVec 32 := Scalar.select v15 c2_i32_5 v14
  let v18 : BitVec 32 := Scalar.select v17 c11_i32 v16
  let v20 : BitVec 32 := Scalar.select v19 c4_i32_7 v18
  let v22 : BitVec 32 := Scalar.select v21 c13_i32 v20
  let v24 : BitVec 32 := Scalar.select v23 c6_i32_9 v22
  let v26 : BitVec 32 := Scalar.select v25 c15_i32 v24
  let v28 : BitVec 32 := Scalar.select v27 c8_i32_12 v26
  let v30 : BitVec 32 := Scalar.select v29 c14_i32 v28
  let v32 : BitVec 32 := Scalar.select v31 c10_i32_15 v30
  let c1_i32_1076 : BitVec 32 := 1#32
  let v1043 : BitVec 32 := Scalar.muli v32 c1_i32_1076
  let v1044 : BitVec 32 := Scalar.addi c0_i32_1077 v1043
  v1044.toNat
def k0_dev41 (d0 : Dev nD) : Nat :=
  let c0_i32_1119 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_45 : BitVec 32 := 14#32
  let v61 : BitVec 1 := Scalar.cmpi .eq v2 c14_i32_45
  let c13_i32_46 : BitVec 32 := 13#32
  let c13_i32_43 : BitVec 32 := 13#32
  let v59 : BitVec 1 := Scalar.cmpi .eq v2 c13_i32_43
  let c9_i32_44 : BitVec 32 := 9#32
  let c12_i32_41 : BitVec 32 := 12#32
  let v57 : BitVec 1 := Scalar.cmpi .eq v2 c12_i32_41
  let c15_i32_42 : BitVec 32 := 15#32
  let c11_i32_39 : BitVec 32 := 11#32
  let v55 : BitVec 1 := Scalar.cmpi .eq v2 c11_i32_39
  let c7_i32_40 : BitVec 32 := 7#32
  let c10_i32_37 : BitVec 32 := 10#32
  let v53 : BitVec 1 := Scalar.cmpi .eq v2 c10_i32_37
  let c14_i32_38 : BitVec 32 := 14#32
  let c9_i32_35 : BitVec 32 := 9#32
  let v51 : BitVec 1 := Scalar.cmpi .eq v2 c9_i32_35
  let c5_i32_36 : BitVec 32 := 5#32
  let c8_i32_33 : BitVec 32 := 8#32
  let v49 : BitVec 1 := Scalar.cmpi .eq v2 c8_i32_33
  let c12_i32_34 : BitVec 32 := 12#32
  let c7_i32_31 : BitVec 32 := 7#32
  let v47 : BitVec 1 := Scalar.cmpi .eq v2 c7_i32_31
  let c3_i32_32 : BitVec 32 := 3#32
  let c6_i32_29 : BitVec 32 := 6#32
  let v45 : BitVec 1 := Scalar.cmpi .eq v2 c6_i32_29
  let c10_i32_30 : BitVec 32 := 10#32
  let c5_i32_27 : BitVec 32 := 5#32
  let v43 : BitVec 1 := Scalar.cmpi .eq v2 c5_i32_27
  let c1_i32_28 : BitVec 32 := 1#32
  let c4_i32_25 : BitVec 32 := 4#32
  let v41 : BitVec 1 := Scalar.cmpi .eq v2 c4_i32_25
  let c8_i32_26 : BitVec 32 := 8#32
  let c3_i32_23 : BitVec 32 := 3#32
  let v39 : BitVec 1 := Scalar.cmpi .eq v2 c3_i32_23
  let c2_i32_24 : BitVec 32 := 2#32
  let c2_i32_21 : BitVec 32 := 2#32
  let v37 : BitVec 1 := Scalar.cmpi .eq v2 c2_i32_21
  let c6_i32_22 : BitVec 32 := 6#32
  let c1_i32_19 : BitVec 32 := 1#32
  let v35 : BitVec 1 := Scalar.cmpi .eq v2 c1_i32_19
  let c0_i32_20 : BitVec 32 := 0#32
  let c0_i32_16 : BitVec 32 := 0#32
  let v33 : BitVec 1 := Scalar.cmpi .eq v2 c0_i32_16
  let c4_i32_17 : BitVec 32 := 4#32
  let c11_i32_18 : BitVec 32 := 11#32
  let v34 : BitVec 32 := Scalar.select v33 c4_i32_17 c11_i32_18
  let v36 : BitVec 32 := Scalar.select v35 c0_i32_20 v34
  let v38 : BitVec 32 := Scalar.select v37 c6_i32_22 v36
  let v40 : BitVec 32 := Scalar.select v39 c2_i32_24 v38
  let v42 : BitVec 32 := Scalar.select v41 c8_i32_26 v40
  let v44 : BitVec 32 := Scalar.select v43 c1_i32_28 v42
  let v46 : BitVec 32 := Scalar.select v45 c10_i32_30 v44
  let v48 : BitVec 32 := Scalar.select v47 c3_i32_32 v46
  let v50 : BitVec 32 := Scalar.select v49 c12_i32_34 v48
  let v52 : BitVec 32 := Scalar.select v51 c5_i32_36 v50
  let v54 : BitVec 32 := Scalar.select v53 c14_i32_38 v52
  let v56 : BitVec 32 := Scalar.select v55 c7_i32_40 v54
  let v58 : BitVec 32 := Scalar.select v57 c15_i32_42 v56
  let v60 : BitVec 32 := Scalar.select v59 c9_i32_44 v58
  let v62 : BitVec 32 := Scalar.select v61 c13_i32_46 v60
  let c1_i32_1118 : BitVec 32 := 1#32
  let v1069 : BitVec 32 := Scalar.muli v62 c1_i32_1118
  let v1070 : BitVec 32 := Scalar.addi c0_i32_1119 v1069
  v1070.toNat
def k0_dev42 (d0 : Dev nD) : Nat :=
  let c0_i32_1133 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_45 : BitVec 32 := 14#32
  let v61 : BitVec 1 := Scalar.cmpi .eq v2 c14_i32_45
  let c13_i32_46 : BitVec 32 := 13#32
  let c13_i32_43 : BitVec 32 := 13#32
  let v59 : BitVec 1 := Scalar.cmpi .eq v2 c13_i32_43
  let c9_i32_44 : BitVec 32 := 9#32
  let c12_i32_41 : BitVec 32 := 12#32
  let v57 : BitVec 1 := Scalar.cmpi .eq v2 c12_i32_41
  let c15_i32_42 : BitVec 32 := 15#32
  let c11_i32_39 : BitVec 32 := 11#32
  let v55 : BitVec 1 := Scalar.cmpi .eq v2 c11_i32_39
  let c7_i32_40 : BitVec 32 := 7#32
  let c10_i32_37 : BitVec 32 := 10#32
  let v53 : BitVec 1 := Scalar.cmpi .eq v2 c10_i32_37
  let c14_i32_38 : BitVec 32 := 14#32
  let c9_i32_35 : BitVec 32 := 9#32
  let v51 : BitVec 1 := Scalar.cmpi .eq v2 c9_i32_35
  let c5_i32_36 : BitVec 32 := 5#32
  let c8_i32_33 : BitVec 32 := 8#32
  let v49 : BitVec 1 := Scalar.cmpi .eq v2 c8_i32_33
  let c12_i32_34 : BitVec 32 := 12#32
  let c7_i32_31 : BitVec 32 := 7#32
  let v47 : BitVec 1 := Scalar.cmpi .eq v2 c7_i32_31
  let c3_i32_32 : BitVec 32 := 3#32
  let c6_i32_29 : BitVec 32 := 6#32
  let v45 : BitVec 1 := Scalar.cmpi .eq v2 c6_i32_29
  let c10_i32_30 : BitVec 32 := 10#32
  let c5_i32_27 : BitVec 32 := 5#32
  let v43 : BitVec 1 := Scalar.cmpi .eq v2 c5_i32_27
  let c1_i32_28 : BitVec 32 := 1#32
  let c4_i32_25 : BitVec 32 := 4#32
  let v41 : BitVec 1 := Scalar.cmpi .eq v2 c4_i32_25
  let c8_i32_26 : BitVec 32 := 8#32
  let c3_i32_23 : BitVec 32 := 3#32
  let v39 : BitVec 1 := Scalar.cmpi .eq v2 c3_i32_23
  let c2_i32_24 : BitVec 32 := 2#32
  let c2_i32_21 : BitVec 32 := 2#32
  let v37 : BitVec 1 := Scalar.cmpi .eq v2 c2_i32_21
  let c6_i32_22 : BitVec 32 := 6#32
  let c1_i32_19 : BitVec 32 := 1#32
  let v35 : BitVec 1 := Scalar.cmpi .eq v2 c1_i32_19
  let c0_i32_20 : BitVec 32 := 0#32
  let c0_i32_16 : BitVec 32 := 0#32
  let v33 : BitVec 1 := Scalar.cmpi .eq v2 c0_i32_16
  let c4_i32_17 : BitVec 32 := 4#32
  let c11_i32_18 : BitVec 32 := 11#32
  let v34 : BitVec 32 := Scalar.select v33 c4_i32_17 c11_i32_18
  let v36 : BitVec 32 := Scalar.select v35 c0_i32_20 v34
  let v38 : BitVec 32 := Scalar.select v37 c6_i32_22 v36
  let v40 : BitVec 32 := Scalar.select v39 c2_i32_24 v38
  let v42 : BitVec 32 := Scalar.select v41 c8_i32_26 v40
  let v44 : BitVec 32 := Scalar.select v43 c1_i32_28 v42
  let v46 : BitVec 32 := Scalar.select v45 c10_i32_30 v44
  let v48 : BitVec 32 := Scalar.select v47 c3_i32_32 v46
  let v50 : BitVec 32 := Scalar.select v49 c12_i32_34 v48
  let v52 : BitVec 32 := Scalar.select v51 c5_i32_36 v50
  let v54 : BitVec 32 := Scalar.select v53 c14_i32_38 v52
  let v56 : BitVec 32 := Scalar.select v55 c7_i32_40 v54
  let v58 : BitVec 32 := Scalar.select v57 c15_i32_42 v56
  let v60 : BitVec 32 := Scalar.select v59 c9_i32_44 v58
  let v62 : BitVec 32 := Scalar.select v61 c13_i32_46 v60
  let c1_i32_1132 : BitVec 32 := 1#32
  let v1079 : BitVec 32 := Scalar.muli v62 c1_i32_1132
  let v1080 : BitVec 32 := Scalar.addi c0_i32_1133 v1079
  v1080.toNat
def k0_dev43 (d0 : Dev nD) : Nat :=
  let c0_i32_1229 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_14 : BitVec 32 := 14#32
  let v31 : BitVec 1 := Scalar.cmpi .eq v2 c14_i32_14
  let c10_i32_15 : BitVec 32 := 10#32
  let c13_i32_13 : BitVec 32 := 13#32
  let v29 : BitVec 1 := Scalar.cmpi .eq v2 c13_i32_13
  let c14_i32 : BitVec 32 := 14#32
  let c12_i32_11 : BitVec 32 := 12#32
  let v27 : BitVec 1 := Scalar.cmpi .eq v2 c12_i32_11
  let c8_i32_12 : BitVec 32 := 8#32
  let c11_i32_10 : BitVec 32 := 11#32
  let v25 : BitVec 1 := Scalar.cmpi .eq v2 c11_i32_10
  let c15_i32 : BitVec 32 := 15#32
  let c10_i32 : BitVec 32 := 10#32
  let v23 : BitVec 1 := Scalar.cmpi .eq v2 c10_i32
  let c6_i32_9 : BitVec 32 := 6#32
  let c9_i32_8 : BitVec 32 := 9#32
  let v21 : BitVec 1 := Scalar.cmpi .eq v2 c9_i32_8
  let c13_i32 : BitVec 32 := 13#32
  let c8_i32 : BitVec 32 := 8#32
  let v19 : BitVec 1 := Scalar.cmpi .eq v2 c8_i32
  let c4_i32_7 : BitVec 32 := 4#32
  let c7_i32_6 : BitVec 32 := 7#32
  let v17 : BitVec 1 := Scalar.cmpi .eq v2 c7_i32_6
  let c11_i32 : BitVec 32 := 11#32
  let c6_i32 : BitVec 32 := 6#32
  let v15 : BitVec 1 := Scalar.cmpi .eq v2 c6_i32
  let c2_i32_5 : BitVec 32 := 2#32
  let c5_i32_4 : BitVec 32 := 5#32
  let v13 : BitVec 1 := Scalar.cmpi .eq v2 c5_i32_4
  let c9_i32 : BitVec 32 := 9#32
  let c4_i32 : BitVec 32 := 4#32
  let v11 : BitVec 1 := Scalar.cmpi .eq v2 c4_i32
  let c0_i32_3 : BitVec 32 := 0#32
  let c3_i32_2 : BitVec 32 := 3#32
  let v9 : BitVec 1 := Scalar.cmpi .eq v2 c3_i32_2
  let c7_i32 : BitVec 32 := 7#32
  let c2_i32 : BitVec 32 := 2#32
  let v7 : BitVec 1 := Scalar.cmpi .eq v2 c2_i32
  let c3_i32 : BitVec 32 := 3#32
  let c1_i32_1 : BitVec 32 := 1#32
  let v5 : BitVec 1 := Scalar.cmpi .eq v2 c1_i32_1
  let c5_i32 : BitVec 32 := 5#32
  let c0_i32 : BitVec 32 := 0#32
  let v3 : BitVec 1 := Scalar.cmpi .eq v2 c0_i32
  let c1_i32_0 : BitVec 32 := 1#32
  let c12_i32 : BitVec 32 := 12#32
  let v4 : BitVec 32 := Scalar.select v3 c1_i32_0 c12_i32
  let v6 : BitVec 32 := Scalar.select v5 c5_i32 v4
  let v8 : BitVec 32 := Scalar.select v7 c3_i32 v6
  let v10 : BitVec 32 := Scalar.select v9 c7_i32 v8
  let v12 : BitVec 32 := Scalar.select v11 c0_i32_3 v10
  let v14 : BitVec 32 := Scalar.select v13 c9_i32 v12
  let v16 : BitVec 32 := Scalar.select v15 c2_i32_5 v14
  let v18 : BitVec 32 := Scalar.select v17 c11_i32 v16
  let v20 : BitVec 32 := Scalar.select v19 c4_i32_7 v18
  let v22 : BitVec 32 := Scalar.select v21 c13_i32 v20
  let v24 : BitVec 32 := Scalar.select v23 c6_i32_9 v22
  let v26 : BitVec 32 := Scalar.select v25 c15_i32 v24
  let v28 : BitVec 32 := Scalar.select v27 c8_i32_12 v26
  let v30 : BitVec 32 := Scalar.select v29 c14_i32 v28
  let v32 : BitVec 32 := Scalar.select v31 c10_i32_15 v30
  let c1_i32_1228 : BitVec 32 := 1#32
  let v1159 : BitVec 32 := Scalar.muli v32 c1_i32_1228
  let v1160 : BitVec 32 := Scalar.addi c0_i32_1229 v1159
  v1160.toNat
def k0_dev44 (d0 : Dev nD) : Nat :=
  let c0_i32_1243 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_14 : BitVec 32 := 14#32
  let v31 : BitVec 1 := Scalar.cmpi .eq v2 c14_i32_14
  let c10_i32_15 : BitVec 32 := 10#32
  let c13_i32_13 : BitVec 32 := 13#32
  let v29 : BitVec 1 := Scalar.cmpi .eq v2 c13_i32_13
  let c14_i32 : BitVec 32 := 14#32
  let c12_i32_11 : BitVec 32 := 12#32
  let v27 : BitVec 1 := Scalar.cmpi .eq v2 c12_i32_11
  let c8_i32_12 : BitVec 32 := 8#32
  let c11_i32_10 : BitVec 32 := 11#32
  let v25 : BitVec 1 := Scalar.cmpi .eq v2 c11_i32_10
  let c15_i32 : BitVec 32 := 15#32
  let c10_i32 : BitVec 32 := 10#32
  let v23 : BitVec 1 := Scalar.cmpi .eq v2 c10_i32
  let c6_i32_9 : BitVec 32 := 6#32
  let c9_i32_8 : BitVec 32 := 9#32
  let v21 : BitVec 1 := Scalar.cmpi .eq v2 c9_i32_8
  let c13_i32 : BitVec 32 := 13#32
  let c8_i32 : BitVec 32 := 8#32
  let v19 : BitVec 1 := Scalar.cmpi .eq v2 c8_i32
  let c4_i32_7 : BitVec 32 := 4#32
  let c7_i32_6 : BitVec 32 := 7#32
  let v17 : BitVec 1 := Scalar.cmpi .eq v2 c7_i32_6
  let c11_i32 : BitVec 32 := 11#32
  let c6_i32 : BitVec 32 := 6#32
  let v15 : BitVec 1 := Scalar.cmpi .eq v2 c6_i32
  let c2_i32_5 : BitVec 32 := 2#32
  let c5_i32_4 : BitVec 32 := 5#32
  let v13 : BitVec 1 := Scalar.cmpi .eq v2 c5_i32_4
  let c9_i32 : BitVec 32 := 9#32
  let c4_i32 : BitVec 32 := 4#32
  let v11 : BitVec 1 := Scalar.cmpi .eq v2 c4_i32
  let c0_i32_3 : BitVec 32 := 0#32
  let c3_i32_2 : BitVec 32 := 3#32
  let v9 : BitVec 1 := Scalar.cmpi .eq v2 c3_i32_2
  let c7_i32 : BitVec 32 := 7#32
  let c2_i32 : BitVec 32 := 2#32
  let v7 : BitVec 1 := Scalar.cmpi .eq v2 c2_i32
  let c3_i32 : BitVec 32 := 3#32
  let c1_i32_1 : BitVec 32 := 1#32
  let v5 : BitVec 1 := Scalar.cmpi .eq v2 c1_i32_1
  let c5_i32 : BitVec 32 := 5#32
  let c0_i32 : BitVec 32 := 0#32
  let v3 : BitVec 1 := Scalar.cmpi .eq v2 c0_i32
  let c1_i32_0 : BitVec 32 := 1#32
  let c12_i32 : BitVec 32 := 12#32
  let v4 : BitVec 32 := Scalar.select v3 c1_i32_0 c12_i32
  let v6 : BitVec 32 := Scalar.select v5 c5_i32 v4
  let v8 : BitVec 32 := Scalar.select v7 c3_i32 v6
  let v10 : BitVec 32 := Scalar.select v9 c7_i32 v8
  let v12 : BitVec 32 := Scalar.select v11 c0_i32_3 v10
  let v14 : BitVec 32 := Scalar.select v13 c9_i32 v12
  let v16 : BitVec 32 := Scalar.select v15 c2_i32_5 v14
  let v18 : BitVec 32 := Scalar.select v17 c11_i32 v16
  let v20 : BitVec 32 := Scalar.select v19 c4_i32_7 v18
  let v22 : BitVec 32 := Scalar.select v21 c13_i32 v20
  let v24 : BitVec 32 := Scalar.select v23 c6_i32_9 v22
  let v26 : BitVec 32 := Scalar.select v25 c15_i32 v24
  let v28 : BitVec 32 := Scalar.select v27 c8_i32_12 v26
  let v30 : BitVec 32 := Scalar.select v29 c14_i32 v28
  let v32 : BitVec 32 := Scalar.select v31 c10_i32_15 v30
  let c1_i32_1242 : BitVec 32 := 1#32
  let v1169 : BitVec 32 := Scalar.muli v32 c1_i32_1242
  let v1170 : BitVec 32 := Scalar.addi c0_i32_1243 v1169
  v1170.toNat
def k0_dev45 (d0 : Dev nD) : Nat :=
  let c0_i32_1285 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_45 : BitVec 32 := 14#32
  let v61 : BitVec 1 := Scalar.cmpi .eq v2 c14_i32_45
  let c13_i32_46 : BitVec 32 := 13#32
  let c13_i32_43 : BitVec 32 := 13#32
  let v59 : BitVec 1 := Scalar.cmpi .eq v2 c13_i32_43
  let c9_i32_44 : BitVec 32 := 9#32
  let c12_i32_41 : BitVec 32 := 12#32
  let v57 : BitVec 1 := Scalar.cmpi .eq v2 c12_i32_41
  let c15_i32_42 : BitVec 32 := 15#32
  let c11_i32_39 : BitVec 32 := 11#32
  let v55 : BitVec 1 := Scalar.cmpi .eq v2 c11_i32_39
  let c7_i32_40 : BitVec 32 := 7#32
  let c10_i32_37 : BitVec 32 := 10#32
  let v53 : BitVec 1 := Scalar.cmpi .eq v2 c10_i32_37
  let c14_i32_38 : BitVec 32 := 14#32
  let c9_i32_35 : BitVec 32 := 9#32
  let v51 : BitVec 1 := Scalar.cmpi .eq v2 c9_i32_35
  let c5_i32_36 : BitVec 32 := 5#32
  let c8_i32_33 : BitVec 32 := 8#32
  let v49 : BitVec 1 := Scalar.cmpi .eq v2 c8_i32_33
  let c12_i32_34 : BitVec 32 := 12#32
  let c7_i32_31 : BitVec 32 := 7#32
  let v47 : BitVec 1 := Scalar.cmpi .eq v2 c7_i32_31
  let c3_i32_32 : BitVec 32 := 3#32
  let c6_i32_29 : BitVec 32 := 6#32
  let v45 : BitVec 1 := Scalar.cmpi .eq v2 c6_i32_29
  let c10_i32_30 : BitVec 32 := 10#32
  let c5_i32_27 : BitVec 32 := 5#32
  let v43 : BitVec 1 := Scalar.cmpi .eq v2 c5_i32_27
  let c1_i32_28 : BitVec 32 := 1#32
  let c4_i32_25 : BitVec 32 := 4#32
  let v41 : BitVec 1 := Scalar.cmpi .eq v2 c4_i32_25
  let c8_i32_26 : BitVec 32 := 8#32
  let c3_i32_23 : BitVec 32 := 3#32
  let v39 : BitVec 1 := Scalar.cmpi .eq v2 c3_i32_23
  let c2_i32_24 : BitVec 32 := 2#32
  let c2_i32_21 : BitVec 32 := 2#32
  let v37 : BitVec 1 := Scalar.cmpi .eq v2 c2_i32_21
  let c6_i32_22 : BitVec 32 := 6#32
  let c1_i32_19 : BitVec 32 := 1#32
  let v35 : BitVec 1 := Scalar.cmpi .eq v2 c1_i32_19
  let c0_i32_20 : BitVec 32 := 0#32
  let c0_i32_16 : BitVec 32 := 0#32
  let v33 : BitVec 1 := Scalar.cmpi .eq v2 c0_i32_16
  let c4_i32_17 : BitVec 32 := 4#32
  let c11_i32_18 : BitVec 32 := 11#32
  let v34 : BitVec 32 := Scalar.select v33 c4_i32_17 c11_i32_18
  let v36 : BitVec 32 := Scalar.select v35 c0_i32_20 v34
  let v38 : BitVec 32 := Scalar.select v37 c6_i32_22 v36
  let v40 : BitVec 32 := Scalar.select v39 c2_i32_24 v38
  let v42 : BitVec 32 := Scalar.select v41 c8_i32_26 v40
  let v44 : BitVec 32 := Scalar.select v43 c1_i32_28 v42
  let v46 : BitVec 32 := Scalar.select v45 c10_i32_30 v44
  let v48 : BitVec 32 := Scalar.select v47 c3_i32_32 v46
  let v50 : BitVec 32 := Scalar.select v49 c12_i32_34 v48
  let v52 : BitVec 32 := Scalar.select v51 c5_i32_36 v50
  let v54 : BitVec 32 := Scalar.select v53 c14_i32_38 v52
  let v56 : BitVec 32 := Scalar.select v55 c7_i32_40 v54
  let v58 : BitVec 32 := Scalar.select v57 c15_i32_42 v56
  let v60 : BitVec 32 := Scalar.select v59 c9_i32_44 v58
  let v62 : BitVec 32 := Scalar.select v61 c13_i32_46 v60
  let c1_i32_1284 : BitVec 32 := 1#32
  let v1195 : BitVec 32 := Scalar.muli v62 c1_i32_1284
  let v1196 : BitVec 32 := Scalar.addi c0_i32_1285 v1195
  v1196.toNat
def k0_dev46 (d0 : Dev nD) : Nat :=
  let c0_i32_1299 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_45 : BitVec 32 := 14#32
  let v61 : BitVec 1 := Scalar.cmpi .eq v2 c14_i32_45
  let c13_i32_46 : BitVec 32 := 13#32
  let c13_i32_43 : BitVec 32 := 13#32
  let v59 : BitVec 1 := Scalar.cmpi .eq v2 c13_i32_43
  let c9_i32_44 : BitVec 32 := 9#32
  let c12_i32_41 : BitVec 32 := 12#32
  let v57 : BitVec 1 := Scalar.cmpi .eq v2 c12_i32_41
  let c15_i32_42 : BitVec 32 := 15#32
  let c11_i32_39 : BitVec 32 := 11#32
  let v55 : BitVec 1 := Scalar.cmpi .eq v2 c11_i32_39
  let c7_i32_40 : BitVec 32 := 7#32
  let c10_i32_37 : BitVec 32 := 10#32
  let v53 : BitVec 1 := Scalar.cmpi .eq v2 c10_i32_37
  let c14_i32_38 : BitVec 32 := 14#32
  let c9_i32_35 : BitVec 32 := 9#32
  let v51 : BitVec 1 := Scalar.cmpi .eq v2 c9_i32_35
  let c5_i32_36 : BitVec 32 := 5#32
  let c8_i32_33 : BitVec 32 := 8#32
  let v49 : BitVec 1 := Scalar.cmpi .eq v2 c8_i32_33
  let c12_i32_34 : BitVec 32 := 12#32
  let c7_i32_31 : BitVec 32 := 7#32
  let v47 : BitVec 1 := Scalar.cmpi .eq v2 c7_i32_31
  let c3_i32_32 : BitVec 32 := 3#32
  let c6_i32_29 : BitVec 32 := 6#32
  let v45 : BitVec 1 := Scalar.cmpi .eq v2 c6_i32_29
  let c10_i32_30 : BitVec 32 := 10#32
  let c5_i32_27 : BitVec 32 := 5#32
  let v43 : BitVec 1 := Scalar.cmpi .eq v2 c5_i32_27
  let c1_i32_28 : BitVec 32 := 1#32
  let c4_i32_25 : BitVec 32 := 4#32
  let v41 : BitVec 1 := Scalar.cmpi .eq v2 c4_i32_25
  let c8_i32_26 : BitVec 32 := 8#32
  let c3_i32_23 : BitVec 32 := 3#32
  let v39 : BitVec 1 := Scalar.cmpi .eq v2 c3_i32_23
  let c2_i32_24 : BitVec 32 := 2#32
  let c2_i32_21 : BitVec 32 := 2#32
  let v37 : BitVec 1 := Scalar.cmpi .eq v2 c2_i32_21
  let c6_i32_22 : BitVec 32 := 6#32
  let c1_i32_19 : BitVec 32 := 1#32
  let v35 : BitVec 1 := Scalar.cmpi .eq v2 c1_i32_19
  let c0_i32_20 : BitVec 32 := 0#32
  let c0_i32_16 : BitVec 32 := 0#32
  let v33 : BitVec 1 := Scalar.cmpi .eq v2 c0_i32_16
  let c4_i32_17 : BitVec 32 := 4#32
  let c11_i32_18 : BitVec 32 := 11#32
  let v34 : BitVec 32 := Scalar.select v33 c4_i32_17 c11_i32_18
  let v36 : BitVec 32 := Scalar.select v35 c0_i32_20 v34
  let v38 : BitVec 32 := Scalar.select v37 c6_i32_22 v36
  let v40 : BitVec 32 := Scalar.select v39 c2_i32_24 v38
  let v42 : BitVec 32 := Scalar.select v41 c8_i32_26 v40
  let v44 : BitVec 32 := Scalar.select v43 c1_i32_28 v42
  let v46 : BitVec 32 := Scalar.select v45 c10_i32_30 v44
  let v48 : BitVec 32 := Scalar.select v47 c3_i32_32 v46
  let v50 : BitVec 32 := Scalar.select v49 c12_i32_34 v48
  let v52 : BitVec 32 := Scalar.select v51 c5_i32_36 v50
  let v54 : BitVec 32 := Scalar.select v53 c14_i32_38 v52
  let v56 : BitVec 32 := Scalar.select v55 c7_i32_40 v54
  let v58 : BitVec 32 := Scalar.select v57 c15_i32_42 v56
  let v60 : BitVec 32 := Scalar.select v59 c9_i32_44 v58
  let v62 : BitVec 32 := Scalar.select v61 c13_i32_46 v60
  let c1_i32_1298 : BitVec 32 := 1#32
  let v1205 : BitVec 32 := Scalar.muli v62 c1_i32_1298
  let v1206 : BitVec 32 := Scalar.addi c0_i32_1299 v1205
  v1206.toNat
def k0_dev47 (d0 : Dev nD) : Nat :=
  let c0_i32_1395 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_14 : BitVec 32 := 14#32
  let v31 : BitVec 1 := Scalar.cmpi .eq v2 c14_i32_14
  let c10_i32_15 : BitVec 32 := 10#32
  let c13_i32_13 : BitVec 32 := 13#32
  let v29 : BitVec 1 := Scalar.cmpi .eq v2 c13_i32_13
  let c14_i32 : BitVec 32 := 14#32
  let c12_i32_11 : BitVec 32 := 12#32
  let v27 : BitVec 1 := Scalar.cmpi .eq v2 c12_i32_11
  let c8_i32_12 : BitVec 32 := 8#32
  let c11_i32_10 : BitVec 32 := 11#32
  let v25 : BitVec 1 := Scalar.cmpi .eq v2 c11_i32_10
  let c15_i32 : BitVec 32 := 15#32
  let c10_i32 : BitVec 32 := 10#32
  let v23 : BitVec 1 := Scalar.cmpi .eq v2 c10_i32
  let c6_i32_9 : BitVec 32 := 6#32
  let c9_i32_8 : BitVec 32 := 9#32
  let v21 : BitVec 1 := Scalar.cmpi .eq v2 c9_i32_8
  let c13_i32 : BitVec 32 := 13#32
  let c8_i32 : BitVec 32 := 8#32
  let v19 : BitVec 1 := Scalar.cmpi .eq v2 c8_i32
  let c4_i32_7 : BitVec 32 := 4#32
  let c7_i32_6 : BitVec 32 := 7#32
  let v17 : BitVec 1 := Scalar.cmpi .eq v2 c7_i32_6
  let c11_i32 : BitVec 32 := 11#32
  let c6_i32 : BitVec 32 := 6#32
  let v15 : BitVec 1 := Scalar.cmpi .eq v2 c6_i32
  let c2_i32_5 : BitVec 32 := 2#32
  let c5_i32_4 : BitVec 32 := 5#32
  let v13 : BitVec 1 := Scalar.cmpi .eq v2 c5_i32_4
  let c9_i32 : BitVec 32 := 9#32
  let c4_i32 : BitVec 32 := 4#32
  let v11 : BitVec 1 := Scalar.cmpi .eq v2 c4_i32
  let c0_i32_3 : BitVec 32 := 0#32
  let c3_i32_2 : BitVec 32 := 3#32
  let v9 : BitVec 1 := Scalar.cmpi .eq v2 c3_i32_2
  let c7_i32 : BitVec 32 := 7#32
  let c2_i32 : BitVec 32 := 2#32
  let v7 : BitVec 1 := Scalar.cmpi .eq v2 c2_i32
  let c3_i32 : BitVec 32 := 3#32
  let c1_i32_1 : BitVec 32 := 1#32
  let v5 : BitVec 1 := Scalar.cmpi .eq v2 c1_i32_1
  let c5_i32 : BitVec 32 := 5#32
  let c0_i32 : BitVec 32 := 0#32
  let v3 : BitVec 1 := Scalar.cmpi .eq v2 c0_i32
  let c1_i32_0 : BitVec 32 := 1#32
  let c12_i32 : BitVec 32 := 12#32
  let v4 : BitVec 32 := Scalar.select v3 c1_i32_0 c12_i32
  let v6 : BitVec 32 := Scalar.select v5 c5_i32 v4
  let v8 : BitVec 32 := Scalar.select v7 c3_i32 v6
  let v10 : BitVec 32 := Scalar.select v9 c7_i32 v8
  let v12 : BitVec 32 := Scalar.select v11 c0_i32_3 v10
  let v14 : BitVec 32 := Scalar.select v13 c9_i32 v12
  let v16 : BitVec 32 := Scalar.select v15 c2_i32_5 v14
  let v18 : BitVec 32 := Scalar.select v17 c11_i32 v16
  let v20 : BitVec 32 := Scalar.select v19 c4_i32_7 v18
  let v22 : BitVec 32 := Scalar.select v21 c13_i32 v20
  let v24 : BitVec 32 := Scalar.select v23 c6_i32_9 v22
  let v26 : BitVec 32 := Scalar.select v25 c15_i32 v24
  let v28 : BitVec 32 := Scalar.select v27 c8_i32_12 v26
  let v30 : BitVec 32 := Scalar.select v29 c14_i32 v28
  let v32 : BitVec 32 := Scalar.select v31 c10_i32_15 v30
  let c1_i32_1394 : BitVec 32 := 1#32
  let v1285 : BitVec 32 := Scalar.muli v32 c1_i32_1394
  let v1286 : BitVec 32 := Scalar.addi c0_i32_1395 v1285
  v1286.toNat
def k0_dev48 (d0 : Dev nD) : Nat :=
  let c0_i32_1409 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_14 : BitVec 32 := 14#32
  let v31 : BitVec 1 := Scalar.cmpi .eq v2 c14_i32_14
  let c10_i32_15 : BitVec 32 := 10#32
  let c13_i32_13 : BitVec 32 := 13#32
  let v29 : BitVec 1 := Scalar.cmpi .eq v2 c13_i32_13
  let c14_i32 : BitVec 32 := 14#32
  let c12_i32_11 : BitVec 32 := 12#32
  let v27 : BitVec 1 := Scalar.cmpi .eq v2 c12_i32_11
  let c8_i32_12 : BitVec 32 := 8#32
  let c11_i32_10 : BitVec 32 := 11#32
  let v25 : BitVec 1 := Scalar.cmpi .eq v2 c11_i32_10
  let c15_i32 : BitVec 32 := 15#32
  let c10_i32 : BitVec 32 := 10#32
  let v23 : BitVec 1 := Scalar.cmpi .eq v2 c10_i32
  let c6_i32_9 : BitVec 32 := 6#32
  let c9_i32_8 : BitVec 32 := 9#32
  let v21 : BitVec 1 := Scalar.cmpi .eq v2 c9_i32_8
  let c13_i32 : BitVec 32 := 13#32
  let c8_i32 : BitVec 32 := 8#32
  let v19 : BitVec 1 := Scalar.cmpi .eq v2 c8_i32
  let c4_i32_7 : BitVec 32 := 4#32
  let c7_i32_6 : BitVec 32 := 7#32
  let v17 : BitVec 1 := Scalar.cmpi .eq v2 c7_i32_6
  let c11_i32 : BitVec 32 := 11#32
  let c6_i32 : BitVec 32 := 6#32
  let v15 : BitVec 1 := Scalar.cmpi .eq v2 c6_i32
  let c2_i32_5 : BitVec 32 := 2#32
  let c5_i32_4 : BitVec 32 := 5#32
  let v13 : BitVec 1 := Scalar.cmpi .eq v2 c5_i32_4
  let c9_i32 : BitVec 32 := 9#32
  let c4_i32 : BitVec 32 := 4#32
  let v11 : BitVec 1 := Scalar.cmpi .eq v2 c4_i32
  let c0_i32_3 : BitVec 32 := 0#32
  let c3_i32_2 : BitVec 32 := 3#32
  let v9 : BitVec 1 := Scalar.cmpi .eq v2 c3_i32_2
  let c7_i32 : BitVec 32 := 7#32
  let c2_i32 : BitVec 32 := 2#32
  let v7 : BitVec 1 := Scalar.cmpi .eq v2 c2_i32
  let c3_i32 : BitVec 32 := 3#32
  let c1_i32_1 : BitVec 32 := 1#32
  let v5 : BitVec 1 := Scalar.cmpi .eq v2 c1_i32_1
  let c5_i32 : BitVec 32 := 5#32
  let c0_i32 : BitVec 32 := 0#32
  let v3 : BitVec 1 := Scalar.cmpi .eq v2 c0_i32
  let c1_i32_0 : BitVec 32 := 1#32
  let c12_i32 : BitVec 32 := 12#32
  let v4 : BitVec 32 := Scalar.select v3 c1_i32_0 c12_i32
  let v6 : BitVec 32 := Scalar.select v5 c5_i32 v4
  let v8 : BitVec 32 := Scalar.select v7 c3_i32 v6
  let v10 : BitVec 32 := Scalar.select v9 c7_i32 v8
  let v12 : BitVec 32 := Scalar.select v11 c0_i32_3 v10
  let v14 : BitVec 32 := Scalar.select v13 c9_i32 v12
  let v16 : BitVec 32 := Scalar.select v15 c2_i32_5 v14
  let v18 : BitVec 32 := Scalar.select v17 c11_i32 v16
  let v20 : BitVec 32 := Scalar.select v19 c4_i32_7 v18
  let v22 : BitVec 32 := Scalar.select v21 c13_i32 v20
  let v24 : BitVec 32 := Scalar.select v23 c6_i32_9 v22
  let v26 : BitVec 32 := Scalar.select v25 c15_i32 v24
  let v28 : BitVec 32 := Scalar.select v27 c8_i32_12 v26
  let v30 : BitVec 32 := Scalar.select v29 c14_i32 v28
  let v32 : BitVec 32 := Scalar.select v31 c10_i32_15 v30
  let c1_i32_1408 : BitVec 32 := 1#32
  let v1295 : BitVec 32 := Scalar.muli v32 c1_i32_1408
  let v1296 : BitVec 32 := Scalar.addi c0_i32_1409 v1295
  v1296.toNat
def k0_dev49 (d0 : Dev nD) : Nat :=
  let c0_i32_1451 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_45 : BitVec 32 := 14#32
  let v61 : BitVec 1 := Scalar.cmpi .eq v2 c14_i32_45
  let c13_i32_46 : BitVec 32 := 13#32
  let c13_i32_43 : BitVec 32 := 13#32
  let v59 : BitVec 1 := Scalar.cmpi .eq v2 c13_i32_43
  let c9_i32_44 : BitVec 32 := 9#32
  let c12_i32_41 : BitVec 32 := 12#32
  let v57 : BitVec 1 := Scalar.cmpi .eq v2 c12_i32_41
  let c15_i32_42 : BitVec 32 := 15#32
  let c11_i32_39 : BitVec 32 := 11#32
  let v55 : BitVec 1 := Scalar.cmpi .eq v2 c11_i32_39
  let c7_i32_40 : BitVec 32 := 7#32
  let c10_i32_37 : BitVec 32 := 10#32
  let v53 : BitVec 1 := Scalar.cmpi .eq v2 c10_i32_37
  let c14_i32_38 : BitVec 32 := 14#32
  let c9_i32_35 : BitVec 32 := 9#32
  let v51 : BitVec 1 := Scalar.cmpi .eq v2 c9_i32_35
  let c5_i32_36 : BitVec 32 := 5#32
  let c8_i32_33 : BitVec 32 := 8#32
  let v49 : BitVec 1 := Scalar.cmpi .eq v2 c8_i32_33
  let c12_i32_34 : BitVec 32 := 12#32
  let c7_i32_31 : BitVec 32 := 7#32
  let v47 : BitVec 1 := Scalar.cmpi .eq v2 c7_i32_31
  let c3_i32_32 : BitVec 32 := 3#32
  let c6_i32_29 : BitVec 32 := 6#32
  let v45 : BitVec 1 := Scalar.cmpi .eq v2 c6_i32_29
  let c10_i32_30 : BitVec 32 := 10#32
  let c5_i32_27 : BitVec 32 := 5#32
  let v43 : BitVec 1 := Scalar.cmpi .eq v2 c5_i32_27
  let c1_i32_28 : BitVec 32 := 1#32
  let c4_i32_25 : BitVec 32 := 4#32
  let v41 : BitVec 1 := Scalar.cmpi .eq v2 c4_i32_25
  let c8_i32_26 : BitVec 32 := 8#32
  let c3_i32_23 : BitVec 32 := 3#32
  let v39 : BitVec 1 := Scalar.cmpi .eq v2 c3_i32_23
  let c2_i32_24 : BitVec 32 := 2#32
  let c2_i32_21 : BitVec 32 := 2#32
  let v37 : BitVec 1 := Scalar.cmpi .eq v2 c2_i32_21
  let c6_i32_22 : BitVec 32 := 6#32
  let c1_i32_19 : BitVec 32 := 1#32
  let v35 : BitVec 1 := Scalar.cmpi .eq v2 c1_i32_19
  let c0_i32_20 : BitVec 32 := 0#32
  let c0_i32_16 : BitVec 32 := 0#32
  let v33 : BitVec 1 := Scalar.cmpi .eq v2 c0_i32_16
  let c4_i32_17 : BitVec 32 := 4#32
  let c11_i32_18 : BitVec 32 := 11#32
  let v34 : BitVec 32 := Scalar.select v33 c4_i32_17 c11_i32_18
  let v36 : BitVec 32 := Scalar.select v35 c0_i32_20 v34
  let v38 : BitVec 32 := Scalar.select v37 c6_i32_22 v36
  let v40 : BitVec 32 := Scalar.select v39 c2_i32_24 v38
  let v42 : BitVec 32 := Scalar.select v41 c8_i32_26 v40
  let v44 : BitVec 32 := Scalar.select v43 c1_i32_28 v42
  let v46 : BitVec 32 := Scalar.select v45 c10_i32_30 v44
  let v48 : BitVec 32 := Scalar.select v47 c3_i32_32 v46
  let v50 : BitVec 32 := Scalar.select v49 c12_i32_34 v48
  let v52 : BitVec 32 := Scalar.select v51 c5_i32_36 v50
  let v54 : BitVec 32 := Scalar.select v53 c14_i32_38 v52
  let v56 : BitVec 32 := Scalar.select v55 c7_i32_40 v54
  let v58 : BitVec 32 := Scalar.select v57 c15_i32_42 v56
  let v60 : BitVec 32 := Scalar.select v59 c9_i32_44 v58
  let v62 : BitVec 32 := Scalar.select v61 c13_i32_46 v60
  let c1_i32_1450 : BitVec 32 := 1#32
  let v1321 : BitVec 32 := Scalar.muli v62 c1_i32_1450
  let v1322 : BitVec 32 := Scalar.addi c0_i32_1451 v1321
  v1322.toNat
def k0_dev50 (d0 : Dev nD) : Nat :=
  let c0_i32_1465 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_45 : BitVec 32 := 14#32
  let v61 : BitVec 1 := Scalar.cmpi .eq v2 c14_i32_45
  let c13_i32_46 : BitVec 32 := 13#32
  let c13_i32_43 : BitVec 32 := 13#32
  let v59 : BitVec 1 := Scalar.cmpi .eq v2 c13_i32_43
  let c9_i32_44 : BitVec 32 := 9#32
  let c12_i32_41 : BitVec 32 := 12#32
  let v57 : BitVec 1 := Scalar.cmpi .eq v2 c12_i32_41
  let c15_i32_42 : BitVec 32 := 15#32
  let c11_i32_39 : BitVec 32 := 11#32
  let v55 : BitVec 1 := Scalar.cmpi .eq v2 c11_i32_39
  let c7_i32_40 : BitVec 32 := 7#32
  let c10_i32_37 : BitVec 32 := 10#32
  let v53 : BitVec 1 := Scalar.cmpi .eq v2 c10_i32_37
  let c14_i32_38 : BitVec 32 := 14#32
  let c9_i32_35 : BitVec 32 := 9#32
  let v51 : BitVec 1 := Scalar.cmpi .eq v2 c9_i32_35
  let c5_i32_36 : BitVec 32 := 5#32
  let c8_i32_33 : BitVec 32 := 8#32
  let v49 : BitVec 1 := Scalar.cmpi .eq v2 c8_i32_33
  let c12_i32_34 : BitVec 32 := 12#32
  let c7_i32_31 : BitVec 32 := 7#32
  let v47 : BitVec 1 := Scalar.cmpi .eq v2 c7_i32_31
  let c3_i32_32 : BitVec 32 := 3#32
  let c6_i32_29 : BitVec 32 := 6#32
  let v45 : BitVec 1 := Scalar.cmpi .eq v2 c6_i32_29
  let c10_i32_30 : BitVec 32 := 10#32
  let c5_i32_27 : BitVec 32 := 5#32
  let v43 : BitVec 1 := Scalar.cmpi .eq v2 c5_i32_27
  let c1_i32_28 : BitVec 32 := 1#32
  let c4_i32_25 : BitVec 32 := 4#32
  let v41 : BitVec 1 := Scalar.cmpi .eq v2 c4_i32_25
  let c8_i32_26 : BitVec 32 := 8#32
  let c3_i32_23 : BitVec 32 := 3#32
  let v39 : BitVec 1 := Scalar.cmpi .eq v2 c3_i32_23
  let c2_i32_24 : BitVec 32 := 2#32
  let c2_i32_21 : BitVec 32 := 2#32
  let v37 : BitVec 1 := Scalar.cmpi .eq v2 c2_i32_21
  let c6_i32_22 : BitVec 32 := 6#32
  let c1_i32_19 : BitVec 32 := 1#32
  let v35 : BitVec 1 := Scalar.cmpi .eq v2 c1_i32_19
  let c0_i32_20 : BitVec 32 := 0#32
  let c0_i32_16 : BitVec 32 := 0#32
  let v33 : BitVec 1 := Scalar.cmpi .eq v2 c0_i32_16
  let c4_i32_17 : BitVec 32 := 4#32
  let c11_i32_18 : BitVec 32 := 11#32
  let v34 : BitVec 32 := Scalar.select v33 c4_i32_17 c11_i32_18
  let v36 : BitVec 32 := Scalar.select v35 c0_i32_20 v34
  let v38 : BitVec 32 := Scalar.select v37 c6_i32_22 v36
  let v40 : BitVec 32 := Scalar.select v39 c2_i32_24 v38
  let v42 : BitVec 32 := Scalar.select v41 c8_i32_26 v40
  let v44 : BitVec 32 := Scalar.select v43 c1_i32_28 v42
  let v46 : BitVec 32 := Scalar.select v45 c10_i32_30 v44
  let v48 : BitVec 32 := Scalar.select v47 c3_i32_32 v46
  let v50 : BitVec 32 := Scalar.select v49 c12_i32_34 v48
  let v52 : BitVec 32 := Scalar.select v51 c5_i32_36 v50
  let v54 : BitVec 32 := Scalar.select v53 c14_i32_38 v52
  let v56 : BitVec 32 := Scalar.select v55 c7_i32_40 v54
  let v58 : BitVec 32 := Scalar.select v57 c15_i32_42 v56
  let v60 : BitVec 32 := Scalar.select v59 c9_i32_44 v58
  let v62 : BitVec 32 := Scalar.select v61 c13_i32_46 v60
  let c1_i32_1464 : BitVec 32 := 1#32
  let v1331 : BitVec 32 := Scalar.muli v62 c1_i32_1464
  let v1332 : BitVec 32 := Scalar.addi c0_i32_1465 v1331
  v1332.toNat
def k0_dev51 (d0 : Dev nD) : Nat :=
  let c0_i32_1561 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_14 : BitVec 32 := 14#32
  let v31 : BitVec 1 := Scalar.cmpi .eq v2 c14_i32_14
  let c10_i32_15 : BitVec 32 := 10#32
  let c13_i32_13 : BitVec 32 := 13#32
  let v29 : BitVec 1 := Scalar.cmpi .eq v2 c13_i32_13
  let c14_i32 : BitVec 32 := 14#32
  let c12_i32_11 : BitVec 32 := 12#32
  let v27 : BitVec 1 := Scalar.cmpi .eq v2 c12_i32_11
  let c8_i32_12 : BitVec 32 := 8#32
  let c11_i32_10 : BitVec 32 := 11#32
  let v25 : BitVec 1 := Scalar.cmpi .eq v2 c11_i32_10
  let c15_i32 : BitVec 32 := 15#32
  let c10_i32 : BitVec 32 := 10#32
  let v23 : BitVec 1 := Scalar.cmpi .eq v2 c10_i32
  let c6_i32_9 : BitVec 32 := 6#32
  let c9_i32_8 : BitVec 32 := 9#32
  let v21 : BitVec 1 := Scalar.cmpi .eq v2 c9_i32_8
  let c13_i32 : BitVec 32 := 13#32
  let c8_i32 : BitVec 32 := 8#32
  let v19 : BitVec 1 := Scalar.cmpi .eq v2 c8_i32
  let c4_i32_7 : BitVec 32 := 4#32
  let c7_i32_6 : BitVec 32 := 7#32
  let v17 : BitVec 1 := Scalar.cmpi .eq v2 c7_i32_6
  let c11_i32 : BitVec 32 := 11#32
  let c6_i32 : BitVec 32 := 6#32
  let v15 : BitVec 1 := Scalar.cmpi .eq v2 c6_i32
  let c2_i32_5 : BitVec 32 := 2#32
  let c5_i32_4 : BitVec 32 := 5#32
  let v13 : BitVec 1 := Scalar.cmpi .eq v2 c5_i32_4
  let c9_i32 : BitVec 32 := 9#32
  let c4_i32 : BitVec 32 := 4#32
  let v11 : BitVec 1 := Scalar.cmpi .eq v2 c4_i32
  let c0_i32_3 : BitVec 32 := 0#32
  let c3_i32_2 : BitVec 32 := 3#32
  let v9 : BitVec 1 := Scalar.cmpi .eq v2 c3_i32_2
  let c7_i32 : BitVec 32 := 7#32
  let c2_i32 : BitVec 32 := 2#32
  let v7 : BitVec 1 := Scalar.cmpi .eq v2 c2_i32
  let c3_i32 : BitVec 32 := 3#32
  let c1_i32_1 : BitVec 32 := 1#32
  let v5 : BitVec 1 := Scalar.cmpi .eq v2 c1_i32_1
  let c5_i32 : BitVec 32 := 5#32
  let c0_i32 : BitVec 32 := 0#32
  let v3 : BitVec 1 := Scalar.cmpi .eq v2 c0_i32
  let c1_i32_0 : BitVec 32 := 1#32
  let c12_i32 : BitVec 32 := 12#32
  let v4 : BitVec 32 := Scalar.select v3 c1_i32_0 c12_i32
  let v6 : BitVec 32 := Scalar.select v5 c5_i32 v4
  let v8 : BitVec 32 := Scalar.select v7 c3_i32 v6
  let v10 : BitVec 32 := Scalar.select v9 c7_i32 v8
  let v12 : BitVec 32 := Scalar.select v11 c0_i32_3 v10
  let v14 : BitVec 32 := Scalar.select v13 c9_i32 v12
  let v16 : BitVec 32 := Scalar.select v15 c2_i32_5 v14
  let v18 : BitVec 32 := Scalar.select v17 c11_i32 v16
  let v20 : BitVec 32 := Scalar.select v19 c4_i32_7 v18
  let v22 : BitVec 32 := Scalar.select v21 c13_i32 v20
  let v24 : BitVec 32 := Scalar.select v23 c6_i32_9 v22
  let v26 : BitVec 32 := Scalar.select v25 c15_i32 v24
  let v28 : BitVec 32 := Scalar.select v27 c8_i32_12 v26
  let v30 : BitVec 32 := Scalar.select v29 c14_i32 v28
  let v32 : BitVec 32 := Scalar.select v31 c10_i32_15 v30
  let c1_i32_1560 : BitVec 32 := 1#32
  let v1411 : BitVec 32 := Scalar.muli v32 c1_i32_1560
  let v1412 : BitVec 32 := Scalar.addi c0_i32_1561 v1411
  v1412.toNat
def k0_dev52 (d0 : Dev nD) : Nat :=
  let c0_i32_1575 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_14 : BitVec 32 := 14#32
  let v31 : BitVec 1 := Scalar.cmpi .eq v2 c14_i32_14
  let c10_i32_15 : BitVec 32 := 10#32
  let c13_i32_13 : BitVec 32 := 13#32
  let v29 : BitVec 1 := Scalar.cmpi .eq v2 c13_i32_13
  let c14_i32 : BitVec 32 := 14#32
  let c12_i32_11 : BitVec 32 := 12#32
  let v27 : BitVec 1 := Scalar.cmpi .eq v2 c12_i32_11
  let c8_i32_12 : BitVec 32 := 8#32
  let c11_i32_10 : BitVec 32 := 11#32
  let v25 : BitVec 1 := Scalar.cmpi .eq v2 c11_i32_10
  let c15_i32 : BitVec 32 := 15#32
  let c10_i32 : BitVec 32 := 10#32
  let v23 : BitVec 1 := Scalar.cmpi .eq v2 c10_i32
  let c6_i32_9 : BitVec 32 := 6#32
  let c9_i32_8 : BitVec 32 := 9#32
  let v21 : BitVec 1 := Scalar.cmpi .eq v2 c9_i32_8
  let c13_i32 : BitVec 32 := 13#32
  let c8_i32 : BitVec 32 := 8#32
  let v19 : BitVec 1 := Scalar.cmpi .eq v2 c8_i32
  let c4_i32_7 : BitVec 32 := 4#32
  let c7_i32_6 : BitVec 32 := 7#32
  let v17 : BitVec 1 := Scalar.cmpi .eq v2 c7_i32_6
  let c11_i32 : BitVec 32 := 11#32
  let c6_i32 : BitVec 32 := 6#32
  let v15 : BitVec 1 := Scalar.cmpi .eq v2 c6_i32
  let c2_i32_5 : BitVec 32 := 2#32
  let c5_i32_4 : BitVec 32 := 5#32
  let v13 : BitVec 1 := Scalar.cmpi .eq v2 c5_i32_4
  let c9_i32 : BitVec 32 := 9#32
  let c4_i32 : BitVec 32 := 4#32
  let v11 : BitVec 1 := Scalar.cmpi .eq v2 c4_i32
  let c0_i32_3 : BitVec 32 := 0#32
  let c3_i32_2 : BitVec 32 := 3#32
  let v9 : BitVec 1 := Scalar.cmpi .eq v2 c3_i32_2
  let c7_i32 : BitVec 32 := 7#32
  let c2_i32 : BitVec 32 := 2#32
  let v7 : BitVec 1 := Scalar.cmpi .eq v2 c2_i32
  let c3_i32 : BitVec 32 := 3#32
  let c1_i32_1 : BitVec 32 := 1#32
  let v5 : BitVec 1 := Scalar.cmpi .eq v2 c1_i32_1
  let c5_i32 : BitVec 32 := 5#32
  let c0_i32 : BitVec 32 := 0#32
  let v3 : BitVec 1 := Scalar.cmpi .eq v2 c0_i32
  let c1_i32_0 : BitVec 32 := 1#32
  let c12_i32 : BitVec 32 := 12#32
  let v4 : BitVec 32 := Scalar.select v3 c1_i32_0 c12_i32
  let v6 : BitVec 32 := Scalar.select v5 c5_i32 v4
  let v8 : BitVec 32 := Scalar.select v7 c3_i32 v6
  let v10 : BitVec 32 := Scalar.select v9 c7_i32 v8
  let v12 : BitVec 32 := Scalar.select v11 c0_i32_3 v10
  let v14 : BitVec 32 := Scalar.select v13 c9_i32 v12
  let v16 : BitVec 32 := Scalar.select v15 c2_i32_5 v14
  let v18 : BitVec 32 := Scalar.select v17 c11_i32 v16
  let v20 : BitVec 32 := Scalar.select v19 c4_i32_7 v18
  let v22 : BitVec 32 := Scalar.select v21 c13_i32 v20
  let v24 : BitVec 32 := Scalar.select v23 c6_i32_9 v22
  let v26 : BitVec 32 := Scalar.select v25 c15_i32 v24
  let v28 : BitVec 32 := Scalar.select v27 c8_i32_12 v26
  let v30 : BitVec 32 := Scalar.select v29 c14_i32 v28
  let v32 : BitVec 32 := Scalar.select v31 c10_i32_15 v30
  let c1_i32_1574 : BitVec 32 := 1#32
  let v1421 : BitVec 32 := Scalar.muli v32 c1_i32_1574
  let v1422 : BitVec 32 := Scalar.addi c0_i32_1575 v1421
  v1422.toNat
def k0_dev53 (d0 : Dev nD) : Nat :=
  let c0_i32_1617 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_45 : BitVec 32 := 14#32
  let v61 : BitVec 1 := Scalar.cmpi .eq v2 c14_i32_45
  let c13_i32_46 : BitVec 32 := 13#32
  let c13_i32_43 : BitVec 32 := 13#32
  let v59 : BitVec 1 := Scalar.cmpi .eq v2 c13_i32_43
  let c9_i32_44 : BitVec 32 := 9#32
  let c12_i32_41 : BitVec 32 := 12#32
  let v57 : BitVec 1 := Scalar.cmpi .eq v2 c12_i32_41
  let c15_i32_42 : BitVec 32 := 15#32
  let c11_i32_39 : BitVec 32 := 11#32
  let v55 : BitVec 1 := Scalar.cmpi .eq v2 c11_i32_39
  let c7_i32_40 : BitVec 32 := 7#32
  let c10_i32_37 : BitVec 32 := 10#32
  let v53 : BitVec 1 := Scalar.cmpi .eq v2 c10_i32_37
  let c14_i32_38 : BitVec 32 := 14#32
  let c9_i32_35 : BitVec 32 := 9#32
  let v51 : BitVec 1 := Scalar.cmpi .eq v2 c9_i32_35
  let c5_i32_36 : BitVec 32 := 5#32
  let c8_i32_33 : BitVec 32 := 8#32
  let v49 : BitVec 1 := Scalar.cmpi .eq v2 c8_i32_33
  let c12_i32_34 : BitVec 32 := 12#32
  let c7_i32_31 : BitVec 32 := 7#32
  let v47 : BitVec 1 := Scalar.cmpi .eq v2 c7_i32_31
  let c3_i32_32 : BitVec 32 := 3#32
  let c6_i32_29 : BitVec 32 := 6#32
  let v45 : BitVec 1 := Scalar.cmpi .eq v2 c6_i32_29
  let c10_i32_30 : BitVec 32 := 10#32
  let c5_i32_27 : BitVec 32 := 5#32
  let v43 : BitVec 1 := Scalar.cmpi .eq v2 c5_i32_27
  let c1_i32_28 : BitVec 32 := 1#32
  let c4_i32_25 : BitVec 32 := 4#32
  let v41 : BitVec 1 := Scalar.cmpi .eq v2 c4_i32_25
  let c8_i32_26 : BitVec 32 := 8#32
  let c3_i32_23 : BitVec 32 := 3#32
  let v39 : BitVec 1 := Scalar.cmpi .eq v2 c3_i32_23
  let c2_i32_24 : BitVec 32 := 2#32
  let c2_i32_21 : BitVec 32 := 2#32
  let v37 : BitVec 1 := Scalar.cmpi .eq v2 c2_i32_21
  let c6_i32_22 : BitVec 32 := 6#32
  let c1_i32_19 : BitVec 32 := 1#32
  let v35 : BitVec 1 := Scalar.cmpi .eq v2 c1_i32_19
  let c0_i32_20 : BitVec 32 := 0#32
  let c0_i32_16 : BitVec 32 := 0#32
  let v33 : BitVec 1 := Scalar.cmpi .eq v2 c0_i32_16
  let c4_i32_17 : BitVec 32 := 4#32
  let c11_i32_18 : BitVec 32 := 11#32
  let v34 : BitVec 32 := Scalar.select v33 c4_i32_17 c11_i32_18
  let v36 : BitVec 32 := Scalar.select v35 c0_i32_20 v34
  let v38 : BitVec 32 := Scalar.select v37 c6_i32_22 v36
  let v40 : BitVec 32 := Scalar.select v39 c2_i32_24 v38
  let v42 : BitVec 32 := Scalar.select v41 c8_i32_26 v40
  let v44 : BitVec 32 := Scalar.select v43 c1_i32_28 v42
  let v46 : BitVec 32 := Scalar.select v45 c10_i32_30 v44
  let v48 : BitVec 32 := Scalar.select v47 c3_i32_32 v46
  let v50 : BitVec 32 := Scalar.select v49 c12_i32_34 v48
  let v52 : BitVec 32 := Scalar.select v51 c5_i32_36 v50
  let v54 : BitVec 32 := Scalar.select v53 c14_i32_38 v52
  let v56 : BitVec 32 := Scalar.select v55 c7_i32_40 v54
  let v58 : BitVec 32 := Scalar.select v57 c15_i32_42 v56
  let v60 : BitVec 32 := Scalar.select v59 c9_i32_44 v58
  let v62 : BitVec 32 := Scalar.select v61 c13_i32_46 v60
  let c1_i32_1616 : BitVec 32 := 1#32
  let v1447 : BitVec 32 := Scalar.muli v62 c1_i32_1616
  let v1448 : BitVec 32 := Scalar.addi c0_i32_1617 v1447
  v1448.toNat
def k0_dev54 (d0 : Dev nD) : Nat :=
  let c0_i32_1631 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_45 : BitVec 32 := 14#32
  let v61 : BitVec 1 := Scalar.cmpi .eq v2 c14_i32_45
  let c13_i32_46 : BitVec 32 := 13#32
  let c13_i32_43 : BitVec 32 := 13#32
  let v59 : BitVec 1 := Scalar.cmpi .eq v2 c13_i32_43
  let c9_i32_44 : BitVec 32 := 9#32
  let c12_i32_41 : BitVec 32 := 12#32
  let v57 : BitVec 1 := Scalar.cmpi .eq v2 c12_i32_41
  let c15_i32_42 : BitVec 32 := 15#32
  let c11_i32_39 : BitVec 32 := 11#32
  let v55 : BitVec 1 := Scalar.cmpi .eq v2 c11_i32_39
  let c7_i32_40 : BitVec 32 := 7#32
  let c10_i32_37 : BitVec 32 := 10#32
  let v53 : BitVec 1 := Scalar.cmpi .eq v2 c10_i32_37
  let c14_i32_38 : BitVec 32 := 14#32
  let c9_i32_35 : BitVec 32 := 9#32
  let v51 : BitVec 1 := Scalar.cmpi .eq v2 c9_i32_35
  let c5_i32_36 : BitVec 32 := 5#32
  let c8_i32_33 : BitVec 32 := 8#32
  let v49 : BitVec 1 := Scalar.cmpi .eq v2 c8_i32_33
  let c12_i32_34 : BitVec 32 := 12#32
  let c7_i32_31 : BitVec 32 := 7#32
  let v47 : BitVec 1 := Scalar.cmpi .eq v2 c7_i32_31
  let c3_i32_32 : BitVec 32 := 3#32
  let c6_i32_29 : BitVec 32 := 6#32
  let v45 : BitVec 1 := Scalar.cmpi .eq v2 c6_i32_29
  let c10_i32_30 : BitVec 32 := 10#32
  let c5_i32_27 : BitVec 32 := 5#32
  let v43 : BitVec 1 := Scalar.cmpi .eq v2 c5_i32_27
  let c1_i32_28 : BitVec 32 := 1#32
  let c4_i32_25 : BitVec 32 := 4#32
  let v41 : BitVec 1 := Scalar.cmpi .eq v2 c4_i32_25
  let c8_i32_26 : BitVec 32 := 8#32
  let c3_i32_23 : BitVec 32 := 3#32
  let v39 : BitVec 1 := Scalar.cmpi .eq v2 c3_i32_23
  let c2_i32_24 : BitVec 32 := 2#32
  let c2_i32_21 : BitVec 32 := 2#32
  let v37 : BitVec 1 := Scalar.cmpi .eq v2 c2_i32_21
  let c6_i32_22 : BitVec 32 := 6#32
  let c1_i32_19 : BitVec 32 := 1#32
  let v35 : BitVec 1 := Scalar.cmpi .eq v2 c1_i32_19
  let c0_i32_20 : BitVec 32 := 0#32
  let c0_i32_16 : BitVec 32 := 0#32
  let v33 : BitVec 1 := Scalar.cmpi .eq v2 c0_i32_16
  let c4_i32_17 : BitVec 32 := 4#32
  let c11_i32_18 : BitVec 32 := 11#32
  let v34 : BitVec 32 := Scalar.select v33 c4_i32_17 c11_i32_18
  let v36 : BitVec 32 := Scalar.select v35 c0_i32_20 v34
  let v38 : BitVec 32 := Scalar.select v37 c6_i32_22 v36
  let v40 : BitVec 32 := Scalar.select v39 c2_i32_24 v38
  let v42 : BitVec 32 := Scalar.select v41 c8_i32_26 v40
  let v44 : BitVec 32 := Scalar.select v43 c1_i32_28 v42
  let v46 : BitVec 32 := Scalar.select v45 c10_i32_30 v44
  let v48 : BitVec 32 := Scalar.select v47 c3_i32_32 v46
  let v50 : BitVec 32 := Scalar.select v49 c12_i32_34 v48
  let v52 : BitVec 32 := Scalar.select v51 c5_i32_36 v50
  let v54 : BitVec 32 := Scalar.select v53 c14_i32_38 v52
  let v56 : BitVec 32 := Scalar.select v55 c7_i32_40 v54
  let v58 : BitVec 32 := Scalar.select v57 c15_i32_42 v56
  let v60 : BitVec 32 := Scalar.select v59 c9_i32_44 v58
  let v62 : BitVec 32 := Scalar.select v61 c13_i32_46 v60
  let c1_i32_1630 : BitVec 32 := 1#32
  let v1457 : BitVec 32 := Scalar.muli v62 c1_i32_1630
  let v1458 : BitVec 32 := Scalar.addi c0_i32_1631 v1457
  v1458.toNat
def k0_dev55 (d0 : Dev nD) : Nat :=
  let c0_i32_1727 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_14 : BitVec 32 := 14#32
  let v31 : BitVec 1 := Scalar.cmpi .eq v2 c14_i32_14
  let c10_i32_15 : BitVec 32 := 10#32
  let c13_i32_13 : BitVec 32 := 13#32
  let v29 : BitVec 1 := Scalar.cmpi .eq v2 c13_i32_13
  let c14_i32 : BitVec 32 := 14#32
  let c12_i32_11 : BitVec 32 := 12#32
  let v27 : BitVec 1 := Scalar.cmpi .eq v2 c12_i32_11
  let c8_i32_12 : BitVec 32 := 8#32
  let c11_i32_10 : BitVec 32 := 11#32
  let v25 : BitVec 1 := Scalar.cmpi .eq v2 c11_i32_10
  let c15_i32 : BitVec 32 := 15#32
  let c10_i32 : BitVec 32 := 10#32
  let v23 : BitVec 1 := Scalar.cmpi .eq v2 c10_i32
  let c6_i32_9 : BitVec 32 := 6#32
  let c9_i32_8 : BitVec 32 := 9#32
  let v21 : BitVec 1 := Scalar.cmpi .eq v2 c9_i32_8
  let c13_i32 : BitVec 32 := 13#32
  let c8_i32 : BitVec 32 := 8#32
  let v19 : BitVec 1 := Scalar.cmpi .eq v2 c8_i32
  let c4_i32_7 : BitVec 32 := 4#32
  let c7_i32_6 : BitVec 32 := 7#32
  let v17 : BitVec 1 := Scalar.cmpi .eq v2 c7_i32_6
  let c11_i32 : BitVec 32 := 11#32
  let c6_i32 : BitVec 32 := 6#32
  let v15 : BitVec 1 := Scalar.cmpi .eq v2 c6_i32
  let c2_i32_5 : BitVec 32 := 2#32
  let c5_i32_4 : BitVec 32 := 5#32
  let v13 : BitVec 1 := Scalar.cmpi .eq v2 c5_i32_4
  let c9_i32 : BitVec 32 := 9#32
  let c4_i32 : BitVec 32 := 4#32
  let v11 : BitVec 1 := Scalar.cmpi .eq v2 c4_i32
  let c0_i32_3 : BitVec 32 := 0#32
  let c3_i32_2 : BitVec 32 := 3#32
  let v9 : BitVec 1 := Scalar.cmpi .eq v2 c3_i32_2
  let c7_i32 : BitVec 32 := 7#32
  let c2_i32 : BitVec 32 := 2#32
  let v7 : BitVec 1 := Scalar.cmpi .eq v2 c2_i32
  let c3_i32 : BitVec 32 := 3#32
  let c1_i32_1 : BitVec 32 := 1#32
  let v5 : BitVec 1 := Scalar.cmpi .eq v2 c1_i32_1
  let c5_i32 : BitVec 32 := 5#32
  let c0_i32 : BitVec 32 := 0#32
  let v3 : BitVec 1 := Scalar.cmpi .eq v2 c0_i32
  let c1_i32_0 : BitVec 32 := 1#32
  let c12_i32 : BitVec 32 := 12#32
  let v4 : BitVec 32 := Scalar.select v3 c1_i32_0 c12_i32
  let v6 : BitVec 32 := Scalar.select v5 c5_i32 v4
  let v8 : BitVec 32 := Scalar.select v7 c3_i32 v6
  let v10 : BitVec 32 := Scalar.select v9 c7_i32 v8
  let v12 : BitVec 32 := Scalar.select v11 c0_i32_3 v10
  let v14 : BitVec 32 := Scalar.select v13 c9_i32 v12
  let v16 : BitVec 32 := Scalar.select v15 c2_i32_5 v14
  let v18 : BitVec 32 := Scalar.select v17 c11_i32 v16
  let v20 : BitVec 32 := Scalar.select v19 c4_i32_7 v18
  let v22 : BitVec 32 := Scalar.select v21 c13_i32 v20
  let v24 : BitVec 32 := Scalar.select v23 c6_i32_9 v22
  let v26 : BitVec 32 := Scalar.select v25 c15_i32 v24
  let v28 : BitVec 32 := Scalar.select v27 c8_i32_12 v26
  let v30 : BitVec 32 := Scalar.select v29 c14_i32 v28
  let v32 : BitVec 32 := Scalar.select v31 c10_i32_15 v30
  let c1_i32_1726 : BitVec 32 := 1#32
  let v1537 : BitVec 32 := Scalar.muli v32 c1_i32_1726
  let v1538 : BitVec 32 := Scalar.addi c0_i32_1727 v1537
  v1538.toNat
def k0_dev56 (d0 : Dev nD) : Nat :=
  let c0_i32_1741 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_14 : BitVec 32 := 14#32
  let v31 : BitVec 1 := Scalar.cmpi .eq v2 c14_i32_14
  let c10_i32_15 : BitVec 32 := 10#32
  let c13_i32_13 : BitVec 32 := 13#32
  let v29 : BitVec 1 := Scalar.cmpi .eq v2 c13_i32_13
  let c14_i32 : BitVec 32 := 14#32
  let c12_i32_11 : BitVec 32 := 12#32
  let v27 : BitVec 1 := Scalar.cmpi .eq v2 c12_i32_11
  let c8_i32_12 : BitVec 32 := 8#32
  let c11_i32_10 : BitVec 32 := 11#32
  let v25 : BitVec 1 := Scalar.cmpi .eq v2 c11_i32_10
  let c15_i32 : BitVec 32 := 15#32
  let c10_i32 : BitVec 32 := 10#32
  let v23 : BitVec 1 := Scalar.cmpi .eq v2 c10_i32
  let c6_i32_9 : BitVec 32 := 6#32
  let c9_i32_8 : BitVec 32 := 9#32
  let v21 : BitVec 1 := Scalar.cmpi .eq v2 c9_i32_8
  let c13_i32 : BitVec 32 := 13#32
  let c8_i32 : BitVec 32 := 8#32
  let v19 : BitVec 1 := Scalar.cmpi .eq v2 c8_i32
  let c4_i32_7 : BitVec 32 := 4#32
  let c7_i32_6 : BitVec 32 := 7#32
  let v17 : BitVec 1 := Scalar.cmpi .eq v2 c7_i32_6
  let c11_i32 : BitVec 32 := 11#32
  let c6_i32 : BitVec 32 := 6#32
  let v15 : BitVec 1 := Scalar.cmpi .eq v2 c6_i32
  let c2_i32_5 : BitVec 32 := 2#32
  let c5_i32_4 : BitVec 32 := 5#32
  let v13 : BitVec 1 := Scalar.cmpi .eq v2 c5_i32_4
  let c9_i32 : BitVec 32 := 9#32
  let c4_i32 : BitVec 32 := 4#32
  let v11 : BitVec 1 := Scalar.cmpi .eq v2 c4_i32
  let c0_i32_3 : BitVec 32 := 0#32
  let c3_i32_2 : BitVec 32 := 3#32
  let v9 : BitVec 1 := Scalar.cmpi .eq v2 c3_i32_2
  let c7_i32 : BitVec 32 := 7#32
  let c2_i32 : BitVec 32 := 2#32
  let v7 : BitVec 1 := Scalar.cmpi .eq v2 c2_i32
  let c3_i32 : BitVec 32 := 3#32
  let c1_i32_1 : BitVec 32 := 1#32
  let v5 : BitVec 1 := Scalar.cmpi .eq v2 c1_i32_1
  let c5_i32 : BitVec 32 := 5#32
  let c0_i32 : BitVec 32 := 0#32
  let v3 : BitVec 1 := Scalar.cmpi .eq v2 c0_i32
  let c1_i32_0 : BitVec 32 := 1#32
  let c12_i32 : BitVec 32 := 12#32
  let v4 : BitVec 32 := Scalar.select v3 c1_i32_0 c12_i32
  let v6 : BitVec 32 := Scalar.select v5 c5_i32 v4
  let v8 : BitVec 32 := Scalar.select v7 c3_i32 v6
  let v10 : BitVec 32 := Scalar.select v9 c7_i32 v8
  let v12 : BitVec 32 := Scalar.select v11 c0_i32_3 v10
  let v14 : BitVec 32 := Scalar.select v13 c9_i32 v12
  let v16 : BitVec 32 := Scalar.select v15 c2_i32_5 v14
  let v18 : BitVec 32 := Scalar.select v17 c11_i32 v16
  let v20 : BitVec 32 := Scalar.select v19 c4_i32_7 v18
  let v22 : BitVec 32 := Scalar.select v21 c13_i32 v20
  let v24 : BitVec 32 := Scalar.select v23 c6_i32_9 v22
  let v26 : BitVec 32 := Scalar.select v25 c15_i32 v24
  let v28 : BitVec 32 := Scalar.select v27 c8_i32_12 v26
  let v30 : BitVec 32 := Scalar.select v29 c14_i32 v28
  let v32 : BitVec 32 := Scalar.select v31 c10_i32_15 v30
  let c1_i32_1740 : BitVec 32 := 1#32
  let v1547 : BitVec 32 := Scalar.muli v32 c1_i32_1740
  let v1548 : BitVec 32 := Scalar.addi c0_i32_1741 v1547
  v1548.toNat
def k0_dev57 (d0 : Dev nD) : Nat :=
  let c0_i32_1783 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_45 : BitVec 32 := 14#32
  let v61 : BitVec 1 := Scalar.cmpi .eq v2 c14_i32_45
  let c13_i32_46 : BitVec 32 := 13#32
  let c13_i32_43 : BitVec 32 := 13#32
  let v59 : BitVec 1 := Scalar.cmpi .eq v2 c13_i32_43
  let c9_i32_44 : BitVec 32 := 9#32
  let c12_i32_41 : BitVec 32 := 12#32
  let v57 : BitVec 1 := Scalar.cmpi .eq v2 c12_i32_41
  let c15_i32_42 : BitVec 32 := 15#32
  let c11_i32_39 : BitVec 32 := 11#32
  let v55 : BitVec 1 := Scalar.cmpi .eq v2 c11_i32_39
  let c7_i32_40 : BitVec 32 := 7#32
  let c10_i32_37 : BitVec 32 := 10#32
  let v53 : BitVec 1 := Scalar.cmpi .eq v2 c10_i32_37
  let c14_i32_38 : BitVec 32 := 14#32
  let c9_i32_35 : BitVec 32 := 9#32
  let v51 : BitVec 1 := Scalar.cmpi .eq v2 c9_i32_35
  let c5_i32_36 : BitVec 32 := 5#32
  let c8_i32_33 : BitVec 32 := 8#32
  let v49 : BitVec 1 := Scalar.cmpi .eq v2 c8_i32_33
  let c12_i32_34 : BitVec 32 := 12#32
  let c7_i32_31 : BitVec 32 := 7#32
  let v47 : BitVec 1 := Scalar.cmpi .eq v2 c7_i32_31
  let c3_i32_32 : BitVec 32 := 3#32
  let c6_i32_29 : BitVec 32 := 6#32
  let v45 : BitVec 1 := Scalar.cmpi .eq v2 c6_i32_29
  let c10_i32_30 : BitVec 32 := 10#32
  let c5_i32_27 : BitVec 32 := 5#32
  let v43 : BitVec 1 := Scalar.cmpi .eq v2 c5_i32_27
  let c1_i32_28 : BitVec 32 := 1#32
  let c4_i32_25 : BitVec 32 := 4#32
  let v41 : BitVec 1 := Scalar.cmpi .eq v2 c4_i32_25
  let c8_i32_26 : BitVec 32 := 8#32
  let c3_i32_23 : BitVec 32 := 3#32
  let v39 : BitVec 1 := Scalar.cmpi .eq v2 c3_i32_23
  let c2_i32_24 : BitVec 32 := 2#32
  let c2_i32_21 : BitVec 32 := 2#32
  let v37 : BitVec 1 := Scalar.cmpi .eq v2 c2_i32_21
  let c6_i32_22 : BitVec 32 := 6#32
  let c1_i32_19 : BitVec 32 := 1#32
  let v35 : BitVec 1 := Scalar.cmpi .eq v2 c1_i32_19
  let c0_i32_20 : BitVec 32 := 0#32
  let c0_i32_16 : BitVec 32 := 0#32
  let v33 : BitVec 1 := Scalar.cmpi .eq v2 c0_i32_16
  let c4_i32_17 : BitVec 32 := 4#32
  let c11_i32_18 : BitVec 32 := 11#32
  let v34 : BitVec 32 := Scalar.select v33 c4_i32_17 c11_i32_18
  let v36 : BitVec 32 := Scalar.select v35 c0_i32_20 v34
  let v38 : BitVec 32 := Scalar.select v37 c6_i32_22 v36
  let v40 : BitVec 32 := Scalar.select v39 c2_i32_24 v38
  let v42 : BitVec 32 := Scalar.select v41 c8_i32_26 v40
  let v44 : BitVec 32 := Scalar.select v43 c1_i32_28 v42
  let v46 : BitVec 32 := Scalar.select v45 c10_i32_30 v44
  let v48 : BitVec 32 := Scalar.select v47 c3_i32_32 v46
  let v50 : BitVec 32 := Scalar.select v49 c12_i32_34 v48
  let v52 : BitVec 32 := Scalar.select v51 c5_i32_36 v50
  let v54 : BitVec 32 := Scalar.select v53 c14_i32_38 v52
  let v56 : BitVec 32 := Scalar.select v55 c7_i32_40 v54
  let v58 : BitVec 32 := Scalar.select v57 c15_i32_42 v56
  let v60 : BitVec 32 := Scalar.select v59 c9_i32_44 v58
  let v62 : BitVec 32 := Scalar.select v61 c13_i32_46 v60
  let c1_i32_1782 : BitVec 32 := 1#32
  let v1573 : BitVec 32 := Scalar.muli v62 c1_i32_1782
  let v1574 : BitVec 32 := Scalar.addi c0_i32_1783 v1573
  v1574.toNat
def k0_dev58 (d0 : Dev nD) : Nat :=
  let c0_i32_1797 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_45 : BitVec 32 := 14#32
  let v61 : BitVec 1 := Scalar.cmpi .eq v2 c14_i32_45
  let c13_i32_46 : BitVec 32 := 13#32
  let c13_i32_43 : BitVec 32 := 13#32
  let v59 : BitVec 1 := Scalar.cmpi .eq v2 c13_i32_43
  let c9_i32_44 : BitVec 32 := 9#32
  let c12_i32_41 : BitVec 32 := 12#32
  let v57 : BitVec 1 := Scalar.cmpi .eq v2 c12_i32_41
  let c15_i32_42 : BitVec 32 := 15#32
  let c11_i32_39 : BitVec 32 := 11#32
  let v55 : BitVec 1 := Scalar.cmpi .eq v2 c11_i32_39
  let c7_i32_40 : BitVec 32 := 7#32
  let c10_i32_37 : BitVec 32 := 10#32
  let v53 : BitVec 1 := Scalar.cmpi .eq v2 c10_i32_37
  let c14_i32_38 : BitVec 32 := 14#32
  let c9_i32_35 : BitVec 32 := 9#32
  let v51 : BitVec 1 := Scalar.cmpi .eq v2 c9_i32_35
  let c5_i32_36 : BitVec 32 := 5#32
  let c8_i32_33 : BitVec 32 := 8#32
  let v49 : BitVec 1 := Scalar.cmpi .eq v2 c8_i32_33
  let c12_i32_34 : BitVec 32 := 12#32
  let c7_i32_31 : BitVec 32 := 7#32
  let v47 : BitVec 1 := Scalar.cmpi .eq v2 c7_i32_31
  let c3_i32_32 : BitVec 32 := 3#32
  let c6_i32_29 : BitVec 32 := 6#32
  let v45 : BitVec 1 := Scalar.cmpi .eq v2 c6_i32_29
  let c10_i32_30 : BitVec 32 := 10#32
  let c5_i32_27 : BitVec 32 := 5#32
  let v43 : BitVec 1 := Scalar.cmpi .eq v2 c5_i32_27
  let c1_i32_28 : BitVec 32 := 1#32
  let c4_i32_25 : BitVec 32 := 4#32
  let v41 : BitVec 1 := Scalar.cmpi .eq v2 c4_i32_25
  let c8_i32_26 : BitVec 32 := 8#32
  let c3_i32_23 : BitVec 32 := 3#32
  let v39 : BitVec 1 := Scalar.cmpi .eq v2 c3_i32_23
  let c2_i32_24 : BitVec 32 := 2#32
  let c2_i32_21 : BitVec 32 := 2#32
  let v37 : BitVec 1 := Scalar.cmpi .eq v2 c2_i32_21
  let c6_i32_22 : BitVec 32 := 6#32
  let c1_i32_19 : BitVec 32 := 1#32
  let v35 : BitVec 1 := Scalar.cmpi .eq v2 c1_i32_19
  let c0_i32_20 : BitVec 32 := 0#32
  let c0_i32_16 : BitVec 32 := 0#32
  let v33 : BitVec 1 := Scalar.cmpi .eq v2 c0_i32_16
  let c4_i32_17 : BitVec 32 := 4#32
  let c11_i32_18 : BitVec 32 := 11#32
  let v34 : BitVec 32 := Scalar.select v33 c4_i32_17 c11_i32_18
  let v36 : BitVec 32 := Scalar.select v35 c0_i32_20 v34
  let v38 : BitVec 32 := Scalar.select v37 c6_i32_22 v36
  let v40 : BitVec 32 := Scalar.select v39 c2_i32_24 v38
  let v42 : BitVec 32 := Scalar.select v41 c8_i32_26 v40
  let v44 : BitVec 32 := Scalar.select v43 c1_i32_28 v42
  let v46 : BitVec 32 := Scalar.select v45 c10_i32_30 v44
  let v48 : BitVec 32 := Scalar.select v47 c3_i32_32 v46
  let v50 : BitVec 32 := Scalar.select v49 c12_i32_34 v48
  let v52 : BitVec 32 := Scalar.select v51 c5_i32_36 v50
  let v54 : BitVec 32 := Scalar.select v53 c14_i32_38 v52
  let v56 : BitVec 32 := Scalar.select v55 c7_i32_40 v54
  let v58 : BitVec 32 := Scalar.select v57 c15_i32_42 v56
  let v60 : BitVec 32 := Scalar.select v59 c9_i32_44 v58
  let v62 : BitVec 32 := Scalar.select v61 c13_i32_46 v60
  let c1_i32_1796 : BitVec 32 := 1#32
  let v1583 : BitVec 32 := Scalar.muli v62 c1_i32_1796
  let v1584 : BitVec 32 := Scalar.addi c0_i32_1797 v1583
  v1584.toNat
def k0_dev59 (d0 : Dev nD) : Nat :=
  let c0_i32_1893 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_14 : BitVec 32 := 14#32
  let v31 : BitVec 1 := Scalar.cmpi .eq v2 c14_i32_14
  let c10_i32_15 : BitVec 32 := 10#32
  let c13_i32_13 : BitVec 32 := 13#32
  let v29 : BitVec 1 := Scalar.cmpi .eq v2 c13_i32_13
  let c14_i32 : BitVec 32 := 14#32
  let c12_i32_11 : BitVec 32 := 12#32
  let v27 : BitVec 1 := Scalar.cmpi .eq v2 c12_i32_11
  let c8_i32_12 : BitVec 32 := 8#32
  let c11_i32_10 : BitVec 32 := 11#32
  let v25 : BitVec 1 := Scalar.cmpi .eq v2 c11_i32_10
  let c15_i32 : BitVec 32 := 15#32
  let c10_i32 : BitVec 32 := 10#32
  let v23 : BitVec 1 := Scalar.cmpi .eq v2 c10_i32
  let c6_i32_9 : BitVec 32 := 6#32
  let c9_i32_8 : BitVec 32 := 9#32
  let v21 : BitVec 1 := Scalar.cmpi .eq v2 c9_i32_8
  let c13_i32 : BitVec 32 := 13#32
  let c8_i32 : BitVec 32 := 8#32
  let v19 : BitVec 1 := Scalar.cmpi .eq v2 c8_i32
  let c4_i32_7 : BitVec 32 := 4#32
  let c7_i32_6 : BitVec 32 := 7#32
  let v17 : BitVec 1 := Scalar.cmpi .eq v2 c7_i32_6
  let c11_i32 : BitVec 32 := 11#32
  let c6_i32 : BitVec 32 := 6#32
  let v15 : BitVec 1 := Scalar.cmpi .eq v2 c6_i32
  let c2_i32_5 : BitVec 32 := 2#32
  let c5_i32_4 : BitVec 32 := 5#32
  let v13 : BitVec 1 := Scalar.cmpi .eq v2 c5_i32_4
  let c9_i32 : BitVec 32 := 9#32
  let c4_i32 : BitVec 32 := 4#32
  let v11 : BitVec 1 := Scalar.cmpi .eq v2 c4_i32
  let c0_i32_3 : BitVec 32 := 0#32
  let c3_i32_2 : BitVec 32 := 3#32
  let v9 : BitVec 1 := Scalar.cmpi .eq v2 c3_i32_2
  let c7_i32 : BitVec 32 := 7#32
  let c2_i32 : BitVec 32 := 2#32
  let v7 : BitVec 1 := Scalar.cmpi .eq v2 c2_i32
  let c3_i32 : BitVec 32 := 3#32
  let c1_i32_1 : BitVec 32 := 1#32
  let v5 : BitVec 1 := Scalar.cmpi .eq v2 c1_i32_1
  let c5_i32 : BitVec 32 := 5#32
  let c0_i32 : BitVec 32 := 0#32
  let v3 : BitVec 1 := Scalar.cmpi .eq v2 c0_i32
  let c1_i32_0 : BitVec 32 := 1#32
  let c12_i32 : BitVec 32 := 12#32
  let v4 : BitVec 32 := Scalar.select v3 c1_i32_0 c12_i32
  let v6 : BitVec 32 := Scalar.select v5 c5_i32 v4
  let v8 : BitVec 32 := Scalar.select v7 c3_i32 v6
  let v10 : BitVec 32 := Scalar.select v9 c7_i32 v8
  let v12 : BitVec 32 := Scalar.select v11 c0_i32_3 v10
  let v14 : BitVec 32 := Scalar.select v13 c9_i32 v12
  let v16 : BitVec 32 := Scalar.select v15 c2_i32_5 v14
  let v18 : BitVec 32 := Scalar.select v17 c11_i32 v16
  let v20 : BitVec 32 := Scalar.select v19 c4_i32_7 v18
  let v22 : BitVec 32 := Scalar.select v21 c13_i32 v20
  let v24 : BitVec 32 := Scalar.select v23 c6_i32_9 v22
  let v26 : BitVec 32 := Scalar.select v25 c15_i32 v24
  let v28 : BitVec 32 := Scalar.select v27 c8_i32_12 v26
  let v30 : BitVec 32 := Scalar.select v29 c14_i32 v28
  let v32 : BitVec 32 := Scalar.select v31 c10_i32_15 v30
  let c1_i32_1892 : BitVec 32 := 1#32
  let v1663 : BitVec 32 := Scalar.muli v32 c1_i32_1892
  let v1664 : BitVec 32 := Scalar.addi c0_i32_1893 v1663
  v1664.toNat
def k0_dev60 (d0 : Dev nD) : Nat :=
  let c0_i32_1935 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_45 : BitVec 32 := 14#32
  let v61 : BitVec 1 := Scalar.cmpi .eq v2 c14_i32_45
  let c13_i32_46 : BitVec 32 := 13#32
  let c13_i32_43 : BitVec 32 := 13#32
  let v59 : BitVec 1 := Scalar.cmpi .eq v2 c13_i32_43
  let c9_i32_44 : BitVec 32 := 9#32
  let c12_i32_41 : BitVec 32 := 12#32
  let v57 : BitVec 1 := Scalar.cmpi .eq v2 c12_i32_41
  let c15_i32_42 : BitVec 32 := 15#32
  let c11_i32_39 : BitVec 32 := 11#32
  let v55 : BitVec 1 := Scalar.cmpi .eq v2 c11_i32_39
  let c7_i32_40 : BitVec 32 := 7#32
  let c10_i32_37 : BitVec 32 := 10#32
  let v53 : BitVec 1 := Scalar.cmpi .eq v2 c10_i32_37
  let c14_i32_38 : BitVec 32 := 14#32
  let c9_i32_35 : BitVec 32 := 9#32
  let v51 : BitVec 1 := Scalar.cmpi .eq v2 c9_i32_35
  let c5_i32_36 : BitVec 32 := 5#32
  let c8_i32_33 : BitVec 32 := 8#32
  let v49 : BitVec 1 := Scalar.cmpi .eq v2 c8_i32_33
  let c12_i32_34 : BitVec 32 := 12#32
  let c7_i32_31 : BitVec 32 := 7#32
  let v47 : BitVec 1 := Scalar.cmpi .eq v2 c7_i32_31
  let c3_i32_32 : BitVec 32 := 3#32
  let c6_i32_29 : BitVec 32 := 6#32
  let v45 : BitVec 1 := Scalar.cmpi .eq v2 c6_i32_29
  let c10_i32_30 : BitVec 32 := 10#32
  let c5_i32_27 : BitVec 32 := 5#32
  let v43 : BitVec 1 := Scalar.cmpi .eq v2 c5_i32_27
  let c1_i32_28 : BitVec 32 := 1#32
  let c4_i32_25 : BitVec 32 := 4#32
  let v41 : BitVec 1 := Scalar.cmpi .eq v2 c4_i32_25
  let c8_i32_26 : BitVec 32 := 8#32
  let c3_i32_23 : BitVec 32 := 3#32
  let v39 : BitVec 1 := Scalar.cmpi .eq v2 c3_i32_23
  let c2_i32_24 : BitVec 32 := 2#32
  let c2_i32_21 : BitVec 32 := 2#32
  let v37 : BitVec 1 := Scalar.cmpi .eq v2 c2_i32_21
  let c6_i32_22 : BitVec 32 := 6#32
  let c1_i32_19 : BitVec 32 := 1#32
  let v35 : BitVec 1 := Scalar.cmpi .eq v2 c1_i32_19
  let c0_i32_20 : BitVec 32 := 0#32
  let c0_i32_16 : BitVec 32 := 0#32
  let v33 : BitVec 1 := Scalar.cmpi .eq v2 c0_i32_16
  let c4_i32_17 : BitVec 32 := 4#32
  let c11_i32_18 : BitVec 32 := 11#32
  let v34 : BitVec 32 := Scalar.select v33 c4_i32_17 c11_i32_18
  let v36 : BitVec 32 := Scalar.select v35 c0_i32_20 v34
  let v38 : BitVec 32 := Scalar.select v37 c6_i32_22 v36
  let v40 : BitVec 32 := Scalar.select v39 c2_i32_24 v38
  let v42 : BitVec 32 := Scalar.select v41 c8_i32_26 v40
  let v44 : BitVec 32 := Scalar.select v43 c1_i32_28 v42
  let v46 : BitVec 32 := Scalar.select v45 c10_i32_30 v44
  let v48 : BitVec 32 := Scalar.select v47 c3_i32_32 v46
  let v50 : BitVec 32 := Scalar.select v49 c12_i32_34 v48
  let v52 : BitVec 32 := Scalar.select v51 c5_i32_36 v50
  let v54 : BitVec 32 := Scalar.select v53 c14_i32_38 v52
  let v56 : BitVec 32 := Scalar.select v55 c7_i32_40 v54
  let v58 : BitVec 32 := Scalar.select v57 c15_i32_42 v56
  let v60 : BitVec 32 := Scalar.select v59 c9_i32_44 v58
  let v62 : BitVec 32 := Scalar.select v61 c13_i32_46 v60
  let c1_i32_1934 : BitVec 32 := 1#32
  let v1689 : BitVec 32 := Scalar.muli v62 c1_i32_1934
  let v1690 : BitVec 32 := Scalar.addi c0_i32_1935 v1689
  v1690.toNat
abbrev stage0_0 : Fin 1 → Memref sig .tc .vmem S4096x256 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x2048 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e4m3⟩
  | .hbm, ⟨1, _⟩ => ⟨S4096x2048, .fp8e4m3⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S4096x4096, .fp8e4m3⟩
  | .local _ .vmem, ⟨1, _⟩ => ⟨S4096x2048, .fp8e4m3⟩
  | .local _ .vmem, ⟨2, _⟩ => ⟨S4096x2048, .f32⟩
  | .local _ .smem, ⟨0, _⟩ => ⟨S1, .f32⟩
  | .local _ .smem, ⟨1, _⟩ => ⟨S1, .f32⟩
  | _, _ => ⟨S4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Acts.lean ====
/-
  The kernel's body as a list of steps. Every device runs the same list: it fills its send buffers, tells its peers
  that their landing slots are ready, starts its remote copies, waits for what lands and multiplies, and at the end
  waits for its own copies to have left. A copy is named by its place in the protocol: `.inl j` is the copy of the
  j-th tile of x, `.inr (d, h, u)` the copy of half u of a block of w at hop h of direction d (0 the successor's
  way, 1 the predecessor's).
-/
module

public import proofs.«01_k».proof.Proof.Gen.KernelIdeal.Skeleton

@[expose] public section

noncomputable section

namespace Cert.KernelIdeal.Gen

open Idealize.ShloMosaic Idealize.SL.Sem

variable {F : FTy → Type} [FloatOps F]

/-- A remote copy: a tile of x, or half a block of w at a hop of a direction. -/
abbrev Tr : Type := Fin 15 ⊕ (Fin 2 × Fin 8 × Fin 2)

/-- The copies that are made: the last hop moves one half only in each direction. -/
def used : Tr → Bool
  | .inl _ => true
  | .inr (d, h, u) => decide (h.val < 7) || decide (u = d)

/-- A slot of half a block of w: the device's own halves, and the landing slots of the two directions. -/
inductive WSlot
  | own (u : Fin 2)
  | wb (d : Fin 2) (h : Fin 8) (u : Fin 2)
deriving DecidableEq

/-- A slot of a tile of x: a tile to be sent, or a landed one. -/
inductive TSlot
  | tile (j : Fin 15)
  | xt (j : Fin 15)
deriving DecidableEq

/-! ## Bounds of the slots -/

theorem inb_tile (j : Fin 15) : ∀ a, (![j.val, 0, 0] : Fin 3 → Nat) a + S1x256x256.size a ≤ S15x256x256.size a := by
  revert j; decide
theorem inb_own (u : Fin 2) : ∀ a, (![u.val, 0, 0] : Fin 3 → Nat) a + S1x128x2048.size a ≤ S2x128x2048.size a := by
  revert u; decide
theorem inb_wb (h : Fin 8) (u : Fin 2) : ∀ a, (![h.val, u.val, 0, 0] : Fin 4 → Nat) a + S1x1x128x2048.size a ≤ S8x2x128x2048.size a := by
  revert h u; decide
theorem inb_half (u : Fin 2) : ∀ a, (![128 * u.val, 0] : Fin 2 → Nat) a + S128x2048.size a ≤ S256x2048.size a := by
  revert u; decide
theorem inb_semA (j : Fin 15) : ∀ a, (![j.val] : Fin 1 → Nat) a + S1.size a ≤ S15.size a := by
  revert j; decide
theorem inb_semW (h : Fin 8) (u : Fin 2) : ∀ a, (![h.val, u.val] : Fin 2 → Nat) a + S1x1.size a ≤ S8x2.size a := by
  revert h u; decide

theorem packed_tile (j : Fin 15) : (Rect.unit (s := S15x256x256) ![j.val, 0, 0] S1x256x256.size (inb_tile j)).PackedRows (EltTy.packing .fp8e4m3) := by
  revert j; decide
theorem packed_own (u : Fin 2) : (Rect.unit (s := S2x128x2048) ![u.val, 0, 0] S1x128x2048.size (inb_own u)).PackedRows (EltTy.packing .fp8e4m3) := by
  revert u; decide
theorem words_tile (j : Fin 15) : (Rect.unit (s := S15x256x256) ![j.val, 0, 0] S1x256x256.size (inb_tile j)).WholeWords (EltTy.packing .fp8e4m3) := by
  revert j; decide
theorem words_own (u : Fin 2) : (Rect.unit (s := S2x128x2048) ![u.val, 0, 0] S1x128x2048.size (inb_own u)).WholeWords (EltTy.packing .fp8e4m3) := by
  revert u; decide
theorem words_wb (h : Fin 8) (u : Fin 2) : (Rect.unit (s := S8x2x128x2048) ![h.val, u.val, 0, 0] S1x1x128x2048.size (inb_wb h u)).WholeWords (EltTy.packing .fp8e4m3) := by
  revert h u; decide

/-! ## The buffers, their slots and the semaphores -/

abbrev xM : Memref sig .tc .vmem S4096x256 .fp8e4m3 := Memref.whole cc0_stg0_0
abbrev wM : Memref sig .tc .vmem S256x2048 .fp8e4m3 := Memref.whole cc0_stg1_0
abbrev sxM : Memref sig .tc .smem S1 .f32 := Memref.whole cc0_stg2_0
abbrev swM : Memref sig .tc .smem S1 .f32 := Memref.whole cc0_stg3_0
abbrev oM : Memref sig .tc .vmem S256x2048 .f32 := Memref.whole cc0_stg4_0
abbrev ownM : Memref sig .tc .vmem S2x128x2048 .fp8e4m3 := Memref.whole cc0_scratch0
abbrev accM : Memref sig .tc .vmem S256x2048 .f32 := Memref.whole cc0_scratch5

/-- The two buffers of tiles: those to be sent, and those that landed. -/
def tileRef : Fin 2 → Memref sig .tc .vmem S15x256x256 .fp8e4m3
  | 0 => Memref.whole cc0_scratch1
  | 1 => Memref.whole cc0_scratch2
/-- The landing buffers of the two directions. -/
def wbRef : Fin 2 → Memref sig .tc .vmem S8x2x128x2048 .fp8e4m3
  | 0 => Memref.whole cc0_scratch3
  | 1 => Memref.whole cc0_scratch4

theorem whole_tileRef (b : Fin 2) : (tileRef b).IsWhole := by
  match b with
  | 0 => exact Memref.isWhole_whole _
  | 1 => exact Memref.isWhole_whole _
theorem whole_wbRef (d : Fin 2) : (wbRef d).IsWhole := by
  match d with
  | 0 => exact Memref.isWhole_whole _
  | 1 => exact Memref.isWhole_whole _

/-- Tile j of a buffer of tiles. -/
def tileAt (b : Fin 2) (j : Fin 15) : Memref sig .tc .vmem S256x256 .fp8e4m3 :=
  ((tileRef b).slice (Rect.unit (s := S15x256x256) ![j.val, 0, 0] S1x256x256.size (inb_tile j)) (fun _ => rfl)).squeeze S256x256 squeezes_S1x256x256_S256x256
/-- Half u of the device's own block of w. -/
def ownAt (u : Fin 2) : Memref sig .tc .vmem S128x2048 .fp8e4m3 :=
  (ownM.slice (Rect.unit (s := S2x128x2048) ![u.val, 0, 0] S1x128x2048.size (inb_own u)) (fun _ => rfl)).squeeze S128x2048 squeezes_S1x128x2048_S128x2048
/-- The landing slot of half u at hop h. -/
def wbAt (d : Fin 2) (h : Fin 8) (u : Fin 2) : Memref sig .tc .vmem S128x2048 .fp8e4m3 :=
  ((wbRef d).slice (Rect.unit (s := S8x2x128x2048) ![h.val, u.val, 0, 0] S1x1x128x2048.size (inb_wb h u)) (fun _ => rfl)).squeeze S128x2048 squeezes_S1x1x128x2048_S128x2048

/-- A slot of tiles as a memref. -/
def tM : TSlot → Memref sig .tc .vmem S256x256 .fp8e4m3
  | .tile j => tileAt 0 j
  | .xt j => tileAt 1 j
/-- A slot of w as a memref. -/
def wsM : WSlot → Memref sig .tc .vmem S128x2048 .fp8e4m3
  | .own u => ownAt u
  | .wb d h u => wbAt d h u

theorem tM_exact (s : TSlot) : (tM s).view.WordExact := by
  cases s with
  | tile j => exact ((whole_tileRef 0).wordExact_slice rfl _ (words_tile j)).reshape _ _
  | xt j => exact ((whole_tileRef 1).wordExact_slice rfl _ (words_tile j)).reshape _ _
theorem wsM_exact (s : WSlot) : (wsM s).view.WordExact := by
  cases s with
  | own u => exact ((Memref.isWhole_whole _).wordExact_slice rfl _ (words_own u)).reshape _ _
  | wb d h u => exact ((whole_wbRef d).wordExact_slice rfl _ (words_wb h u)).reshape _ _

/-- Where the half of hop h comes from: the device's own block, or the slot the hop before filled. -/
def wsrc (d : Fin 2) (h : Fin 8) (u : Fin 2) : WSlot :=
  match h with
  | ⟨0, _⟩ => .own u
  | ⟨n + 1, hn⟩ => .wb d ⟨n, Nat.lt_of_succ_lt hn⟩ u

/-- The semaphore a copy credits on its sender. -/
def sendSem : Tr → DmaSem sig
  | .inl j => ((cc0_scratch6.slice (Rect.unit (s := S15) ![j.val] S1.size (inb_semA j))).squeeze S_ squeezes_S1_S_).sem
  | .inr (0, h, u) => ((cc0_scratch8.slice (Rect.unit (s := S8x2) ![h.val, u.val] S1x1.size (inb_semW h u))).squeeze S_ squeezes_S1x1_S_).sem
  | .inr (1, h, u) => ((cc0_scratch10.slice (Rect.unit (s := S8x2) ![h.val, u.val] S1x1.size (inb_semW h u))).squeeze S_ squeezes_S1x1_S_).sem
/-- The semaphore a copy credits on its receiver. -/
def recvSem : Tr → DmaSem sig
  | .inl j => ((cc0_scratch7.slice (Rect.unit (s := S15) ![j.val] S1.size (inb_semA j))).squeeze S_ squeezes_S1_S_).sem
  | .inr (0, h, u) => ((cc0_scratch9.slice (Rect.unit (s := S8x2) ![h.val, u.val] S1x1.size (inb_semW h u))).squeeze S_ squeezes_S1x1_S_).sem
  | .inr (1, h, u) => ((cc0_scratch11.slice (Rect.unit (s := S8x2) ![h.val, u.val] S1x1.size (inb_semW h u))).squeeze S_ squeezes_S1x1_S_).sem

/-- The barrier semaphore. -/
abbrev barSem : Sem sig := (SemArray.scalar (sig.barrier 0 rfl) : Sems sig S_).sem

/-! ## Whom a device addresses -/

/-- The device that the k-th barrier signal goes to. -/
def sigDev (c : Dev nD) : Fin 15 → Dev nD
  | 0 => ⟨k0_dev1 c, k0_dev1_lt c⟩ | 1 => ⟨k0_dev2 c, k0_dev2_lt c⟩ | 2 => ⟨k0_dev3 c, k0_dev3_lt c⟩
  | 3 => ⟨k0_dev4 c, k0_dev4_lt c⟩ | 4 => ⟨k0_dev5 c, k0_dev5_lt c⟩ | 5 => ⟨k0_dev6 c, k0_dev6_lt c⟩
  | 6 => ⟨k0_dev7 c, k0_dev7_lt c⟩ | 7 => ⟨k0_dev8 c, k0_dev8_lt c⟩ | 8 => ⟨k0_dev9 c, k0_dev9_lt c⟩
  | 9 => ⟨k0_dev10 c, k0_dev10_lt c⟩ | 10 => ⟨k0_dev11 c, k0_dev11_lt c⟩ | 11 => ⟨k0_dev12 c, k0_dev12_lt c⟩
  | 12 => ⟨k0_dev13 c, k0_dev13_lt c⟩ | 13 => ⟨k0_dev14 c, k0_dev14_lt c⟩ | 14 => ⟨k0_dev15 c, k0_dev15_lt c⟩
/-- The device that gets tile j. -/
def tileDev (c : Dev nD) : Fin 15 → Dev nD
  | 0 => ⟨k0_dev20 c, k0_dev20_lt c⟩ | 1 => ⟨k0_dev21 c, k0_dev21_lt c⟩ | 2 => ⟨k0_dev22 c, k0_dev22_lt c⟩
  | 3 => ⟨k0_dev30 c, k0_dev30_lt c⟩ | 4 => ⟨k0_dev31 c, k0_dev31_lt c⟩ | 5 => ⟨k0_dev32 c, k0_dev32_lt c⟩
  | 6 => ⟨k0_dev33 c, k0_dev33_lt c⟩ | 7 => ⟨k0_dev34 c, k0_dev34_lt c⟩ | 8 => ⟨k0_dev35 c, k0_dev35_lt c⟩
  | 9 => ⟨k0_dev36 c, k0_dev36_lt c⟩ | 10 => ⟨k0_dev37 c, k0_dev37_lt c⟩ | 11 => ⟨k0_dev38 c, k0_dev38_lt c⟩
  | 12 => ⟨k0_dev25 c, k0_dev25_lt c⟩ | 13 => ⟨k0_dev24 c, k0_dev24_lt c⟩ | 14 => ⟨k0_dev23 c, k0_dev23_lt c⟩
/-- The device that gets a half of w. -/
def halfDev (c : Dev nD) : Fin 2 × Fin 8 × Fin 2 → Dev nD
  | (0, 0, 0) => ⟨k0_dev16 c, k0_dev16_lt c⟩ | (0, 0, 1) => ⟨k0_dev17 c, k0_dev17_lt c⟩
  | (1, 0, 0) => ⟨k0_dev18 c, k0_dev18_lt c⟩ | (1, 0, 1) => ⟨k0_dev19 c, k0_dev19_lt c⟩
  | (0, 1, 0) => ⟨k0_dev26 c, k0_dev26_lt c⟩ | (0, 1, 1) => ⟨k0_dev27 c, k0_dev27_lt c⟩
  | (1, 1, 0) => ⟨k0_dev28 c, k0_dev28_lt c⟩ | (1, 1, 1) => ⟨k0_dev29 c, k0_dev29_lt c⟩
  | (0, 2, 0) => ⟨k0_dev39 c, k0_dev39_lt c⟩ | (0, 2, 1) => ⟨k0_dev40 c, k0_dev40_lt c⟩
  | (1, 2, 0) => ⟨k0_dev41 c, k0_dev41_lt c⟩ | (1, 2, 1) => ⟨k0_dev42 c, k0_dev42_lt c⟩
  | (0, 3, 0) => ⟨k0_dev43 c, k0_dev43_lt c⟩ | (0, 3, 1) => ⟨k0_dev44 c, k0_dev44_lt c⟩
  | (1, 3, 0) => ⟨k0_dev45 c, k0_dev45_lt c⟩ | (1, 3, 1) => ⟨k0_dev46 c, k0_dev46_lt c⟩
  | (0, 4, 0) => ⟨k0_dev47 c, k0_dev47_lt c⟩ | (0, 4, 1) => ⟨k0_dev48 c, k0_dev48_lt c⟩
  | (1, 4, 0) => ⟨k0_dev49 c, k0_dev49_lt c⟩ | (1, 4, 1) => ⟨k0_dev50 c, k0_dev50_lt c⟩
  | (0, 5, 0) => ⟨k0_dev51 c, k0_dev51_lt c⟩ | (0, 5, 1) => ⟨k0_dev52 c, k0_dev52_lt c⟩
  | (1, 5, 0) => ⟨k0_dev53 c, k0_dev53_lt c⟩ | (1, 5, 1) => ⟨k0_dev54 c, k0_dev54_lt c⟩
  | (0, 6, 0) => ⟨k0_dev55 c, k0_dev55_lt c⟩ | (0, 6, 1) => ⟨k0_dev56 c, k0_dev56_lt c⟩
  | (1, 6, 0) => ⟨k0_dev57 c, k0_dev57_lt c⟩ | (1, 6, 1) => ⟨k0_dev58 c, k0_dev58_lt c⟩
  | (0, 7, _) => ⟨k0_dev59 c, k0_dev59_lt c⟩
  | (1, 7, _) => ⟨k0_dev60 c, k0_dev60_lt c⟩
/-- The receiver of a copy of device c. -/
def devOf (c : Dev nD) : Tr → Dev nD
  | .inl j => tileDev c j
  | .inr p => halfDev c p

/-! ## The steps -/

/-- The direction, -/
def gd (n : ℕ) : Fin 2 := Fin.ofNat 2 n
/-- the hop -/
def gh (n : ℕ) : Fin 8 := Fin.ofNat 8 (n / 2)
/-- and the tile of the n-th product: the two directions take turns. -/
def gj (n : ℕ) : Fin 15 := if n % 2 = 0 then Fin.ofNat 15 (n / 2) else Fin.ofNat 15 (14 - n / 2)

/-- A step of the body. -/
inductive Act
  /-- copy half u of the block of w into its send slot -/
  | fillW (u : Fin 2)
  /-- copy the j-th destination's tile of x into its send slot -/
  | fillX (j : Fin 15)
  /-- the k-th barrier signal -/
  | signal (k : Fin 15)
  /-- wait for the fifteen peers' signals -/
  | barWait
  /-- start a copy -/
  | send (t : Tr)
  /-- the product of the device's own tile and block starts the sum -/
  | own
  /-- wait for a copy to land here -/
  | recv (t : Tr)
  /-- the n-th product of a landed tile and a landed block is added -/
  | gemm (n : Fin 14)
  /-- the last product, the scaling and the store of the result -/
  | finish
  /-- wait for a copy of this device to have left -/
  | left (t : Tr)

/-- The offset in x of the tile for the j-th destination. -/
abbrev tileOff (c : Dev nD) (r : Fin 15) : Fin 2 → Nat :=
  k0_off1 c (k0_off1_at r).1 (k0_off1_at r).2.1 (k0_off1_at r).2.2.1 (k0_off1_at r).2.2.2.1 (k0_off1_at r).2.2.2.2.1 (k0_off1_at r).2.2.2.2.2.1 (k0_off1_at r).2.2.2.2.2.2.1 (k0_off1_at r).2.2.2.2.2.2.2.1 (k0_off1_at r).2.2.2.2.2.2.2.2.1 (k0_off1_at r).2.2.2.2.2.2.2.2.2.1 (k0_off1_at r).2.2.2.2.2.2.2.2.2.2.1 (k0_off1_at r).2.2.2.2.2.2.2.2.2.2.2.1 (k0_off1_at r).2.2.2.2.2.2.2.2.2.2.2.2.1 (k0_off1_at r).2.2.2.2.2.2.2.2.2.2.2.2.2.1 (k0_off1_at r).2.2.2.2.2.2.2.2.2.2.2.2.2.2.1 (k0_off1_at r).2.2.2.2.2.2.2.2.2.2.2.2.2.2.2

/-- A program of this kernel. -/
abbrev KProg (F : FTy → Type) : Type → Type 1 := Prog (TpuEff nD τ sig (Elt F) Λ₀ .tc)

/-- Device c's program of a step. -/
def act (c : Dev nD) : Act → KProg F PUnit
  | .fillW u => do
      let v : Vec F S128x2048 .fp8e4m3 ← Prog.lift (.load wM (Rect.unit (s := S256x2048) ![128 * u.val, 0] S128x2048.size (inb_half u)).toLoadRect (View.loadsAt_vmem h_S128x2048))
      let _ : Vec F S1x128x2048 .fp8e4m3 ← Prog.lift (.load ownM (Rect.unit (s := S2x128x2048) ![u.val, 0, 0] S1x128x2048.size (inb_own u)).toLoadRect (View.loadsAt_vmem h_S1x128x2048))
      Prog.lift (.store ownM (Rect.unit (s := S2x128x2048) ![u.val, 0, 0] S1x128x2048.size (inb_own u)) (k0_pay1 v) Finset.univ (View.stores_vmem h_S1x128x2048 ((Memref.isWhole_whole _).storeExact_slice rfl _ (packed_own u)) (fun _ => rfl)) (.inl rfl))
  | .fillX j => do
      let v : Vec F S256x256 .fp8e4m3 ← Prog.lift (.load xM (Rect.unit (s := S4096x256) (tileOff c j) S256x256.size (k0_off1_inb c j)).toLoadRect (View.loadsAt_vmem h_S256x256))
      let _ : Vec F S1x256x256 .fp8e4m3 ← Prog.lift (.load (tileRef 0) (Rect.unit (s := S15x256x256) ![j.val, 0, 0] S1x256x256.size (inb_tile j)).toLoadRect (View.loadsAt_vmem h_S1x256x256))
      Prog.lift (.store (tileRef 0) (Rect.unit (s := S15x256x256) ![j.val, 0, 0] S1x256x256.size (inb_tile j)) (k0_pay3 v) Finset.univ (View.stores_vmem h_S1x256x256 ((whole_tileRef 0).storeExact_slice rfl _ (packed_tile j)) (fun _ => rfl)) (.inl rfl))
  | .signal k => semSignalWord (sigDev c k) barSem 1#32
  | .barWait => semWaitWord barSem 15#32
  | .send (.inl j) => Prog.lift (.enqueueDma (tM (.tile j)) (.remote (Dev.tc (devOf c (.inl j))) (tM (.xt j)) (.dma (sendSem (.inl j)))) (.dma (recvSem (.inl j))) (tM_exact (.tile j)) (tM_exact (.xt j)) ⟨⟨rfl, Or.inl rfl⟩, trivial⟩)
  | .send (.inr (d, h, u)) => Prog.lift (.enqueueDma (wsM (wsrc d h u)) (.remote (Dev.tc (devOf c (.inr (d, h, u)))) (wsM (.wb d h u)) (.dma (sendSem (.inr (d, h, u))))) (.dma (recvSem (.inr (d, h, u)))) (wsM_exact (wsrc d h u)) (wsM_exact (.wb d h u)) ⟨⟨rfl, Or.inl rfl⟩, trivial⟩)
  | .own => do
      let x : Vec F S256x256 .fp8e4m3 ← Prog.lift (.load xM (Rect.unit (s := S4096x256) (k0_off2 c) S256x256.size (k0_off2_inb c)).toLoadRect (View.loadsAt_vmem h_S256x256))
      let w : Vec F S256x2048 .fp8e4m3 ← Prog.lift (.load wM (Rect.unit (s := S256x2048) ![0, 0] S256x2048.size inb_S256x2048_S256x2048_0_0).toLoadRect (View.loadsAt_vmem h_S256x2048))
      let _ : Vec F S256x2048 .f32 ← Prog.lift (.load accM (Rect.unit (s := S256x2048) ![0, 0] S256x2048.size inb_S256x2048_S256x2048_0_0).toLoadRect (View.loadsAt_vmem h_S256x2048))
      Prog.lift (.store accM (Rect.unit (s := S256x2048) ![0, 0] S256x2048.size inb_S256x2048_S256x2048_0_0) (k0_pay19 x w) Finset.univ (View.stores_vmem_bits_univ h_S256x2048 rfl) (.inl rfl))
  | .recv (.inl j) => Prog.lift (.waitDma2 (recvSem (.inl j)) (tM (.tile j)) (tM (.xt j)) (tM_exact _) (tM_exact _))
  | .recv (.inr (d, h, u)) => Prog.lift (.waitDma2 (recvSem (.inr (d, h, u))) (wsM (wsrc d h u)) (wsM (.wb d h u)) (wsM_exact _) (wsM_exact _))
  | .gemm n => do
      let a : Vec F S1x1x128x2048 .fp8e4m3 ← Prog.lift (.load (wbRef (gd n.val)) (Rect.unit (s := S8x2x128x2048) ![(gh n.val).val, (0 : Fin 2).val, 0, 0] S1x1x128x2048.size (inb_wb (gh n.val) 0)).toLoadRect (View.loadsAt_vmem h_S1x1x128x2048))
      let b : Vec F S1x1x128x2048 .fp8e4m3 ← Prog.lift (.load (wbRef (gd n.val)) (Rect.unit (s := S8x2x128x2048) ![(gh n.val).val, (1 : Fin 2).val, 0, 0] S1x1x128x2048.size (inb_wb (gh n.val) 1)).toLoadRect (View.loadsAt_vmem h_S1x1x128x2048))
      let x : Vec F S1x256x256 .fp8e4m3 ← Prog.lift (.load (tileRef 1) (Rect.unit (s := S15x256x256) ![(gj n.val).val, 0, 0] S1x256x256.size (inb_tile (gj n.val))).toLoadRect (View.loadsAt_vmem h_S1x256x256))
      let s : Vec F S256x2048 .f32 ← Prog.lift (.load accM (Rect.unit (s := S256x2048) ![0, 0] S256x2048.size inb_S256x2048_S256x2048_0_0).toLoadRect (View.loadsAt_vmem h_S256x2048))
      let _ : Vec F S256x2048 .f32 ← Prog.lift (.load accM (Rect.unit (s := S256x2048) ![0, 0] S256x2048.size inb_S256x2048_S256x2048_0_0).toLoadRect (View.loadsAt_vmem h_S256x2048))
      Prog.lift (.store accM (Rect.unit (s := S256x2048) ![0, 0] S256x2048.size inb_S256x2048_S256x2048_0_0) (k0_pay20 a b x s) Finset.univ (View.stores_vmem_bits_univ h_S256x2048 rfl) (.inl rfl))
  | .finish => do
      let x : Vec F S1x256x256 .fp8e4m3 ← Prog.lift (.load (tileRef 1) (Rect.unit (s := S15x256x256) ![(7 : Fin 15).val, 0, 0] S1x256x256.size (inb_tile 7)).toLoadRect (View.loadsAt_vmem h_S1x256x256))
      let a : Vec F S1x1x128x2048 .fp8e4m3 ← Prog.lift (.load (wbRef 0) (Rect.unit (s := S8x2x128x2048) ![(7 : Fin 8).val, (0 : Fin 2).val, 0, 0] S1x1x128x2048.size (inb_wb 7 0)).toLoadRect (View.loadsAt_vmem h_S1x1x128x2048))
      let b : Vec F S1x1x128x2048 .fp8e4m3 ← Prog.lift (.load (wbRef 1) (Rect.unit (s := S8x2x128x2048) ![(7 : Fin 8).val, (1 : Fin 2).val, 0, 0] S1x1x128x2048.size (inb_wb 7 1)).toLoadRect (View.loadsAt_vmem h_S1x1x128x2048))
      let s : Vec F S256x2048 .f32 ← Prog.lift (.load accM (Rect.unit (s := S256x2048) ![0, 0] S256x2048.size inb_S256x2048_S256x2048_0_0).toLoadRect (View.loadsAt_vmem h_S256x2048))
      let p : Elt F .f32 ← smemLoad sxM (Rect.unit (s := S1) ![0] S1.size inb_S1_S1_0) numel1_S1 rfl
      let q : Elt F .f32 ← smemLoad swM (Rect.unit (s := S1) ![0] S1.size inb_S1_S1_0) numel1_S1 rfl
      let _ : Vec F S256x2048 .f32 ← Prog.lift (.load oM (Rect.unit (s := S256x2048) ![0, 0] S256x2048.size inb_S256x2048_S256x2048_0_0).toLoadRect (View.loadsAt_vmem h_S256x2048))
      Prog.lift (.store oM (Rect.unit (s := S256x2048) ![0, 0] S256x2048.size inb_S256x2048_S256x2048_0_0) (k0_pay44 (k0_pay42 x a b s) (k0_pay43 p q)) Finset.univ (View.stores_vmem_bits_univ h_S256x2048 rfl) (.inl rfl))
  | .left (.inl j) => Prog.lift (.waitDma2 (sendSem (.inl j)) (tM (.xt j)) (tM (.tile j)) (tM_exact _) (tM_exact _))
  | .left (.inr (d, h, u)) => Prog.lift (.waitDma2 (sendSem (.inr (d, h, u))) (wsM (.wb d h u)) (wsM (wsrc d h u)) (wsM_exact _) (wsM_exact _))

/-- Device c's program of a list of steps. -/
def runActs (c : Dev nD) : List Act → KProg F PUnit
  | [] => .ret ⟨⟩
  | a :: l => (act c a).bind fun _ => runActs c l

/-- A half of w of direction d at hop h. -/
abbrev wt (d : Fin 2) (h : Fin 8) (u : Fin 2) : Tr := .inr (d, h, u)

/-- The steps of hop h that pass a whole block on in both directions. -/
def passOn (h h' : Fin 8) : List Act :=
  [.recv (wt 0 h 0), .recv (wt 0 h 1), .send (wt 0 h' 0), .send (wt 0 h' 1),
   .recv (wt 1 h 0), .recv (wt 1 h 1), .send (wt 1 h' 0), .send (wt 1 h' 1)]

/-- The two products of hop h. -/
def products (n n' : Fin 14) : List Act :=
  [.recv (.inl (gj n.val)), .gemm n, .recv (.inl (gj n'.val)), .gemm n']

/-- The copies of w that a direction makes, in order. -/
def wCopies (d : Fin 2) : List Tr :=
  [wt d 0 0, wt d 0 1, wt d 1 0, wt d 1 1, wt d 2 0, wt d 2 1, wt d 3 0, wt d 3 1, wt d 4 0, wt d 4 1,
   wt d 5 0, wt d 5 1, wt d 6 0, wt d 6 1, wt d 7 d]

/-- The first part: the send buffers, the barrier, the first copies and the own product. -/
def actsA : List Act :=
  [.fillW 0, .fillW 1] ++ (List.finRange 15).map .fillX ++ (List.finRange 15).map .signal
    ++ [.barWait, .send (wt 0 0 0), .send (wt 0 0 1), .send (wt 1 0 0), .send (wt 1 0 1),
        .send (.inl 0), .send (.inl 1), .send (.inl 2), .send (.inl 14), .send (.inl 13), .send (.inl 12), .own]
/-- The second part: the hops. -/
def actsB : List Act :=
  passOn 0 1 ++ [.send (.inl 3), .send (.inl 4), .send (.inl 5), .send (.inl 6), .send (.inl 7), .send (.inl 8),
      .send (.inl 9), .send (.inl 10), .send (.inl 11)] ++ products 0 1
    ++ passOn 1 2 ++ products 2 3 ++ passOn 2 3 ++ products 4 5 ++ passOn 3 4 ++ products 6 7
    ++ passOn 4 5 ++ products 8 9 ++ passOn 5 6 ++ products 10 11
    ++ [.recv (wt 0 6 0), .recv (wt 0 6 1), .send (wt 0 7 0), .recv (wt 1 6 0), .recv (wt 1 6 1), .send (wt 1 7 1)]
    ++ products 12 13
/-- The third part: the last product and the waits for the device's own copies. -/
def actsC : List Act :=
  [.recv (wt 0 7 0), .recv (wt 1 7 1), .recv (.inl 7), .finish]
    ++ (List.finRange 15).map (fun j => .left (.inl j)) ++ (wCopies 0).map .left ++ (wCopies 1).map .left
/-- All the steps of the body. -/
def acts : List Act := actsA ++ actsB ++ actsC

/-- The whole body: the device reads its number and runs its steps. -/
def bodyActs : KProg F PUnit := .op .deviceId fun c => runActs c acts

set_option maxRecDepth 65536 in
set_option maxHeartbeats 0 in
/-- The kernel's body is its list of steps, by unfolding. -/
theorem body_eq_acts :
    cc0_body (F := F) xM (Memref.isWhole_whole _) wM (Memref.isWhole_whole _) sxM (Memref.isWhole_whole _) swM (Memref.isWhole_whole _)
      oM (Memref.isWhole_whole _) ownM (Memref.isWhole_whole _) (Memref.whole cc0_scratch1) (Memref.isWhole_whole _)
      (Memref.whole cc0_scratch2) (Memref.isWhole_whole _) (Memref.whole cc0_scratch3) (Memref.isWhole_whole _)
      (Memref.whole cc0_scratch4) (Memref.isWhole_whole _) accM (Memref.isWhole_whole _)
      cc0_scratch6 cc0_scratch7 cc0_scratch8 cc0_scratch9 cc0_scratch10 cc0_scratch11
      = bodyActs := by
  rw [cc0_body_eq_skeleton]
  rfl

end Cert.KernelIdeal.Gen

end
-- ==== Proof.Ring.lean ====
/-
  Where things are. The sixteen devices stand on a cycle; a copy goes a fixed number of places along it, the barrier
  signals go to the device numbers that follow. Each of these maps is a permutation of the devices.
-/
module

public import proofs.«01_k».proof.Proof.Acts

@[expose] public section

noncomputable section

namespace Cert.KernelIdeal.Gen

open Idealize.ShloMosaic Idealize.SL.Sem

/-- The device at each place of the cycle, -/
def cyc : Fin 16 → Dev nD := ![0, 1, 5, 9, 13, 14, 10, 6, 2, 3, 7, 11, 15, 12, 8, 4]
/-- and each device's place. -/
def pos : Dev nD → Fin 16 := ![0, 1, 8, 9, 15, 2, 7, 10, 14, 3, 6, 11, 13, 4, 5, 12]

/-- The device n places further along the cycle. -/
def rot (n : Fin 16) (c : Dev nD) : Dev nD := cyc (pos c + n)

/-- How many places a copy travels. -/
def off : Tr → Fin 16
  | .inl j => j.succ
  | .inr (d, _, _) => if d = 0 then 1 else 15

theorem pos_cyc (i : Fin 16) : pos (cyc i) = i := by revert i; decide
theorem cyc_pos (c : Dev nD) : cyc (pos c) = c := by revert c; decide

theorem add_neg_same (a n : Fin 16) : a + n + -n = a := by revert a n; decide
theorem neg_add_same (a n : Fin 16) : a + -n + n = a := by revert a n; decide

theorem rot_neg_rot (n : Fin 16) (c : Dev nD) : rot (-n) (rot n c) = c := by
  unfold rot; rw [pos_cyc, add_neg_same, cyc_pos]
theorem rot_rot_neg (n : Fin 16) (c : Dev nD) : rot n (rot (-n) c) = c := by
  unfold rot; rw [pos_cyc, neg_add_same, cyc_pos]

theorem tileDev_eq (c : Dev nD) (j : Fin 15) : tileDev c j = rot j.succ c := by
  revert c; fin_cases j <;> decide
theorem halfDev_eq (c : Dev nD) (d : Fin 2) (h : Fin 8) (u : Fin 2) : halfDev c (d, h, u) = rot (if d = 0 then 1 else 15) c := by
  revert c; fin_cases d <;> fin_cases h <;> fin_cases u <;> decide
theorem devOf_eq (c : Dev nD) (t : Tr) : devOf c t = rot (off t) c := by
  rcases t with j | ⟨d, h, u⟩
  · exact tileDev_eq c j
  · exact halfDev_eq c d h u

/-- The device a copy comes from. -/
def fromDev (c : Dev nD) (t : Tr) : Dev nD := rot (-off t) c

theorem fromDev_devOf (c : Dev nD) (t : Tr) : fromDev (devOf c t) t = c := by rw [devOf_eq]; exact rot_neg_rot _ c
theorem devOf_fromDev (c : Dev nD) (t : Tr) : devOf (fromDev c t) t = c := by rw [devOf_eq]; exact rot_rot_neg _ c

/-- Sending along a copy permutes the devices. -/
def alongTr (t : Tr) : Dev nD ≃ Dev nD := ⟨fun c => devOf c t, fun c => fromDev c t, fun c => fromDev_devOf c t, fun c => devOf_fromDev c t⟩

/-- The device number n further on. -/
def plus (n : Fin 16) (c : Dev nD) : Dev nD := ((show Fin 16 from c) + n : Fin 16)

theorem sigDev_eq (c : Dev nD) (k : Fin 15) : sigDev c k = plus k.succ c := by
  revert c; fin_cases k <;> decide

/-- The device whose k-th signal a device gets. -/
def sigSrc (c : Dev nD) (k : Fin 15) : Dev nD := plus (-k.succ) c

theorem sigSrc_sigDev (c : Dev nD) (k : Fin 15) : sigSrc (sigDev c k) k = c := by
  rw [sigDev_eq]; exact add_neg_same c k.succ
theorem sigDev_sigSrc (c : Dev nD) (k : Fin 15) : sigDev (sigSrc c k) k = c := by
  rw [sigDev_eq]; exact neg_add_same c k.succ

/-- Signalling permutes the devices. -/
def alongSig (k : Fin 15) : Dev nD ≃ Dev nD := ⟨fun c => sigDev c k, fun c => sigSrc c k, fun c => sigSrc_sigDev c k, fun c => sigDev_sigSrc c k⟩

theorem fin_add_inj (c a b : Fin 16) : c + a = c + b → a = b := by revert c a b; decide +kernel
theorem sigDev_inj (c : Dev nD) (k k' : Fin 15) (h : sigDev c k = sigDev c k') : k = k' := by
  rw [sigDev_eq, sigDev_eq] at h
  exact Fin.succ_injective _ (fin_add_inj _ _ _ h)

/-- The number of the signal in which the receiver of copy t of device c tells c that its landing slot is ready. -/
def sigNo (c : Dev nD) (t : Tr) : Fin 15 :=
  ⟨(((show Fin 16 from c) - (show Fin 16 from rot (off t) c) : Fin 16).val - 1) % 15, Nat.mod_lt _ (by decide)⟩

theorem plus_sigNo (c : Dev nD) (n : Fin 16) (hn : n ≠ 0) :
    plus (Fin.succ ⟨(((show Fin 16 from c) - (show Fin 16 from rot n c) : Fin 16).val - 1) % 15, Nat.mod_lt _ (by decide)⟩) (rot n c) = c := by
  revert c n; decide +kernel
theorem off_ne (t : Tr) : off t ≠ 0 := by revert t; decide +kernel

theorem sigDev_sigNo (c : Dev nD) (t : Tr) : sigDev (devOf c t) (sigNo c t) = c := by
  rw [sigDev_eq, devOf_eq]; exact plus_sigNo c _ (off_ne t)

/-- The k-th signal of device p carries the slot of copy t exactly if p is the copy's receiver. -/
theorem sigNo_iff (p : Dev nD) (k : Fin 15) (t : Tr) : sigNo (sigDev p k) t = k ↔ devOf (sigDev p k) t = p := by
  constructor
  · intro h
    have e := sigDev_sigNo (sigDev p k) t
    rw [h] at e
    rw [← sigSrc_sigDev (devOf (sigDev p k) t) k, e, sigSrc_sigDev]
  · intro h
    have e := sigDev_sigNo (sigDev p k) t
    rw [h] at e
    exact sigDev_inj p _ _ e

/-! ## The copies that are made -/

/-- The copies that are made, listed. -/
def usedL : List Tr := (List.finRange 15).map .inl ++ wCopies 0 ++ wCopies 1
/-- The copies that are made, as a set. -/
def usedS : Finset Tr := Finset.univ.filter fun t => used t = true

theorem usedL_nodup : usedL.Nodup := by decide +kernel
theorem usedS_eq : usedS = usedL.toFinset := by decide +kernel
theorem mem_usedS {t : Tr} : t ∈ usedS ↔ used t = true := by simp [usedS]
theorem used_of_mem {t : Tr} (h : t ∈ usedL) : used t = true := mem_usedS.mp (by rw [usedS_eq]; exact List.mem_toFinset.mpr h)

/-! ## The blocks of w that pass by -/

/-- The device whose block of w arrives at hop n - 1 of a direction: n places back against the direction. -/
def walk (d : Fin 2) (n : ℕ) (c : Dev nD) : Dev nD := rot (if d = 0 then -Fin.ofNat 16 n else Fin.ofNat 16 n) c

theorem walk_zero (d : Fin 2) (c : Dev nD) : walk d 0 c = c := by revert d c; decide +kernel
theorem walk_halfDev (d : Fin 2) (h : Fin 8) (c : Dev nD) : walk d (h.val + 1) (rot (if d = 0 then 1 else 15) c) = walk d h.val c := by
  revert d h c; decide +kernel

end Cert.KernelIdeal.Gen

end
-- ==== Proof.Protocol.lean ====
/-
  The protocol. Every semaphore is used for one round:

  * a device's barrier semaphore gets one unit from each of the fifteen other devices; with its k-th signal a device hands
    over its landing slots that the signalled device will write;
  * the semaphore a copy credits on its receiver gets the copy's credit once, and with it the landing slot, holding what
    the sender's slot held;
  * the semaphore a copy credits on its sender gets the copy's credit once, and with it the share of the source slot that
    was lent to the copy.

  What the slots hold is a function of the devices' blocks of x and w alone.
-/
module

public import proofs.«01_k».proof.Proof.Ring
public import proofs.«01_k».proof.Proof.Gen.KernelIdeal.Launch
public import Idealize.ShloMosaic.Lib.Pipeline.Launch
public import Idealize.ShloMosaic.Lib.Pipeline.Kit
public import Idealize.ShloMosaic.Lib.Pipeline.BigSepL
public import Idealize.ShloMosaic.Lib.MemrefSat
public import Idealize.ShloMosaic.Lib.Tactic

@[expose] public section

noncomputable section

namespace Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The protocol's part of the resource algebra: one cell per semaphore, fifteen names of payments, -/
abbrev UB : Type := URounds (GSem nD τ sig) (Fin 15)
/-- beside the pipeline's own part. -/
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## What the slots hold -/

/-- The devices' inputs: their blocks of x and w, and the two scales. -/
structure Ins (F : FTy → Type) where
  x : Dev nD → (cc0_stg0_0 : Ref sig .tc).ty.Contents (Elt F)
  w : Dev nD → (cc0_stg1_0 : Ref sig .tc).ty.Contents (Elt F)
  sx : Dev nD → (cc0_stg2_0 : Ref sig .tc).ty.Contents (Elt F)
  sw : Dev nD → (cc0_stg3_0 : Ref sig .tc).ty.Contents (Elt F)

variable (I : Ins F)

/-- Device c's tile of x for its j-th destination. -/
def xTile (c : Dev nD) (j : Fin 15) : Vec F S256x256 .fp8e4m3 :=
  xM.view.readAt (Elt F) (Rect.unit (s := S4096x256) (tileOff c j) S256x256.size (k0_off1_inb c j)).toLoadRect (I.x c)
/-- Half u of device c's block of w. -/
def wHalf (c : Dev nD) (u : Fin 2) : Vec F S128x2048 .fp8e4m3 :=
  wM.view.readAt (Elt F) (Rect.unit (s := S256x2048) ![128 * u.val, 0] S128x2048.size (inb_half u)).toLoadRect (I.w c)

/-- What a slot of tiles holds once it is written. -/
def tval (c : Dev nD) : TSlot → Vec F S256x256 .fp8e4m3
  | .tile j => xTile I c j
  | .xt j => xTile I (fromDev c (.inl j)) j
/-- What a slot of w holds once it is written. -/
def wval (c : Dev nD) : WSlot → Vec F S128x2048 .fp8e4m3
  | .own u => wHalf I c u
  | .wb d h u => wHalf I (walk d (h.val + 1) c) u

/-- A slot: of tiles or of w. -/
abbrev Slot : Type := TSlot ⊕ WSlot

/-- The slot a copy reads, -/
def srcOf : Tr → Slot
  | .inl j => .inl (.tile j)
  | .inr (d, h, u) => .inr (wsrc d h u)
/-- and the one it writes. -/
def dstOf : Tr → Slot
  | .inl j => .inl (.xt j)
  | .inr (d, h, u) => .inr (.wb d h u)

theorem tval_sent (c : Dev nD) (j : Fin 15) : tval I (devOf c (.inl j)) (.xt j) = tval I c (.tile j) := by
  show xTile I (fromDev (devOf c (.inl j)) (.inl j)) j = xTile I c j
  rw [fromDev_devOf]
theorem wval_src (c : Dev nD) (d : Fin 2) (h : Fin 8) (u : Fin 2) : wval I c (wsrc d h u) = wHalf I (walk d h.val c) u := by
  obtain ⟨_ | n, hn⟩ := h
  · show wHalf I c u = wHalf I (walk d 0 c) u
    rw [walk_zero]
  · rfl
theorem wval_sent (c : Dev nD) (d : Fin 2) (h : Fin 8) (u : Fin 2) :
    wval I (devOf c (.inr (d, h, u))) (.wb d h u) = wval I c (wsrc d h u) := by
  rw [wval_src, devOf_eq]
  show wHalf I (walk d (h.val + 1) (rot (if d = 0 then 1 else 15) c)) u = _
  rw [walk_halfDev]

/-- A share of a slot, holding what it is meant to hold. -/
def hold (c : Dev nD) (q : PosShare TreeShare) : Slot → sProp 𝕄
  | .inl s => owns (c : Thread nD τ) (tM s) q (tval I c s)
  | .inr s => owns (c : Thread nD τ) (wsM s) q (wval I c s)
/-- A whole slot holding anything. -/
def raw (c : Dev nD) : Slot → sProp 𝕄
  | .inl s => iprop(∃ f, ((tM s).view.loc (c : Thread nD τ) ↦[(tM s).view.set]{fullShare} f))
  | .inr s => iprop(∃ f, ((wsM s).view.loc (c : Thread nD τ) ↦[(wsM s).view.set]{fullShare} f))

instance hold_storable (c : Dev nD) (q : PosShare TreeShare) (s : Slot) : BI.Storable (upEmb : UEmb _ 𝕄) (hold (F := F) I c q s) := by
  cases s <;> (unfold hold; infer_instance)
omit [FloatOps F] in
instance raw_storable (c : Dev nD) (s : Slot) : BI.Storable (upEmb : UEmb _ 𝕄) (raw (F := F) c s) := by
  cases s <;> (unfold raw; infer_instance)

/-- The half of the source slot that is lent to a copy: the left one, but for the second copy of the device's own block. -/
def lentShare : Tr → Bool
  | .inl _ => false
  | .inr (d, h, _) => decide (h = 0) && decide (d = 1)
/-- The left or the right half of the full share. -/
def halfShare (b : Bool) : PosShare TreeShare := if b then fullShare.right else fullShare.left

/-! ## The cells -/

/-- A device's semaphores: the barrier, or a copy's on its sender (`false`) or its receiver (`true`). -/
abbrev CK : Type := Option (Bool × Tr)

instance instDecidableEqCK : DecidableEq CK := inferInstance

def csem : CK → SemLoc sig
  | none => .reg barSem
  | some (false, t) => .dma (sendSem t)
  | some (true, t) => .dma (recvSem t)
abbrev kcell (c : Dev nD) (k : CK) : GSem nD τ sig := ((c : Thread nD τ), csem k)
abbrev barCell (c : Dev nD) : GSem nD τ sig := ((c : Thread nD τ), .reg barSem)
abbrev sendCell (c : Dev nD) (t : Tr) : GSem nD τ sig := ((c : Thread nD τ), .dma (sendSem t))
abbrev recvCell (c : Dev nD) (t : Tr) : GSem nD τ sig := ((c : Thread nD τ), .dma (recvSem t))

/-- A number's half of w in an array of sixteen. -/
def wIx (d : Fin 2) (n : ℕ) : Tr := .inr (d, Fin.ofNat 8 (n / 2), Fin.ofNat 2 n)
/-- Which of a device's semaphores a semaphore is: the staging ones are none of them. -/
def roleOf : SemLoc sig → Option CK
  | .reg _ => some none
  | .dma q =>
    if q.val < 5 then none
    else if q.val < 20 then some (some (false, .inl (Fin.ofNat 15 (q.val - 5))))
    else if q.val < 35 then some (some (true, .inl (Fin.ofNat 15 (q.val - 20))))
    else if q.val < 51 then some (some (false, wIx 0 (q.val - 35)))
    else if q.val < 67 then some (some (true, wIx 0 (q.val - 51)))
    else if q.val < 83 then some (some (false, wIx 1 (q.val - 67)))
    else some (some (true, wIx 1 (q.val - 83)))

theorem role_dma (b : Bool) (t : Tr) : roleOf (csem (some (b, t))) = some (some (b, t)) := by
  cases b <;> (revert t; decide +kernel)
theorem role_csem (k : CK) : roleOf (csem k) = some k := by
  rcases k with _ | ⟨b, t⟩
  · rfl
  · exact role_dma b t
theorem role_bar : roleOf (.reg barSem) = some none := rfl
theorem role_send (t : Tr) : roleOf (.dma (sendSem t)) = some (some (false, t)) := role_csem (some (false, t))
theorem role_recv (t : Tr) : roleOf (.dma (recvSem t)) = some (some (true, t)) := role_csem (some (true, t))

theorem csem_injective : Function.Injective csem := fun a b h => by
  have := congrArg roleOf h; rw [role_csem, role_csem] at this; exact Option.some.inj this

/-- A copy's credit. -/
def credit : Tr → ℕ
  | .inl j => (tM (.xt j)).view.dmaCredit
  | .inr (d, h, u) => (wsM (.wb d h u)).view.dmaCredit
theorem credit_pos (t : Tr) : 0 < credit t := by
  rcases t with j | ⟨d, h, u⟩
  · exact View.dmaCredit_pos _ (by decide)
  · exact View.dmaCredit_pos _ (by decide)

/-! ## The schedule -/

omit [FloatOps F] in
/-- A separating product dealt by a function: each member goes to the one place the function sends it to. -/
theorem dealt {A B : Type} [DecidableEq A] [Fintype B] [DecidableEq B] (s : Finset A) (f : A → B) (Φ : A → sProp 𝕄) :
    bigSep s Φ = bigSep Finset.univ fun b => bigSep s fun a => if f a = b then Φ a else iprop(emp) := by
  induction s using Finset.induction_on with
  | empty => exact (bigSep_emp_const _).symm
  | insert a s ha ih =>
    rw [bigSep_insert ha, ih]
    have e : (bigSep Finset.univ fun b => bigSep (insert a s) fun i => if f i = b then Φ i else iprop(emp))
        = bigSep Finset.univ fun b => BI.sep (if f a = b then Φ a else iprop(emp)) (bigSep s fun i => if f i = b then Φ i else iprop(emp)) :=
      bigSep_congr fun b _ => bigSep_insert ha
    rw [e]
    have e2 := bigSep_sep (M := 𝕄) Finset.univ (fun b => if f a = b then Φ a else iprop(emp)) (fun b => bigSep s fun i => if f i = b then Φ i else iprop(emp))
    rw [e2]
    congr 1
    have e3 := bigSep_filter Finset.univ (fun b => f a = b) (fun _ => Φ a)
    rw [Finset.filter_eq, if_pos (Finset.mem_univ _), bigSep_singleton] at e3
    exact e3

/-- What the k-th payer hands device c at the barrier: its landing slots that c writes. -/
def barPay (c : Dev nD) (k : Fin 15) : sProp 𝕄 :=
  bigSep usedS fun t => if sigNo c t = k then raw (devOf c t) (dstOf t) else iprop(emp)

omit [FloatOps F] in
instance barPay_storable (c : Dev nD) (k : Fin 15) : BI.Storable (upEmb : UEmb _ 𝕄) (barPay (F := F) c k) := by
  unfold barPay
  have (t : Tr) : BI.Storable (upEmb : UEmb _ 𝕄) (if sigNo c t = k then raw (F := F) (devOf c t) (dstOf t) else iprop(emp)) := by
    split <;> infer_instance
  infer_instance

/-- The payments a cell expects. -/
def dutiesOf : Option CK → Finset (Fin 15)
  | some none => Finset.univ
  | some (some (_, t)) => if used t = true then {0} else ∅
  | none => ∅
/-- The size of a payment. -/
def amountOf : Option CK → ℕ
  | some (some (_, t)) => credit t
  | _ => 1
/-- What comes with a payment. -/
def payOf (c : Dev nD) (k : Fin 15) : Option CK → sProp 𝕄
  | some none => barPay c k
  | some (some (false, t)) => hold I c (halfShare (lentShare t)) (srcOf t)
  | some (some (true, t)) => hold I c fullShare (dstOf t)
  | none => iprop(emp)

instance payOf_storable (c : Dev nD) (k : Fin 15) (r : Option CK) : BI.Storable (upEmb : UEmb _ 𝕄) (payOf (F := F) I c k r) := by
  rcases r with _ | _ | ⟨_ | _, t⟩ <;> (unfold payOf; infer_instance)

/-- The schedule: one round for every cell. -/
def sched : Rounds.Schedule (GSem nD τ sig) (Fin 15) 𝕄 where
  duties g r := if r = 0 then dutiesOf (roleOf g.2) else ∅
  unitless _ := False
  amount g _ _ := amountOf (roleOf g.2)
  payload g _ k := payOf I g.1.1 k (roleOf g.2)
  amount_pos g _ _ _ := by
    rcases roleOf g.2 with _ | _ | ⟨b, t⟩
    · exact Nat.one_pos
    · exact Nat.one_pos
    · exact credit_pos t

instance sched_payload_storable (g : GSem nD τ sig) (r : ℕ) (d : Fin 15) :
    BI.Storable (upEmb : UEmb _ 𝕄) ((sched (F := F) I).payload g r d) := payOf_storable I _ _ _

section Tables
variable (c : Dev nD) {t : Tr}

theorem duties_bar : (sched (F := F) I).duties (barCell c) 0 = Finset.univ := rfl
theorem duties_send (h : used t = true) : (sched (F := F) I).duties (sendCell c t) 0 = {0} := by
  show dutiesOf (roleOf (.dma (sendSem t))) = _
  rw [role_send]; exact if_pos h
theorem duties_recv (h : used t = true) : (sched (F := F) I).duties (recvCell c t) 0 = {0} := by
  show dutiesOf (roleOf (.dma (recvSem t))) = _
  rw [role_recv]; exact if_pos h
theorem duties_later (g : GSem nD τ sig) : ∀ r, 1 ≤ r → (sched (F := F) I).duties g r = ∅ :=
  fun r hr => if_neg (by omega)
/-- The cells of the copies that are not made expect nothing at all. -/
theorem duties_idle (b : Bool) (h : used t = false) : ∀ r, 0 ≤ r → (sched (F := F) I).duties (kcell c (some (b, t))) r = ∅ := fun r _ => by
  show (if r = 0 then dutiesOf (roleOf (csem (some (b, t)))) else ∅) = ∅
  rw [role_csem]
  split
  · exact if_neg (by rw [h]; decide)
  · rfl

theorem amount_bar (k : Fin 15) : (sched (F := F) I).amount (barCell c) 0 k = 1 := rfl
theorem amount_send (k : Fin 15) : (sched (F := F) I).amount (sendCell c t) 0 k = credit t := by
  show amountOf (roleOf (.dma (sendSem t))) = _
  rw [role_send]; rfl
theorem amount_recv (k : Fin 15) : (sched (F := F) I).amount (recvCell c t) 0 k = credit t := by
  show amountOf (roleOf (.dma (recvSem t))) = _
  rw [role_recv]; rfl

theorem expect_bar : (sched (F := F) I).expect (barCell c) 0 = 15 := by
  unfold Schedule.expect Schedule.amountOf
  rw [duties_bar, Finset.sum_congr rfl fun d _ => amount_bar I c d, Finset.sum_const, Finset.card_univ, Fintype.card_fin, smul_eq_mul]
theorem expect_send (h : used t = true) : (sched (F := F) I).expect (sendCell c t) 0 = credit t := by
  unfold Schedule.expect Schedule.amountOf; rw [duties_send I c h, Finset.sum_singleton, amount_send]
theorem expect_recv (h : used t = true) : (sched (F := F) I).expect (recvCell c t) 0 = credit t := by
  unfold Schedule.expect Schedule.amountOf; rw [duties_recv I c h, Finset.sum_singleton, amount_recv]

theorem payload_bar (k : Fin 15) : (sched (F := F) I).payload (barCell c) 0 k = barPay c k := rfl
theorem payload_send (k : Fin 15) : (sched (F := F) I).payload (sendCell c t) 0 k = hold I c (halfShare (lentShare t)) (srcOf t) := by
  show payOf I c k (roleOf (.dma (sendSem t))) = _
  rw [role_send]; rfl
theorem payload_recv (k : Fin 15) : (sched (F := F) I).payload (recvCell c t) 0 k = hold I c fullShare (dstOf t) := by
  show payOf I c k (roleOf (.dma (recvSem t))) = _
  rw [role_recv]; rfl

/-- All that the barrier's signals hand over: the landing slots of all the copies the device makes. -/
theorem rest_bar : bigSep ((sched (F := F) I).duties (barCell c) 0 \ ∅) (fun k => (sched (F := F) I).payload (barCell c) 0 k)
    = bigSep usedS fun t => raw (F := F) (devOf c t) (dstOf t) := by
  rw [Finset.sdiff_empty, duties_bar]
  exact (dealt usedS (sigNo c) fun t => raw (F := F) (devOf c t) (dstOf t)).symm
theorem rest_send (h : used t = true) : bigSep ((sched (F := F) I).duties (sendCell c t) 0 \ ∅) (fun k => (sched (F := F) I).payload (sendCell c t) 0 k)
    = hold I c (halfShare (lentShare t)) (srcOf t) := by
  rw [Finset.sdiff_empty, duties_send I c h, bigSep_singleton, payload_send]
theorem rest_recv (h : used t = true) : bigSep ((sched (F := F) I).duties (recvCell c t) 0 \ ∅) (fun k => (sched (F := F) I).payload (recvCell c t) 0 k)
    = hold I c fullShare (dstOf t) := by
  rw [Finset.sdiff_empty, duties_recv I c h, bigSep_singleton, payload_recv]

omit [FloatOps F] in
/-- A device's landing slots, dealt to its fifteen signals. -/
theorem deal_bar (p : Dev nD) : (bigSep usedS fun t => raw (F := F) p (dstOf t)) = bigSep Finset.univ fun k : Fin 15 => barPay (F := F) (sigDev p k) k := by
  rw [dealt usedS (fun t => sigNo (fromDev p t) t) fun t => raw (F := F) p (dstOf t)]
  refine bigSep_congr fun k _ => ?_
  unfold barPay
  refine bigSep_congr fun t _ => ?_
  by_cases h : sigNo (sigDev p k) t = k
  · have e := (sigNo_iff p k t).mp h
    rw [if_pos h, e]
    refine if_pos ?_
    have e' := fromDev_devOf (sigDev p k) t
    rw [e] at e'
    rw [e', h]
  · rw [if_neg h]
    refine if_neg fun h' => h ?_
    have e := sigDev_sigNo (fromDev p t) t
    rw [devOf_fromDev, h'] at e
    rw [e, h']

end Tables

/-! ## Levels -/

/-- A receive cell's level: the tiles' are below the halves of w of later hops, above those of the first. -/
def levT : Tr → ℕ
  | .inl _ => 3
  | .inr (_, h, _) => 2 + 2 * h.val
/-- A cell's level: the staging cells and a sender's own are lowest, the barrier next, then what is to be received. -/
def levOf : Option CK → ℕ
  | some none => 1
  | some (some (true, t)) => levT t
  | _ => 0

def L (g : GSem nD τ sig) : Finset Unit := if g.1.2 = .tc then {()} else ∅
def lv (g : GSem nD τ sig) (_ : Unit) : ℕ := levOf (roleOf g.2)

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := rfl
theorem lv_send (c : Dev nD) (t : Tr) (u : Unit) : lv (sendCell c t) u = 0 := by unfold lv; rw [role_send]; rfl
theorem lv_recv (c : Dev nD) (t : Tr) (u : Unit) : lv (recvCell c t) u = levT t := by unfold lv; rw [role_recv]; rfl

end Cert.KernelIdeal.Gen

end
-- ==== Proof.Slots.lean ====
/-
  Loads from and stores into a slot of a larger buffer. The kernel addresses its slots through the buffer they lie in,
  while the copies address them as memrefs of their own; a slot is held by what its own memref reads.
-/
module

public import proofs.«01_k».proof.Proof.Protocol
public import Idealize.ShloMosaic.Lib.Pipeline.Value

@[expose] public section

noncomputable section

namespace Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- The weakest precondition of a program of device c. -/
abbrev wpc (c : Dev nD) {α : Type} (k : KProg F α) (Q : α → sProp 𝕄) : sProp 𝕄 :=
  wp frame (wpE (defs₀ (F := F)) 𝒱₀ (c : Thread nD τ) none) Set.univ k Q

section Slot
variable {s s' : Shape} {e : EltTy} (c : Dev nD) (M : Memref sig .tc .vmem s e) (r : Rect s) (hr : ∀ a, r.stride a = 1)
  (hq : r.shape.Squeezes s')

/-- A load of a slot through its buffer reads what the slot holds, cast to the load's shape. -/
theorem load_slot (hc : r.shape.ShapeCasts s') (hc' : s'.ShapeCasts r.shape) (q : PosShare TreeShare) (X : s'.Idx → Elt F e)
    (hl : M.view.LoadsAt r.toLoadRect) {α : Type} (k : (r.shape.Idx → Elt F e) → KProg F α) (Q : α → sProp 𝕄) :
    owns (c : Thread nD τ) ((M.slice r hr).squeeze s' hq) q X
      ⊢ iprop((owns (c : Thread nD τ) ((M.slice r hr).squeeze s' hq) q X -∗ wpc c (k (shapeCast r.shape X hc')) Q)
        -∗ wpc c (.op (.load M r.toLoadRect hl) k) Q) := by
  unfold owns
  iintro ⟨%f, %hf, H⟩ Hk
  have hX : (M.access r).read (Elt F) f = shapeCast r.shape X hc' := by
    rw [← hf]
    exact (shapeCast_shapeCast ((M.access r).read (Elt F) f) hc hc').symm
  iapply (wp_load_rect 𝒱₀ (c : Thread nD τ) none Set.univ (m := M) (r := r)
    (by rw [Memref.set_view_squeeze]; try exact Finset.Subset.refl _)) $$ H
  iintro H
  rw [hX]
  iapply Hk
  iexists f
  isplitr
  · ipureintro; exact hf
  iexact H

/-- A load of a slot holding anything. -/
theorem load_raw (q : PosShare TreeShare)
    (hl : M.view.LoadsAt r.toLoadRect) {α : Type} (k : (r.shape.Idx → Elt F e) → KProg F α) (Q : α → sProp 𝕄) :
    iprop(∃ f, (((M.slice r hr).squeeze s' hq).view.loc (c : Thread nD τ) ↦[((M.slice r hr).squeeze s' hq).view.set]{q} f))
      ⊢ iprop(((∃ f, (((M.slice r hr).squeeze s' hq).view.loc (c : Thread nD τ) ↦[((M.slice r hr).squeeze s' hq).view.set]{q} f))
          -∗ ∀ v, wpc c (k v) Q)
        -∗ wpc c (.op (.load M r.toLoadRect hl) k) Q) := by
  iintro ⟨%f, H⟩ Hk
  iapply (wp_load_rect 𝒱₀ (c : Thread nD τ) none Set.univ (m := M) (r := r)
    (by rw [Memref.set_view_squeeze]; try exact Finset.Subset.refl _)) $$ H
  iintro H
  ispecialize Hk $$ [H]
  · iexists f
    iexact H
  iapply Hk

/-- A store into a slot through its buffer: the slot holds what is stored, cast to its shape. -/
theorem store_slot (hc : r.shape.ShapeCasts s') (w : r.shape.Idx → Elt F e)
    (hx : (M.access r).Stores Finset.univ) (hm) {α : Type} (k : PUnit → KProg F α) (Q : α → sProp 𝕄) :
    iprop(∃ f, (((M.slice r hr).squeeze s' hq).view.loc (c : Thread nD τ) ↦[((M.slice r hr).squeeze s' hq).view.set]{fullShare} f))
      ⊢ iprop((owns (c : Thread nD τ) ((M.slice r hr).squeeze s' hq) fullShare (shapeCast s' w hc) -∗ wpc c (k ⟨⟩) Q)
        -∗ wpc c (.op (.store M r w Finset.univ hx hm) k) Q) := by
  iintro ⟨%f, H⟩ Hk
  iapply (wp_store 𝒱₀ (c : Thread nD τ) none Set.univ (m := M) (r := r) (Mk := Finset.univ)
    (by rw [Memref.set_view_squeeze]; try exact Finset.Subset.refl _)) $$ H
  iintro H
  iapply Hk
  unfold owns
  iexists ((M.access r).write (Elt F) f w Finset.univ)
  isplitr
  · ipureintro
    show shapeCast s' ((M.access r).read (Elt F) ((M.access r).write (Elt F) f w Finset.univ)) hc = _
    rw [View.read_write_univ]
  iexact H

end Slot

end Cert.KernelIdeal.Gen

end
-- ==== Proof.Atoms.lean ====
/-
  What a device holds between two steps of its body, as a list of atoms: its buffers and slots, its part in the rounds of
  the semaphores, and what it still owes. Every step takes some atoms and gives others.
-/
module

public import proofs.«01_k».proof.Proof.Slots

@[expose] public section

noncomputable section

namespace Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F)

/-! ## The sum -/

theorem casts_half : S128x2048.ShapeCasts S1x1x128x2048 := by decide
theorem casts_tile : S256x256.ShapeCasts S1x256x256 := by decide
theorem casts_half' : S1x1x128x2048.ShapeCasts S128x2048 := by decide
theorem casts_tile' : S1x256x256.ShapeCasts S256x256 := by decide

/-- A half of w as the kernel loads it from its landing slot, -/
def ldHalf (c : Dev nD) (d : Fin 2) (h : Fin 8) (u : Fin 2) : Vec F S1x1x128x2048 .fp8e4m3 :=
  shapeCast S1x1x128x2048 (wval I c (.wb d h u)) casts_half
/-- and a tile. -/
def ldTile (c : Dev nD) (j : Fin 15) : Vec F S1x256x256 .fp8e4m3 :=
  shapeCast S1x256x256 (tval I c (.xt j)) casts_tile
/-- The device's own tile. -/
def xOwn (c : Dev nD) : Vec F S256x256 .fp8e4m3 :=
  xM.view.readAt (Elt F) (Rect.unit (s := S4096x256) (k0_off2 c) S256x256.size (k0_off2_inb c)).toLoadRect (I.x c)
/-- A scale. -/
def scaleOf (m : Memref sig .tc .smem S1 .f32) (f : m.view.ty.Contents (Elt F)) : Elt F .f32 :=
  (m.access (Rect.unit (s := S1) ![0] S1.size inb_S1_S1_0)).read (Elt F) f (Shape.Idx.first (numel1_S1.symm ▸ Nat.one_pos))

/-- The sum after its first product and n more. -/
def accV (c : Dev nD) : ℕ → Vec F S256x2048 .f32
  | 0 => k0_pay19 (xOwn I c) (I.w c)
  | n + 1 => k0_pay20 (ldHalf I c (gd n) (gh n) 0) (ldHalf I c (gd n) (gh n) 1) (ldTile I c (gj n)) (accV c n)
/-- The device's block of the result. -/
def outV (c : Dev nD) : Vec F S256x2048 .f32 :=
  k0_pay44 (k0_pay42 (ldTile I c 7) (ldHalf I c 0 7 0) (ldHalf I c 1 7 1) (accV I c 14)) (k0_pay43 (scaleOf sxM (I.sx c)) (scaleOf swM (I.sw c)))

/-! ## Atoms -/

inductive Atom
  /-- the staged inputs -/
  | x | w | sx | sw
  /-- the result's buffer, holding anything or the result -/
  | out (done : Bool)
  /-- the sum's buffer, holding anything or the sum after n products -/
  | accAny
  | acc (n : ℕ)
  /-- a slot holding anything -/
  | raw (s : Slot)
  /-- a half of a slot, holding what it is meant to hold -/
  | half (s : Slot) (b : Bool)
  /-- the k-th barrier signal, still owed, with the slots it hands over -/
  | sg (k : Fin 15)
  /-- the barrier, before and after the wait -/
  | bar (done : Bool)
  /-- a copy not started, still owed -/
  | uns (t : Tr)
  /-- the peer's slot that a copy will write -/
  | dst (t : Tr)
  /-- a copy started, and one known to have left -/
  | fly (t : Tr)
  | left (t : Tr)
  /-- a copy to be received, and one received -/
  | ung (t : Tr)
  | got (t : Tr)
deriving DecidableEq

/-- What an atom stands for. -/
def res (c : Dev nD) : Atom → sProp 𝕄
  | .x => iprop((c : Thread nD τ).loc cc0_stg0_0 ↦{fullShare} I.x c)
  | .w => iprop((c : Thread nD τ).loc cc0_stg1_0 ↦{fullShare} I.w c)
  | .sx => iprop((c : Thread nD τ).loc cc0_stg2_0 ↦{fullShare} I.sx c)
  | .sw => iprop((c : Thread nD τ).loc cc0_stg3_0 ↦{fullShare} I.sw c)
  | .out false => iprop(∃ f : Buf (Elt F) ((c : Thread nD τ).loc cc0_stg4_0), (c : Thread nD τ).loc cc0_stg4_0 ↦{fullShare} f)
  | .out true => iprop((c : Thread nD τ).loc cc0_stg4_0 ↦{fullShare} outV I c)
  | .accAny => iprop(∃ f : Buf (Elt F) ((c : Thread nD τ).loc cc0_scratch5), (c : Thread nD τ).loc cc0_scratch5 ↦{fullShare} f)
  | .acc n => iprop((c : Thread nD τ).loc cc0_scratch5 ↦{fullShare} accV I c n)
  | .raw s => Gen.raw c s
  | .half s b => hold I c (halfShare b) s
  | .sg k => iprop(dutyTok ER (barCell (sigDev c k)) 0 k ∗ barPay (sigDev c k) k)
  | .bar false => iprop(atPos ER (barCell c) 0 ∅ 0 ∗ cred (tallyAt (barCell c) () 15))
  | .bar true => atPos ER (barCell c) 1 ∅ 0
  | .uns t => iprop(dutyTok ER (sendCell c t) 0 0 ∗ dutyTok ER (recvCell (devOf c t) t) 0 0 ∗ atPos ER (sendCell c t) 0 ∅ 0)
  | .dst t => Gen.raw (devOf c t) (dstOf t)
  | .fly t => iprop(atPos ER (sendCell c t) 0 ∅ 0 ∗ cred (tallyAt (sendCell c t) () (credit t)))
  | .left t => atPos ER (sendCell c t) 1 ∅ 0
  | .ung t => iprop(atPos ER (recvCell c t) 0 ∅ 0 ∗ cred (tallyAt (recvCell c t) () (credit t)))
  | .got t => atPos ER (recvCell c t) 1 ∅ 0

/-- What an atom owes, -/
def debt (c : Dev nD) : Atom → CellTallies nD τ sig Unit
  | .sg k => tallyAt (barCell (sigDev c k)) () 1
  | .uns t => tallyAt (recvCell (devOf c t) t) () (credit t)
  | _ => 0
/-- and at which level. -/
def debtLev : Atom → Option ℕ
  | .sg _ => some 1
  | .uns t => some (levT t)
  | _ => none

/-- A wait at level b may pass while the atom's debt is open. -/
def above (b : ℕ) (a : Atom) : Bool :=
  match debtLev a with
  | some l => decide (b < l)
  | none => true

/-- All that a list of atoms owes. -/
def dsum (c : Dev nD) (A : List Atom) : CellTallies nD τ sig Unit := (A.map (debt c)).sum

theorem dsum_append (c : Dev nD) (A B : List Atom) : dsum c (A ++ B) = dsum c A + dsum c B := by
  unfold dsum; rw [List.map_append, List.sum_append]
theorem dsum_perm (c : Dev nD) {A B : List Atom} (h : A.Perm B) : dsum c A = dsum c B := (h.map _).sum_eq

/-- Atoms at no level owe nothing. -/
theorem dsum_free (c : Dev nD) (A R : List Atom) (hA : A.all (fun a => (debtLev a).isNone) = true) : dsum c (A ++ R) = dsum c R := by
  induction A with
  | nil => rfl
  | cons a A ih =>
    rw [List.all_cons, Bool.and_eq_true] at hA
    have e : debt c a = 0 := by
      cases a <;> first | rfl | exact absurd hA.1 Bool.false_ne_true
    have e' : dsum c (a :: A ++ R) = debt c a + dsum c (A ++ R) := by unfold dsum; rw [List.cons_append, List.map_cons, List.sum_cons]
    rw [e', e, zero_add, ih hA.2]

theorem debt_pos (c : Dev nD) (a : Atom) (g : GSem nD τ sig) (i : Unit) (h : 0 < debt c a g i) :
    i ∈ L g ∧ ∃ l, debtLev a = some l ∧ lv g i = l := by
  have key (g₀ : GSem nD τ sig) (n : ℕ) (h : 0 < (tallyAt g₀ () n : CellTallies nD τ sig Unit) g i) : g = g₀ := by
    rw [tallyAt_apply] at h
    by_contra hne
    rw [if_neg fun e => hne e.1] at h
    exact Nat.lt_irrefl 0 h
  cases a with
  | sg k =>
    obtain rfl := key _ _ h
    exact ⟨by rw [L_tc]; exact Finset.mem_singleton_self _, 1, rfl, lv_bar _ _⟩
  | uns t =>
    obtain rfl := key _ _ h
    exact ⟨by rw [L_tc]; exact Finset.mem_singleton_self _, levT t, rfl, lv_recv _ _ _⟩
  | _ => exact absurd h (Nat.lt_irrefl 0)

theorem dsum_pos (c : Dev nD) (b : ℕ) (A : List Atom) (hA : A.all (above b) = true) (g : GSem nD τ sig) (i : Unit)
    (h : 0 < dsum c A g i) : i ∈ L g ∧ b < lv g i := by
  induction A with
  | nil => exact absurd h (Nat.lt_irrefl 0)
  | cons a A ih =>
    rw [List.all_cons, Bool.and_eq_true] at hA
    have e : dsum c (a :: A) = debt c a + dsum c A := by unfold dsum; rw [List.map_cons, List.sum_cons]
    rw [e, Pi.add_apply, Finsupp.add_apply] at h
    rcases Nat.add_pos_iff_pos_or_pos.mp h with h | h
    · obtain ⟨h1, l, h2, h3⟩ := debt_pos c a g i h
      refine ⟨h1, ?_⟩
      have h4 := hA.1
      unfold above at h4
      rw [h2] at h4
      rw [h3]
      exact of_decide_eq_true h4
    · exact ih hA.2 h

/-- A wait at a level below all that is owed may pass. -/
theorem mayWait (c : Dev nD) (sm : SemLoc sig) (b : ℕ) (A : List Atom) (hA : A.all (above b) = true) (hb : lv ((c : Thread nD τ), sm) () = b) :
    (levAts L lv : sProp 𝕄) ⊢ MayWait (c : Thread nD τ) sm () (dsum c A) :=
  Pipeline.mayWait_of_levAts (by rw [L_tc]; exact Finset.mem_singleton_self _) fun g i h => by
    rw [hb]; exact dsum_pos c b A hA g i h

/-! ## What every device knows -/

/-- The invariants of all the cells, that all are at their first round, and the levels. -/
def known (K : Dev nD × CK → ℕ) : sProp 𝕄 :=
  iprop((bigSep Finset.univ fun p : Dev nD × CK => cellInv ER (sched I) (K p) (kcell p.1 p.2))
    ∗ (bigSep Finset.univ fun p : Dev nD × CK => reached ER (kcell p.1 p.2) 0) ∗ levAts L lv)

instance known_persistent (K : Dev nD × CK → ℕ) : BI.Persistent (known I K) := by unfold known; infer_instance

theorem known_inv (K : Dev nD × CK → ℕ) (c : Dev nD) (k : CK) : known I K ⊢ cellInv ER (sched I) (K (c, k)) (kcell c k) := by
  unfold known
  iintro ⟨H, -, -⟩
  iapply (show (bigSep Finset.univ fun p : Dev nD × CK => cellInv ER (sched I) (K p) (kcell p.1 p.2) : sProp 𝕄)
    ⊢ cellInv ER (sched I) (K (c, k)) (kcell c k) from bigSep_elim (Finset.mem_univ (c, k)))
  iexact H
theorem known_reached (K : Dev nD × CK → ℕ) (c : Dev nD) (k : CK) : known I K ⊢ reached ER (kcell c k) 0 := by
  unfold known
  iintro ⟨-, H, -⟩
  iapply (show (bigSep Finset.univ fun p : Dev nD × CK => reached ER (kcell p.1 p.2) 0 : sProp 𝕄)
    ⊢ reached ER (kcell c k) 0 from bigSep_elim (Finset.mem_univ (c, k)))
  iexact H
theorem known_bar (K : Dev nD × CK → ℕ) (c : Dev nD) : known I K ⊢ cellInv ER (sched I) (K (c, none)) (barCell c) := known_inv I K c none
theorem known_send (K : Dev nD × CK → ℕ) (c : Dev nD) (t : Tr) : known I K ⊢ cellInv ER (sched I) (K (c, some (false, t))) (sendCell c t) :=
  known_inv I K c (some (false, t))
theorem known_recv (K : Dev nD × CK → ℕ) (c : Dev nD) (t : Tr) : known I K ⊢ cellInv ER (sched I) (K (c, some (true, t))) (recvCell c t) :=
  known_inv I K c (some (true, t))
theorem known_levs (K : Dev nD × CK → ℕ) : known I K ⊢ (levAts L lv : sProp 𝕄) := by
  unfold known
  iintro ⟨-, -, H⟩
  iexact H

theorem bigSepL_two {A : Type} (i j : A) (l : List A) (Φ : A → sProp 𝕄) : bigSepL (i :: j :: l) Φ = iprop(Φ i ∗ bigSepL (j :: l) Φ) := rfl

/-- The device's holdings: the atoms, and that it owes what they and the others owe. -/
def st (c : Dev nD) (A R : List Atom) : sProp 𝕄 :=
  iprop((∃ W, owes (c : Thread nD τ) (dsum c (A ++ R)) W) ∗ bigSepL A (res I c))

/-! ## What a step takes and gives -/

def pre : Act → List Atom
  | .fillW u => [.w, .raw (.inr (.own u))]
  | .fillX j => [.x, .raw (.inl (.tile j))]
  | .signal k => [.sg k]
  | .barWait => [.bar false]
  | .send t => [.half (srcOf t) (lentShare t), .dst t, .uns t]
  | .own => [.x, .w, .accAny]
  | .recv t => [.ung t]
  | .gemm n => [.half (.inr (.wb (gd n.val) (gh n.val) 0)) true, .half (.inr (.wb (gd n.val) (gh n.val) 1)) true,
      .half (.inl (.xt (gj n.val))) true, .acc n.val]
  | .finish => [.half (.inl (.xt 7)) true, .half (.inr (.wb 0 7 0)) true, .half (.inr (.wb 1 7 1)) true, .acc 14, .sx, .sw, .out false]
  | .left t => [.fly t]

def post : Act → List Atom
  | .fillW u => [.w, .half (.inr (.own u)) false, .half (.inr (.own u)) true]
  | .fillX j => [.x, .half (.inl (.tile j)) false, .half (.inl (.tile j)) true]
  | .signal k => []
  | .barWait => .bar true :: usedL.map .dst
  | .send t => [.fly t]
  | .own => [.x, .w, .acc 0]
  | .recv t => [.got t, .half (dstOf t) false, .half (dstOf t) true]
  | .gemm n => [.half (.inr (.wb (gd n.val) (gh n.val) 0)) true, .half (.inr (.wb (gd n.val) (gh n.val) 1)) true,
      .half (.inl (.xt (gj n.val))) true, .acc (n.val + 1)]
  | .finish => [.half (.inl (.xt 7)) true, .half (.inr (.wb 0 7 0)) true, .half (.inr (.wb 1 7 1)) true, .acc 14, .sx, .sw, .out true]
  | .left t => [.left t, .half (srcOf t) (lentShare t)]

/-- What a step needs of the rest: a wait needs the debts above its level, a copy must be one that is made. -/
def okRest : Act → List Atom → Bool
  | .barWait, R => R.all (above 1)
  | .recv t, R => used t && R.all (above (levT t))
  | .left t, R => used t && R.all (above 0)
  | .send t, _ => used t
  | _, _ => true

/-- A step is sound: from its atoms it runs to the others. -/
def Sound (K : Dev nD × CK → ℕ) (c : Dev nD) (a : Act) : Prop :=
  ∀ (R : List Atom), okRest a R = true → ∀ (k : PUnit → KProg F PUnit) (Q : PUnit → sProp 𝕄),
    iprop(known I K ∗ st I c (pre a) R ∗ (st I c (post a) R -∗ wpc c (k ⟨⟩) Q)) ⊢ wpc c ((act c a).bind k) Q

end Cert.KernelIdeal.Gen

end
-- ==== Proof.Steps.lean ====
/-
  Every step of the body is sound: it takes the atoms `pre` lists and gives those `post` lists.
-/
module

public import proofs.«01_k».proof.Proof.Atoms

@[expose] public section

set_option maxRecDepth 8000

noncomputable section

namespace Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F) (K : Dev nD × CK → ℕ) (c : Dev nD)

/-- A slot held whole is its two halves. -/
theorem hold_halves (s : Slot) : hold I c fullShare s ⊢ iprop(hold I c (halfShare false) s ∗ hold I c (halfShare true) s) := by
  cases s with
  | inl s => exact (owns_halves (c : Thread nD τ) (tM s) fullShare (tval I c s)).1
  | inr s => exact (owns_halves (c : Thread nD τ) (wsM s) fullShare (wval I c s)).1
/-- Its two halves are the slot, holding something. -/
theorem hold_raw (s : Slot) : iprop(hold I c (halfShare false) s ∗ hold I c (halfShare true) s) ⊢ raw c s := by
  cases s with
  | inl s =>
    refine (owns_halves (c : Thread nD τ) (tM s) fullShare (tval I c s)).2.trans ?_
    unfold owns raw
    iintro ⟨%f, -, H⟩
    iexists f
    iexact H
  | inr s =>
    refine (owns_halves (c : Thread nD τ) (wsM s) fullShare (wval I c s)).2.trans ?_
    unfold owns raw
    iintro ⟨%f, -, H⟩
    iexists f
    iexact H

/-! ## The semaphores -/

theorem sound_signal (k : Fin 15) : Sound I K c (.signal k) := by
  intro R hR kont Q
  unfold st
  simp only [pre, post, bigSepL, res, act, semSignalWord, Prog.bind_op, Prog.bind_ret, List.nil_append]
  iintro ⟨#HK, ⟨⟨%W, HO⟩, Htok, Hpay⟩, Hk⟩
  ihave #HI := (known_bar I K (sigDev c k)) $$ HK
  ihave #Hr := (known_reached I K (sigDev c k) none) $$ HK
  iapply (Rounds.wp_signal 𝒱₀ ER (sched I) (c : Thread nD τ) none (dst := (sigDev c k : Thread nD τ)) (κ := K (sigDev c k, none))
      (d := k) (by rw [duties_bar]; exact Finset.mem_univ _) ((amount_bar I (sigDev c k) k).trans (by decide)) () (dsum c R)
      (show dsum c ([.sg k] ++ R) = dsum c R + debt c (.sg k) by rw [dsum_append, add_comm]; unfold dsum; rw [List.map_singleton, List.sum_singleton]))
    $$ [HO Htok Hpay]
  · isplitr; · iexact HI
    isplitl [HO]; · iexact HO
    isplitl [Htok]; · iexact Htok
    isplitl [Hpay]; · rw [payload_bar]; iexact Hpay
    iexact Hr
  iintro HO
  iapply Hk
  isplitl [HO]
  · iexists W
    iexact HO
  iempintro

theorem sound_barWait : Sound I K c .barWait := by
  intro R hR kont Q
  unfold st
  have e0 : dsum c ([.bar false] ++ R) = dsum c R := dsum_free c _ R rfl
  have e1 : dsum c ((.bar true :: usedL.map .dst) ++ R) = dsum c R := by
    refine dsum_free c _ R (List.all_eq_true.mpr fun a ha => ?_)
    rcases List.mem_cons.mp ha with rfl | ha
    · rfl
    · obtain ⟨t, -, rfl⟩ := List.mem_map.mp ha
      rfl
  simp only [pre, post]
  rw [e0, e1, bigSepL_cons' (Atom.bar true), bigSepL_map]
  have e2 : (bigSepL usedL fun t => res I c (.dst t)) = bigSep usedS fun t => raw (F := F) (devOf c t) (dstOf t) :=
    (bigSep_eq_bigSepL_of_eq usedL usedS_eq usedL_nodup fun t => raw (F := F) (devOf c t) (dstOf t)).symm
  rw [e2]
  simp only [bigSepL, res, act, semWaitWord, Prog.bind_op, Prog.bind_ret]
  iintro ⟨#HK, ⟨⟨%W, HO⟩, Hat, Hc⟩, Hk⟩
  ihave #HI := (known_bar I K c) $$ HK
  iapply (Rounds.wp_wait_rest_token 𝒱₀ ER (sched I) (c : Thread nD τ) none (κ := K (c, none))
      (wpE_semWait_eq 𝒱₀ (c : Thread nD τ) none Set.univ) (Set.mem_univ _) () (O := dsum c R) (W := W) (R := 0) (m := 0) (T := ∅)
      (by rw [expect_bar]; decide)) $$ [Hc HO Hat]
  · isplitr; · iexact HI
    isplitl [Hc]; · iexact Hc
    isplitl [HO]; · iexact HO
    isplitr; · iapply ((known_levs I K).trans (mayWait c (.reg barSem) 1 R hR rfl)); iexact HK
    iexact Hat
  iintro ⟨HO, Hat, -, Hpay⟩
  ihave Hp := (Entails.of_eq (rest_bar I c)) $$ Hpay
  iapply Hk
  isplitl [HO]
  · iexists (insert _ W)
    iexact HO
  isplitl [Hat]; · iexact Hat
  iexact Hp

section
attribute [local irreducible] credit

/-- A wait for a copy to land. -/
theorem wait_recv (t : Tr) (h : used t = true) {w : TpuEff nD τ sig (Elt F) Λ₀ .tc PUnit}
    (hw : ∀ Q : PUnit → sProp 𝕄, wpE (defs₀ (F := F)) 𝒱₀ (c : Thread nD τ) none Set.univ w Q = waitSpec (c : Thread nD τ) Set.univ (.dma (recvSem t)) (credit t) Q)
    (R : List Atom) (hR : R.all (above (levT t)) = true) (kont : PUnit → KProg F PUnit) (Q : PUnit → sProp 𝕄) :
    iprop(known I K ∗ st I c [.ung t] R ∗ (st I c [.got t, .half (dstOf t) false, .half (dstOf t) true] R -∗ wpc c (kont ⟨⟩) Q))
      ⊢ wpc c (.op w kont) Q := by
  unfold st
  have e0 : dsum c ([.ung t] ++ R) = dsum c R := dsum_free c _ R rfl
  have e1 : dsum c ([.got t, .half (dstOf t) false, .half (dstOf t) true] ++ R) = dsum c R := dsum_free c _ R rfl
  rw [e0, e1]
  simp only [bigSepL_two, bigSepL_singleton, res]
  iintro ⟨#HK, ⟨⟨%W, HO⟩, Hat, Hc⟩, Hk⟩
  ihave #HI := (known_recv I K c t) $$ HK
  iapply (Rounds.wp_wait_rest_token 𝒱₀ ER (sched I) (c : Thread nD τ) none (κ := K (c, some (true, t)))
      hw (Set.mem_univ _) () (O := dsum c R) (W := W) (R := 0) (m := 0) (T := ∅)
      (by rw [Nat.zero_add, expect_recv I c h])) $$ [Hc HO Hat]
  · isplitr; · iexact HI
    isplitl [Hc]; · iexact Hc
    isplitl [HO]; · iexact HO
    isplitr; · iapply ((known_levs I K).trans (mayWait c (.dma (recvSem t)) (levT t) R hR (lv_recv c t ()))); iexact HK
    iexact Hat
  iintro ⟨HO, Hat, -, Hpay⟩
  ihave Hp := (Entails.of_eq (rest_recv I c h)) $$ Hpay
  iapply Hk
  isplitl [HO]
  · iexists (insert _ W)
    iexact HO
  isplitl [Hat]; · iexact Hat
  iapply (hold_halves I c (dstOf t))
  iexact Hp

end

theorem sound_recv (t : Tr) : Sound I K c (.recv t) := by
  intro R hR kont Q
  have h2 : used t = true ∧ R.all (above (levT t)) = true := (Bool.and_eq_true _ _).mp hR
  rcases t with j | ⟨d, h, u⟩
  · exact wait_recv I K c _ h2.1 (wpE_waitDma2_eq 𝒱₀ (c : Thread nD τ) none Set.univ) R h2.2 kont Q
  · exact wait_recv I K c _ h2.1 (wpE_waitDma2_eq 𝒱₀ (c : Thread nD τ) none Set.univ) R h2.2 kont Q

section
attribute [local irreducible] credit

/-- A wait for a copy to have left. -/
theorem wait_left (t : Tr) (h : used t = true) {w : TpuEff nD τ sig (Elt F) Λ₀ .tc PUnit}
    (hw : ∀ Q : PUnit → sProp 𝕄, wpE (defs₀ (F := F)) 𝒱₀ (c : Thread nD τ) none Set.univ w Q = waitSpec (c : Thread nD τ) Set.univ (.dma (sendSem t)) (credit t) Q)
    (R : List Atom) (hR : R.all (above 0) = true) (kont : PUnit → KProg F PUnit) (Q : PUnit → sProp 𝕄) :
    iprop(known I K ∗ st I c [.fly t] R ∗ (st I c [.left t, .half (srcOf t) (lentShare t)] R -∗ wpc c (kont ⟨⟩) Q))
      ⊢ wpc c (.op w kont) Q := by
  unfold st
  have e0 : dsum c ([.fly t] ++ R) = dsum c R := dsum_free c _ R rfl
  have e1 : dsum c ([.left t, .half (srcOf t) (lentShare t)] ++ R) = dsum c R := dsum_free c _ R rfl
  rw [e0, e1]
  simp only [bigSepL_two, bigSepL_singleton, res]
  iintro ⟨#HK, ⟨⟨%W, HO⟩, Hat, Hc⟩, Hk⟩
  ihave #HI := (known_send I K c t) $$ HK
  iapply (Rounds.wp_wait_rest_token 𝒱₀ ER (sched I) (c : Thread nD τ) none (κ := K (c, some (false, t)))
      hw (Set.mem_univ _) () (O := dsum c R) (W := W) (R := 0) (m := 0) (T := ∅)
      (by rw [Nat.zero_add, expect_send I c h])) $$ [Hc HO Hat]
  · isplitr; · iexact HI
    isplitl [Hc]; · iexact Hc
    isplitl [HO]; · iexact HO
    isplitr; · iapply ((known_levs I K).trans (mayWait c (.dma (sendSem t)) 0 R hR (lv_send c t ()))); iexact HK
    iexact Hat
  iintro ⟨HO, Hat, -, Hpay⟩
  ihave Hp := (Entails.of_eq (rest_send I c h)) $$ Hpay
  iapply Hk
  isplitl [HO]
  · iexists (insert _ W)
    iexact HO
  isplitl [Hat]; · iexact Hat
  iexact Hp

end

theorem credit_tile (j : Fin 15) : (tM (.tile j)).view.dmaCredit = credit (.inl j) := rfl
theorem credit_src (d : Fin 2) (h : Fin 8) (u : Fin 2) : (wsM (wsrc d h u)).view.dmaCredit = credit (.inr (d, h, u)) := by
  obtain ⟨_ | n, hn⟩ := h <;> rfl

theorem sound_left (t : Tr) : Sound I K c (.left t) := by
  intro R hR kont Q
  have h2 : used t = true ∧ R.all (above 0) = true := (Bool.and_eq_true _ _).mp hR
  rcases t with j | ⟨d, h, u⟩
  · exact wait_left I K c (.inl j) h2.1
      (fun Q => (wpE_waitDma2_eq 𝒱₀ (c : Thread nD τ) none Set.univ Q).trans (congrArg (fun n => waitSpec (c : Thread nD τ) Set.univ _ n Q) (credit_tile j)))
      R h2.2 kont Q
  · exact wait_left I K c (.inr (d, h, u)) h2.1
      (fun Q => (wpE_waitDma2_eq 𝒱₀ (c : Thread nD τ) none Set.univ Q).trans (congrArg (fun n => waitSpec (c : Thread nD τ) Set.univ _ n Q) (credit_src d h u)))
      R h2.2 kont Q

/-! ## The copies -/

section
attribute [local irreducible] credit

/-- A copy of a slot onto its peer's. -/
theorem start_copy (t : Tr) (h : used t = true) {s : Shape} {src dst : Memref sig .tc .vmem s .fp8e4m3}
    {hsc : dst.view.ref.isScScratch = false} {hsrc : src.view.WordExact} {hdst : dst.view.WordExact}
    {hsem : DmaTarget.Typed (nD := nD) (τ := τ) .vmem (.dma (recvSem t)) (.remote (Dev.tc (devOf c t) : Thread nD τ) dst (.dma (sendSem t)) hsc)}
    (X : s.Idx → Elt F .fp8e4m3)
    (hN : dst.view.dmaCredit = credit t)
    (hsrc' : hold I c (halfShare (lentShare t)) (srcOf t) = owns (c : Thread nD τ) src (halfShare (lentShare t)) X)
    (hraw : raw (F := F) (devOf c t) (dstOf t) = iprop(∃ f, (dst.view.loc (devOf c t : Thread nD τ) ↦[dst.view.set]{fullShare} f)))
    (hdst' : hold I (devOf c t) fullShare (dstOf t) = owns (devOf c t : Thread nD τ) dst fullShare X)
    (R : List Atom) (kont : PUnit → KProg F PUnit) (Q : PUnit → sProp 𝕄) :
    iprop(known I K ∗ st I c [.half (srcOf t) (lentShare t), .dst t, .uns t] R ∗ (st I c [.fly t] R -∗ wpc c (kont ⟨⟩) Q))
      ⊢ wpc c (.op (.enqueueDma src (.remote (Dev.tc (devOf c t) : Thread nD τ) dst (.dma (sendSem t)) hsc) (.dma (recvSem t)) hsrc hdst hsem) kont) Q := by
  unfold st
  have e1 : dsum c ([.fly t] ++ R) = dsum c R := dsum_free c _ R rfl
  have e0 : dsum c ([.half (srcOf t) (lentShare t), .dst t, .uns t] ++ R) = dsum c R + tallyAt (recvCell (devOf c t) t) () (credit t) := by
    have e := dsum_free c [.half (srcOf t) (lentShare t), .dst t] ([.uns t] ++ R) rfl
    refine e.trans ?_
    rw [dsum_append, add_comm]
    unfold dsum
    rw [List.map_singleton, List.sum_singleton]
    rfl
  rw [e1]
  simp only [bigSepL_two, bigSepL_singleton, res]
  rw [hsrc', hraw]
  unfold owns
  iintro ⟨#HK, ⟨⟨%W, HO⟩, ⟨%fs, %hfs, Hs⟩, ⟨%fd, Hd⟩, Ht1, Ht2, Hat⟩, Hk⟩
  ihave #HI1 := (known_send I K c t) $$ HK
  ihave #HI2 := (known_recv I K (devOf c t) t) $$ HK
  ihave #Hr1 := (known_reached I K c (some (false, t))) $$ HK
  ihave #Hr2 := (known_reached I K (devOf c t) (some (true, t))) $$ HK
  iapply (Rounds.wp_send_pointsTo 𝒱₀ ER (sched I) (c : Thread nD τ) none (κ₁ := K (c, some (false, t))) (κ₂ := K (devOf c t, some (true, t)))
    (r₁ := 0) (r₂ := 0) (d₁ := 0) (d₂ := 0) (fs := fs) (fd := fd) (q := halfShare (lentShare t))
    (by rw [duties_send I c h]; exact Finset.mem_singleton_self _) (by rw [duties_recv I (devOf c t) h]; exact Finset.mem_singleton_self _)
    () () (credit t) (show dst.view.amount (.dma (recvSem t)) = credit t from hN) (amount_send I c 0) (amount_recv I (devOf c t) 0) (dsum c R) e0 (W := W)
    (by
      rw [payload_send, hsrc']
      unfold owns
      iintro H
      iexists fs
      isplitr
      · ipureintro; exact hfs
      iexact H)
    (by
      rw [payload_recv, hdst']
      unfold owns
      iintro H
      iexists (dst.view.write (Elt F) fd (src.view.read (Elt F) fs) Finset.univ)
      isplitr
      · ipureintro; rw [View.read_write_univ]; exact hfs
      iexact H)) $$ [HO Hs Hd Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  iapply Hk
  isplitl [HO]
  · iexists W
    iexact HO
  isplitl [Hat]; · iexact Hat
  iexact Hc

end

theorem sound_send (t : Tr) : Sound I K c (.send t) := by
  intro R hR kont Q
  rcases t with j | ⟨d, h, u⟩
  · exact start_copy I K c (.inl j) hR (tval I c (.tile j)) rfl rfl rfl
      (congrArg (owns (devOf c (.inl j) : Thread nD τ) (tM (.xt j)) fullShare) (tval_sent I c j)) R kont Q
  · exact start_copy I K c (.inr (d, h, u)) hR (wval I c (wsrc d h u)) rfl rfl rfl
      (congrArg (owns (devOf c (.inr (d, h, u)) : Thread nD τ) (wsM (.wb d h u)) fullShare) (wval_sent I c d h u)) R kont Q

end Cert.KernelIdeal.Gen

end
-- ==== Proof.Data.lean ====
/-
  The steps that load, multiply and store: each turns its atoms into those `post` lists, and so every step is sound.
-/
module

public import proofs.«01_k».proof.Proof.Steps

@[expose] public section

set_option maxRecDepth 8000

noncomputable section

namespace Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F) (K : Dev nD × CK → ℕ) (c : Dev nD)

/-- A step that touches no semaphore is sound when it turns its atoms into the others. -/
theorem sound_quiet (a : Act) (h1 : (pre a).all (fun b => (debtLev b).isNone) = true) (h2 : (post a).all (fun b => (debtLev b).isNone) = true)
    (h : ∀ (k : PUnit → KProg F PUnit) (Q : PUnit → sProp 𝕄),
      iprop(bigSepL (pre a) (res I c) ∗ (bigSepL (post a) (res I c) -∗ wpc c (k ⟨⟩) Q)) ⊢ wpc c ((act c a).bind k) Q) : Sound I K c a := by
  intro R hR k Q
  unfold st
  rw [dsum_free c _ R h1, dsum_free c _ R h2]
  iintro ⟨-, ⟨HO, HA⟩, Hk⟩
  iapply (h k Q)
  isplitl [HA]; · iexact HA
  iintro HA
  iapply Hk
  isplitl [HO]; · iexact HO
  iexact HA

/-! ## Whole buffers -/

/-- The whole of an array of 256 rows, and of a scale. -/
abbrev r2 : Rect S256x2048 := Rect.unit (s := S256x2048) ![0, 0] S256x2048.size inb_S256x2048_S256x2048_0_0
abbrev r1 : Rect S1 := Rect.unit (s := S1) ![0] S1.size inb_S1_S1_0

theorem hz : (![0, 0] : Fin 2 → Nat) = fun _ => 0 := funext fun a => by fin_cases a <;> rfl

/-! ## The send buffers -/

theorem casts_own' : S1x128x2048.ShapeCasts S128x2048 := by decide
theorem fill_w (v : Vec F S128x2048 .fp8e4m3) :
    shapeCast S128x2048 (k0_pay1 v) casts_own' = v := by
  unfold k0_pay1
  rw [shapeCast_self]
  exact shapeCast_shapeCast _ _ _
theorem fill_x (v : Vec F S256x256 .fp8e4m3) :
    shapeCast S256x256 (k0_pay3 v) casts_tile' = v := by
  unfold k0_pay3
  rw [shapeCast_self]
  exact shapeCast_shapeCast _ _ _

/-- The load of a send slot, before it is written, -/
theorem load_own (u : Fin 2) (hl) (k : Vec F S1x128x2048 .fp8e4m3 → KProg F PUnit) (Q : PUnit → sProp 𝕄) :
    raw c (.inr (.own u)) ⊢ iprop((raw c (.inr (.own u)) -∗ ∀ v, wpc c (k v) Q)
      -∗ wpc c (.op (.load ownM (Rect.unit (s := S2x128x2048) ![u.val, 0, 0] S1x128x2048.size (inb_own u)).toLoadRect hl) k) Q) :=
  load_raw c ownM (Rect.unit (s := S2x128x2048) ![u.val, 0, 0] S1x128x2048.size (inb_own u)) (fun _ => rfl) squeezes_S1x128x2048_S128x2048 fullShare hl k Q
theorem load_send (j : Fin 15) (hl) (k : Vec F S1x256x256 .fp8e4m3 → KProg F PUnit) (Q : PUnit → sProp 𝕄) :
    raw c (.inl (.tile j)) ⊢ iprop((raw c (.inl (.tile j)) -∗ ∀ v, wpc c (k v) Q)
      -∗ wpc c (.op (.load (tileRef 0) (Rect.unit (s := S15x256x256) ![j.val, 0, 0] S1x256x256.size (inb_tile j)).toLoadRect hl) k) Q) :=
  load_raw c (tileRef 0) (Rect.unit (s := S15x256x256) ![j.val, 0, 0] S1x256x256.size (inb_tile j)) (fun _ => rfl) squeezes_S1x256x256_S256x256 fullShare hl k Q
/-- and its store. -/
theorem store_own (u : Fin 2) (v : Vec F S128x2048 .fp8e4m3) (hx) (hm) (k : PUnit → KProg F PUnit) (Q : PUnit → sProp 𝕄) :
    raw c (.inr (.own u)) ⊢ iprop((owns (c : Thread nD τ) (wsM (.own u)) fullShare v -∗ wpc c (k ⟨⟩) Q)
      -∗ wpc c (.op (.store ownM (Rect.unit (s := S2x128x2048) ![u.val, 0, 0] S1x128x2048.size (inb_own u)) (k0_pay1 v) Finset.univ hx hm) k) Q) := by
  have h := store_slot c ownM (Rect.unit (s := S2x128x2048) ![u.val, 0, 0] S1x128x2048.size (inb_own u)) (fun _ => rfl) squeezes_S1x128x2048_S128x2048 casts_own' (k0_pay1 v) hx hm k Q
  rw [fill_w] at h
  exact h
theorem store_send (j : Fin 15) (v : Vec F S256x256 .fp8e4m3) (hx) (hm) (k : PUnit → KProg F PUnit) (Q : PUnit → sProp 𝕄) :
    raw c (.inl (.tile j)) ⊢ iprop((owns (c : Thread nD τ) (tM (.tile j)) fullShare v -∗ wpc c (k ⟨⟩) Q)
      -∗ wpc c (.op (.store (tileRef 0) (Rect.unit (s := S15x256x256) ![j.val, 0, 0] S1x256x256.size (inb_tile j)) (k0_pay3 v) Finset.univ hx hm) k) Q) := by
  have h := store_slot c (tileRef 0) (Rect.unit (s := S15x256x256) ![j.val, 0, 0] S1x256x256.size (inb_tile j)) (fun _ => rfl) squeezes_S1x256x256_S256x256 casts_tile' (k0_pay3 v) hx hm k Q
  rw [fill_x] at h
  exact h

theorem sound_fillW (u : Fin 2) : Sound I K c (.fillW u) := by
  refine sound_quiet I K c _ rfl rfl fun kont Q => ?_
  simp only [pre, post, bigSepL_two, bigSepL_singleton, res, act, Prog.lift, Prog.pure_eq_ret, bind, Prog.bind_op, Prog.bind_ret]
  iintro ⟨⟨Hw, Hs⟩, Hk⟩
  iapply (wp_load 𝒱₀ (c : Thread nD τ) none Set.univ (m := wM) (Finset.subset_univ _)) $$ Hw
  iintro Hw
  iapply (load_own c u) $$ Hs
  iintro Hs
  iintro %v
  iapply (store_own c u) $$ Hs
  iintro Hs
  iapply Hk
  isplitl [Hw]; · iexact Hw
  iapply (show owns (c : Thread nD τ) (wsM (.own u)) fullShare (wHalf I c u) ⊢ _ from hold_halves I c (.inr (.own u)))
  iexact Hs

theorem sound_fillX (j : Fin 15) : Sound I K c (.fillX j) := by
  refine sound_quiet I K c _ rfl rfl fun kont Q => ?_
  simp only [pre, post, bigSepL_two, bigSepL_singleton, res, act, Prog.lift, Prog.pure_eq_ret, bind, Prog.bind_op, Prog.bind_ret]
  iintro ⟨⟨Hx, Hs⟩, Hk⟩
  iapply (wp_load 𝒱₀ (c : Thread nD τ) none Set.univ (m := xM) (Finset.subset_univ _)) $$ Hx
  iintro Hx
  iapply (load_send c j) $$ Hs
  iintro Hs
  iintro %v
  iapply (store_send c j) $$ Hs
  iintro Hs
  iapply Hk
  isplitl [Hx]; · iexact Hx
  iapply (show owns (c : Thread nD τ) (tM (.tile j)) fullShare (xTile I c j) ⊢ _ from hold_halves I c (.inl (.tile j)))
  iexact Hs

/-! ## The products -/

theorem read_w (f : (cc0_stg1_0 : Ref sig .tc).ty.Contents (Elt F)) :
    wM.view.readAt (Elt F) (Rect.unit (s := S256x2048) ![0, 0] S256x2048.size inb_S256x2048_S256x2048_0_0).toLoadRect f = f :=
  Memref.readAt_unit_zero (Elt F) cc0_stg1_0 hz _ f
theorem read_acc (f : (cc0_scratch5 : Ref sig .tc).ty.Contents (Elt F)) :
    accM.view.readAt (Elt F) (Rect.unit (s := S256x2048) ![0, 0] S256x2048.size inb_S256x2048_S256x2048_0_0).toLoadRect f = f :=
  Memref.readAt_unit_zero (Elt F) cc0_scratch5 hz _ f
theorem write_acc (f w : (cc0_scratch5 : Ref sig .tc).ty.Contents (Elt F)) :
    (accM.access (Rect.unit (s := S256x2048) ![0, 0] S256x2048.size inb_S256x2048_S256x2048_0_0) : View sig .tc _ _ _).write (Elt F) f w Finset.univ = w :=
  Memref.write_access_unit_zero_univ (Elt F) cc0_scratch5 hz _ f w
theorem write_out (f w : (cc0_stg4_0 : Ref sig .tc).ty.Contents (Elt F)) :
    (oM.access (Rect.unit (s := S256x2048) ![0, 0] S256x2048.size inb_S256x2048_S256x2048_0_0) : View sig .tc _ _ _).write (Elt F) f w Finset.univ = w :=
  Memref.write_access_unit_zero_univ (Elt F) cc0_stg4_0 hz _ f w

theorem sound_own : Sound I K c .own := by
  refine sound_quiet I K c _ rfl rfl fun kont Q => ?_
  simp only [pre, post, bigSepL_two, bigSepL_singleton, res, act, Prog.lift, Prog.pure_eq_ret, bind, Prog.bind_op, Prog.bind_ret]
  iintro ⟨⟨Hx, Hw, %f, Hs⟩, Hk⟩
  iapply (wp_load 𝒱₀ (c : Thread nD τ) none Set.univ (m := xM) (Finset.subset_univ _)) $$ Hx
  iintro Hx
  iapply (wp_load 𝒱₀ (c : Thread nD τ) none Set.univ (m := wM) (Finset.subset_univ _)) $$ Hw
  iintro Hw
  rw [read_w]
  iapply (wp_load 𝒱₀ (c : Thread nD τ) none Set.univ (m := accM) (Finset.subset_univ _)) $$ Hs
  iintro Hs
  iapply (wp_store 𝒱₀ (c : Thread nD τ) none Set.univ (m := accM) (r := r2) (Mk := Finset.univ) (Finset.subset_univ _)) $$ Hs
  iintro Hs
  rw [write_acc]
  iapply Hk
  isplitl [Hx]; · iexact Hx
  isplitl [Hw]; · iexact Hw
  iexact Hs

/-- A load of a landed half. -/
theorem load_half (d : Fin 2) (h : Fin 8) (u : Fin 2) (b : Bool) (hl) (k : Vec F S1x1x128x2048 .fp8e4m3 → KProg F PUnit) (Q : PUnit → sProp 𝕄) :
    hold I c (halfShare b) (.inr (.wb d h u))
      ⊢ iprop((hold I c (halfShare b) (.inr (.wb d h u)) -∗ wpc c (k (ldHalf I c d h u)) Q)
        -∗ wpc c (.op (.load (wbRef d) (Rect.unit (s := S8x2x128x2048) ![h.val, u.val, 0, 0] S1x1x128x2048.size (inb_wb h u)).toLoadRect hl) k) Q) :=
  load_slot c (wbRef d) (Rect.unit (s := S8x2x128x2048) ![h.val, u.val, 0, 0] S1x1x128x2048.size (inb_wb h u)) (fun _ => rfl)
    squeezes_S1x1x128x2048_S128x2048 casts_half' casts_half (halfShare b) (wval I c (.wb d h u)) hl k Q
/-- A load of a landed tile. -/
theorem load_tile (j : Fin 15) (b : Bool) (hl) (k : Vec F S1x256x256 .fp8e4m3 → KProg F PUnit) (Q : PUnit → sProp 𝕄) :
    hold I c (halfShare b) (.inl (.xt j))
      ⊢ iprop((hold I c (halfShare b) (.inl (.xt j)) -∗ wpc c (k (ldTile I c j)) Q)
        -∗ wpc c (.op (.load (tileRef 1) (Rect.unit (s := S15x256x256) ![j.val, 0, 0] S1x256x256.size (inb_tile j)).toLoadRect hl) k) Q) :=
  load_slot c (tileRef 1) (Rect.unit (s := S15x256x256) ![j.val, 0, 0] S1x256x256.size (inb_tile j)) (fun _ => rfl)
    squeezes_S1x256x256_S256x256 casts_tile' casts_tile (halfShare b) (tval I c (.xt j)) hl k Q

theorem sound_gemm (n : Fin 14) : Sound I K c (.gemm n) := by
  refine sound_quiet I K c _ rfl rfl fun kont Q => ?_
  simp only [pre, post, bigSepL_two, bigSepL_singleton, res, act, Prog.lift, Prog.pure_eq_ret, bind, Prog.bind_op, Prog.bind_ret]
  iintro ⟨⟨Ha, Hb, Hx, Hs⟩, Hk⟩
  iapply (load_half I c (gd n.val) (gh n.val) 0 true) $$ Ha
  iintro Ha
  iapply (load_half I c (gd n.val) (gh n.val) 1 true) $$ Hb
  iintro Hb
  iapply (load_tile I c (gj n.val) true) $$ Hx
  iintro Hx
  iapply (wp_load 𝒱₀ (c : Thread nD τ) none Set.univ (m := accM) (Finset.subset_univ _)) $$ Hs
  iintro Hs
  rw [read_acc]
  iapply (wp_load 𝒱₀ (c : Thread nD τ) none Set.univ (m := accM) (Finset.subset_univ _)) $$ Hs
  iintro Hs
  iapply (wp_store 𝒱₀ (c : Thread nD τ) none Set.univ (m := accM) (r := r2) (Mk := Finset.univ) (Finset.subset_univ _)) $$ Hs
  iintro Hs
  rw [write_acc]
  iapply Hk
  isplitl [Ha]; · iexact Ha
  isplitl [Hb]; · iexact Hb
  isplitl [Hx]; · iexact Hx
  iexact Hs

set_option maxHeartbeats 2000000 in
theorem sound_finish : Sound I K c .finish := by
  refine sound_quiet I K c _ rfl rfl fun kont Q => ?_
  simp only [pre, post, bigSepL_two, bigSepL_singleton, res, act, smemLoad, smemLoadElt, Prog.lift, Prog.pure_eq_ret, bind, Prog.bind_op, Prog.bind_ret]
  iintro ⟨⟨Hx, Ha, Hb, Hs, Hp, Hq, %f, Ho⟩, Hk⟩
  iapply (load_tile I c 7 true) $$ Hx
  iintro Hx
  iapply (load_half I c 0 7 0 true) $$ Ha
  iintro Ha
  iapply (load_half I c 1 7 1 true) $$ Hb
  iintro Hb
  iapply (wp_load 𝒱₀ (c : Thread nD τ) none Set.univ (m := accM) (Finset.subset_univ _)) $$ Hs
  iintro Hs
  rw [read_acc]
  iapply (wp_load_rect 𝒱₀ (c : Thread nD τ) none Set.univ (m := sxM) (r := r1) (Finset.subset_univ _)) $$ Hp
  iintro Hp
  iapply (wp_load_rect 𝒱₀ (c : Thread nD τ) none Set.univ (m := swM) (r := r1) (Finset.subset_univ _)) $$ Hq
  iintro Hq
  iapply (wp_load 𝒱₀ (c : Thread nD τ) none Set.univ (m := oM) (Finset.subset_univ _)) $$ Ho
  iintro Ho
  iapply (wp_store 𝒱₀ (c : Thread nD τ) none Set.univ (m := oM) (r := r2) (Mk := Finset.univ) (Finset.subset_univ _)) $$ Ho
  iintro Ho
  rw [write_out]
  iapply Hk
  isplitl [Hx]; · iexact Hx
  isplitl [Ha]; · iexact Ha
  isplitl [Hb]; · iexact Hb
  isplitl [Hs]; · iexact Hs
  isplitl [Hp]; · iexact Hp
  isplitl [Hq]; · iexact Hq
  iexact Ho

/-- Every step is sound. -/
theorem sound (a : Act) : Sound I K c a := by
  cases a with
  | fillW u => exact sound_fillW I K c u
  | fillX j => exact sound_fillX I K c j
  | signal k => exact sound_signal I K c k
  | barWait => exact sound_barWait I K c
  | send t => exact sound_send I K c t
  | own => exact sound_own I K c
  | recv t => exact sound_recv I K c t
  | gemm n => exact sound_gemm I K c n
  | finish => exact sound_finish I K c
  | left t => exact sound_left I K c t

end Cert.KernelIdeal.Gen

end
-- ==== Proof.Run.lean ====
/-
  A list of steps run on a list of atoms: the atoms a step takes are struck from the list, those it gives are put in front,
  and at every wait the debts of the rest are compared with the wait's level. What the whole body leaves is computed.
-/
module

public import proofs.«01_k».proof.Proof.Data

@[expose] public section

set_option maxRecDepth 8000

noncomputable section

namespace Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The list of atoms -/

/-- Strike one atom. -/
def strike (a : Atom) : List Atom → Option (List Atom)
  | [] => none
  | b :: l => if b = a then some l else (strike a l).map (b :: ·)
/-- Strike a list of atoms. -/
def strikeAll : List Atom → List Atom → Option (List Atom)
  | [], A => some A
  | a :: l, A => (strike a A).bind (strikeAll l)
/-- One step. -/
def stepA (a : Act) (A : List Atom) : Option (List Atom) :=
  (strikeAll (pre a) A).bind fun R => if okRest a R = true then some (post a ++ R) else none
/-- A list of steps. -/
def runA : List Act → List Atom → Option (List Atom)
  | [], A => some A
  | a :: l, A => (stepA a A).bind (runA l)

theorem strike_perm (a : Atom) (A R : List Atom) (h : strike a A = some R) : A.Perm (a :: R) := by
  induction A generalizing R with
  | nil => exact nomatch h
  | cons b l ih =>
    unfold strike at h
    by_cases hb : b = a
    · rw [if_pos hb] at h
      obtain rfl := Option.some.inj h
      rw [hb]
    · rw [if_neg hb] at h
      obtain ⟨r, hr, rfl⟩ := Option.map_eq_some_iff.mp h
      exact ((ih r hr).cons b).trans (List.Perm.swap a b r)
theorem strikeAll_perm (l A R : List Atom) (h : strikeAll l A = some R) : A.Perm (l ++ R) := by
  induction l generalizing A with
  | nil => obtain rfl := Option.some.inj h; rfl
  | cons a l ih =>
    obtain ⟨B, hB, h'⟩ := Option.bind_eq_some_iff.mp h
    exact (strike_perm a A B hB).trans ((ih B h').cons a)

theorem bigSepL_perm {A : Type} {l l' : List A} (h : l.Perm l') (Φ : A → sProp 𝕄) : bigSepL l Φ = bigSepL l' Φ := by
  induction h with
  | nil => rfl
  | cons a _ ih => rw [bigSepL_cons', bigSepL_cons', ih]
  | swap a b l =>
    rw [bigSepL_cons', bigSepL_cons', bigSepL_cons', bigSepL_cons']
    exact Entails.antisymm (sep_left_comm (PROP := sProp 𝕄)).1 (sep_left_comm (PROP := sProp 𝕄)).1
  | trans _ _ h1 h2 => exact h1.trans h2

variable (I : Ins F) (K : Dev nD × CK → ℕ) (c : Dev nD)

/-- The holdings, all the atoms in view. -/
def held (A : List Atom) : sProp 𝕄 := iprop((∃ W, owes (c : Thread nD τ) (dsum c A) W) ∗ bigSepL A (res I c))

theorem held_perm {A B : List Atom} (h : A.Perm B) : held I c A = held I c B := by
  unfold held; rw [dsum_perm c h, bigSepL_perm h]

theorem held_append (A R : List Atom) : held I c (A ++ R) = iprop(st I c A R ∗ bigSepL R (res I c)) := by
  unfold held st
  rw [bigSepL_append]
  exact Entails.antisymm (sep_assoc (PROP := sProp 𝕄)).2 (sep_assoc (PROP := sProp 𝕄)).1

/-- A list of steps that goes through on the atoms is sound on what they stand for. -/
theorem run_sound (l : List Act) (A B : List Atom) (h : runA l A = some B) (Q : PUnit → sProp 𝕄) :
    iprop(known I K ∗ held I c A ∗ (held I c B -∗ Q ⟨⟩)) ⊢ wpc c (runActs c l) Q := by
  induction l generalizing A with
  | nil =>
    obtain rfl := Option.some.inj h
    show _ ⊢ wpc c (.ret ⟨⟩) Q
    unfold wpc
    rw [wp_ret]
    iintro ⟨-, H, Hk⟩
    imodintro
    iapply Hk
    iexact H
  | cons a l ih =>
    obtain ⟨B', h1, h2⟩ := Option.bind_eq_some_iff.mp h
    obtain ⟨R, h3, h4⟩ := Option.bind_eq_some_iff.mp h1
    by_cases h5 : okRest a R = true
    · rw [if_pos h5] at h4
      obtain rfl := Option.some.inj h4
      rw [held_perm I c (strikeAll_perm _ _ _ h3), held_append]
      have ih' := ih _ h2
      rw [held_append] at ih'
      iintro ⟨#HK, ⟨HA, HR⟩, Hk⟩
      iapply (sound I K c a R h5 (fun _ => runActs c l) Q)
      isplitr; · iexact HK
      isplitl [HA]; · iexact HA
      iintro HA
      iapply ih'
      isplitr; · iexact HK
      isplitl [HA HR]
      · isplitl [HA]; · iexact HA
        iexact HR
      iexact Hk
    · rw [if_neg h5] at h4
      exact nomatch h4

/-! ## The body's beginning and end -/

/-- What a device holds when its body begins. -/
def atoms₀ : List Atom :=
  [.x, .w, .sx, .sw, .out false, .accAny, .bar false, .raw (.inr (.own 0)), .raw (.inr (.own 1))]
    ++ (List.finRange 15).map (fun j => .raw (.inl (.tile j))) ++ (List.finRange 15).map .sg
    ++ usedL.map .uns ++ usedL.map .ung

/-- What it holds when its body is done. -/
def atoms₁ : List Atom :=
  [.x, .w, .sx, .sw, .out true, .acc 14, .bar true]
    ++ usedL.map .left ++ usedL.map .got
    ++ (List.finRange 2).flatMap (fun u => [.half (.inr (.own u)) false, .half (.inr (.own u)) true])
    ++ (List.finRange 15).flatMap (fun j => [.half (.inl (.tile j)) false, .half (.inl (.tile j)) true])
    ++ usedL.flatMap (fun t => [.half (dstOf t) false, .half (dstOf t) true])

/-- Whether a list of atoms came out, the expected one up to order. -/
def cameOut (o : Option (List Atom)) (A : List Atom) : Bool :=
  match o with
  | some B => B.isPerm A
  | none => false
theorem of_cameOut (o : Option (List Atom)) (A : List Atom) (h : cameOut o A = true) : ∃ B, o = some B ∧ B.Perm A := by
  cases o with
  | none => exact nomatch h
  | some B => exact ⟨B, rfl, List.isPerm_iff.mp h⟩

/-- The body's steps go through. -/
theorem run_acts : ∃ B, runA acts atoms₀ = some B ∧ B.Perm atoms₁ := of_cameOut _ _ (by decide +kernel)

/-- The device's number is read first. -/
theorem numbered (k : Dev nD → KProg F PUnit) (Q : PUnit → sProp 𝕄) : wpc c (k c) Q ⊢ wpc c (.op .deviceId k) Q := by
  show _ ⊢ wp frame (wpE (defs₀ (F := F)) 𝒱₀ (c : Thread nD τ) none) Set.univ (.op .deviceId k) Q
  rw [wp_deviceId]

theorem body_sound (Q : PUnit → sProp 𝕄) :
    iprop(known I K ∗ held I c atoms₀ ∗ (held I c atoms₁ -∗ Q ⟨⟩)) ⊢ wpc c bodyActs Q := by
  obtain ⟨B, h1, h2⟩ := run_acts
  have h := run_sound I K c acts atoms₀ B h1 Q
  rw [held_perm I c h2] at h
  exact h.trans (numbered c (fun c => runActs c acts) Q)

end Cert.KernelIdeal.Gen

end
-- ==== Proof.Buffers.lean ====
/-
  A device's scratch buffers as slots: the two halves of its own block of w, the tiles to be sent, and the landing slots
  of all the copies, those made and the two that are not.
-/
module

public import proofs.«01_k».proof.Proof.Run
public import Idealize.ShloMosaic.Lib.Ring.WriteBehind
public import Idealize.ShloMosaic.Lib.ViewIndex

@[expose] public section

set_option maxRecDepth 8000

noncomputable section

namespace Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## A buffer as squeezed slices -/

section Pieces
variable {s s' : Shape} {e : EltTy} (c : Dev nD) (M : Memref sig .tc .vmem s e) (hM : M.view.set = Finset.univ)
  {T : Type} [Fintype T] [DecidableEq T] (r : T → Rect s) (hr : ∀ t a, (r t).stride a = 1) (hq : ∀ t, (r t).shape.Squeezes s')
  (hd : ∀ t t', t ≠ t' → Disjoint (r t).set (r t').set)
  (hcov : (Finset.univ : Finset T).biUnion (fun t => (r t).set) = Finset.univ)

/-- The elements of a slice, -/
def pieceSet (t : T) : Finset (Idx (M.view.loc (c : Thread nD τ))) := (((M.slice (r t) (hr t)).squeeze s' (hq t)).view.set)

omit [Fintype T] [DecidableEq T] in
include hd in
/-- which no two slices share -/
theorem piece_disjoint (t t' : T) (h : t ≠ t') : Disjoint (pieceSet c M r hr hq t) (pieceSet c M r hr hq t') := by
  have e (t : T) : pieceSet c M r hr hq t = (M.view.slice (r t)).set := View.set_reshape (v := M.view.slice (r t)) (hq t).numel_eq
  rw [e, e]
  exact View.disjoint_slice (hd t t' h)

include hM hcov in
/-- and which make up the buffer. -/
theorem piece_cover : (Finset.univ : Finset T).biUnion (pieceSet c M r hr hq) = Finset.univ := by
  have e (t : T) : pieceSet c M r hr hq t = (M.view.slice (r t)).set := View.set_reshape (v := M.view.slice (r t)) (hq t).numel_eq
  refine Finset.eq_univ_of_forall fun i => ?_
  have hi : i ∈ M.view.set := by rw [hM]; exact Finset.mem_univ i
  obtain ⟨x, -, rfl⟩ := Finset.mem_map.mp hi
  obtain ⟨t, -, hx⟩ := Finset.mem_biUnion.mp (hcov.symm ▸ Finset.mem_univ x)
  exact Finset.mem_biUnion.mpr ⟨t, Finset.mem_univ _, by rw [e, View.set_slice]; exact Finset.mem_map_of_mem _ hx⟩

/-- A slice, holding anything. -/
def pieceRaw (t : T) : sProp 𝕄 := iprop(∃ f, (((M.slice (r t) (hr t)).squeeze s' (hq t)).view.loc (c : Thread nD τ)
  ↦[((M.slice (r t) (hr t)).squeeze s' (hq t)).view.set]{fullShare} f))

include hM hd hcov in
/-- The buffer, holding anything, is its slices, holding anything. -/
theorem pieces : iprop(∃ f : Buf (Elt F) (M.view.loc (c : Thread nD τ)), M.view.loc (c : Thread nD τ) ↦{fullShare} f)
    = (bigSep Finset.univ fun t => pieceRaw (F := F) c M r hr hq t : sProp 𝕄) := by
  refine Entails.antisymm ?_ ?_
  · exact Ring.pieces_split (ℓ := M.view.loc (c : Thread nD τ)) (pieceSet c M r hr hq) (piece_disjoint c M r hr hq hd)
      (piece_cover c M hM r hr hq hcov) (fun t f => M.view.loc (c : Thread nD τ) ↦[pieceSet c M r hr hq t]{fullShare} f) (fun _ _ => rfl)
  · exact Ring.pieces_join (ℓ := M.view.loc (c : Thread nD τ)) (pieceSet c M r hr hq) (piece_disjoint c M r hr hq hd)
      (piece_cover c M hM r hr hq hcov) (fun t f => M.view.loc (c : Thread nD τ) ↦[pieceSet c M r hr hq t]{fullShare} f) (fun _ _ => rfl)
      (M.view.junk)
end Pieces

/-! ## The five buffers -/

def rectTile (j : Fin 15) : Rect S15x256x256 := Rect.unit (s := S15x256x256) ![j.val, 0, 0] S1x256x256.size (inb_tile j)
def rectOwn (u : Fin 2) : Rect S2x128x2048 := Rect.unit (s := S2x128x2048) ![u.val, 0, 0] S1x128x2048.size (inb_own u)
def rectWb (p : Fin 8 × Fin 2) : Rect S8x2x128x2048 := Rect.unit (s := S8x2x128x2048) ![p.1.val, p.2.val, 0, 0] S1x1x128x2048.size (inb_wb p.1 p.2)

theorem tile_disjoint (j j' : Fin 15) (h : j ≠ j') : Disjoint (rectTile j).set (rectTile j').set :=
  Ring.lead_disjoint (s := S15x256x256) 0 1 (fun j : Fin 15 => ![j.val, 0, 0]) S1x256x256.size inb_tile (fun j => (Nat.one_mul _).symm) rfl j j' h
theorem tile_cover : (Finset.univ : Finset (Fin 15)).biUnion (fun j => (rectTile j).set) = Finset.univ :=
  Ring.lead_cover (s := S15x256x256) 0 1 (fun j : Fin 15 => ![j.val, 0, 0]) S1x256x256.size inb_tile (fun j => (Nat.one_mul _).symm)
    (by decide) rfl (by decide) rfl
theorem own_disjoint (j j' : Fin 2) (h : j ≠ j') : Disjoint (rectOwn j).set (rectOwn j').set :=
  Ring.lead_disjoint (s := S2x128x2048) 0 1 (fun j : Fin 2 => ![j.val, 0, 0]) S1x128x2048.size inb_own (fun j => (Nat.one_mul _).symm) rfl j j' h
theorem own_cover : (Finset.univ : Finset (Fin 2)).biUnion (fun j => (rectOwn j).set) = Finset.univ :=
  Ring.lead_cover (s := S2x128x2048) 0 1 (fun j : Fin 2 => ![j.val, 0, 0]) S1x128x2048.size inb_own (fun j => (Nat.one_mul _).symm)
    (by decide) rfl (by decide) rfl
theorem wb_disjoint (p p' : Fin 8 × Fin 2) (h : p ≠ p') : Disjoint (rectWb p).set (rectWb p').set := by
  rw [Finset.disjoint_left]
  intro i hi hi'
  have h0 := (Rect.mem_set_unit.mp hi) 0
  have h1 := (Rect.mem_set_unit.mp hi) 1
  have h0' := (Rect.mem_set_unit.mp hi') 0
  have h1' := (Rect.mem_set_unit.mp hi') 1
  have e (o b n : ℕ) (h : o ≤ n ∧ n < o + 1) (h' : b ≤ n ∧ n < b + 1) : o = b := by omega
  exact h (Prod.ext (Fin.ext (e _ _ _ h0 h0')) (Fin.ext (e _ _ _ h1 h1')))
theorem wb_cover : (Finset.univ : Finset (Fin 8 × Fin 2)).biUnion (fun p => (rectWb p).set) = Finset.univ := by
  refine Finset.eq_univ_of_forall fun i => ?_
  refine Finset.mem_biUnion.mpr ⟨((i 0 : Fin 8), (i 1 : Fin 2)), Finset.mem_univ _, Rect.mem_set_unit.mpr fun a => ?_⟩
  match a with
  | 0 => exact ⟨Nat.le_refl _, Nat.lt_succ_self _⟩
  | 1 => exact ⟨Nat.le_refl _, Nat.lt_succ_self _⟩
  | 2 => exact ⟨Nat.zero_le _, by have h : (i 2).val < 128 := (i 2).isLt; show (i 2).val < 0 + 128; omega⟩
  | 3 => exact ⟨Nat.zero_le _, by have h : (i 3).val < 2048 := (i 3).isLt; show (i 3).val < 0 + 2048; omega⟩

variable (c : Dev nD)

theorem buf_own : iprop(∃ f : Buf (Elt F) ((c : Thread nD τ).loc cc0_scratch0), ((c : Thread nD τ).loc cc0_scratch0) ↦{fullShare} f)
    = (bigSep Finset.univ fun u : Fin 2 => raw (F := F) c (.inr (.own u)) : sProp 𝕄) :=
  pieces c ownM (View.set_whole _) rectOwn (fun _ _ => rfl) (fun _ => squeezes_S1x128x2048_S128x2048) own_disjoint own_cover
theorem buf_tiles : iprop(∃ f : Buf (Elt F) ((c : Thread nD τ).loc cc0_scratch1), ((c : Thread nD τ).loc cc0_scratch1) ↦{fullShare} f)
    = (bigSep Finset.univ fun j : Fin 15 => raw (F := F) c (.inl (.tile j)) : sProp 𝕄) :=
  pieces c (tileRef 0) (View.set_whole _) rectTile (fun _ _ => rfl) (fun _ => squeezes_S1x256x256_S256x256) tile_disjoint tile_cover
theorem buf_xt : iprop(∃ f : Buf (Elt F) ((c : Thread nD τ).loc cc0_scratch2), ((c : Thread nD τ).loc cc0_scratch2) ↦{fullShare} f)
    = (bigSep Finset.univ fun j : Fin 15 => raw (F := F) c (.inl (.xt j)) : sProp 𝕄) :=
  pieces c (tileRef 1) (View.set_whole _) rectTile (fun _ _ => rfl) (fun _ => squeezes_S1x256x256_S256x256) tile_disjoint tile_cover
theorem buf_wb0 : iprop(∃ f : Buf (Elt F) ((c : Thread nD τ).loc cc0_scratch3), ((c : Thread nD τ).loc cc0_scratch3) ↦{fullShare} f)
    = (bigSep Finset.univ fun p : Fin 8 × Fin 2 => raw (F := F) c (.inr (.wb 0 p.1 p.2)) : sProp 𝕄) :=
  pieces c (wbRef 0) (View.set_whole _) rectWb (fun _ _ => rfl) (fun _ => squeezes_S1x1x128x2048_S128x2048) wb_disjoint wb_cover
theorem buf_wb1 : iprop(∃ f : Buf (Elt F) ((c : Thread nD τ).loc cc0_scratch4), ((c : Thread nD τ).loc cc0_scratch4) ↦{fullShare} f)
    = (bigSep Finset.univ fun p : Fin 8 × Fin 2 => raw (F := F) c (.inr (.wb 1 p.1 p.2)) : sProp 𝕄) :=
  pieces c (wbRef 1) (View.set_whole _) rectWb (fun _ _ => rfl) (fun _ => squeezes_S1x1x128x2048_S128x2048) wb_disjoint wb_cover

/-! ## The copies and the semaphores, listed -/

/-- The copies that are not made: the last hop of a direction carries one half only. -/
def idleL : List Tr := [.inr (0, 7, 1), .inr (1, 7, 0)]
theorem univ_tr : (Finset.univ : Finset Tr) = (usedL ++ idleL).toFinset := by decide +kernel
theorem nodup_tr : (usedL ++ idleL).Nodup := by decide +kernel
theorem idle_unused {t : Tr} (h : t ∈ idleL) : used t = false := by
  revert t; decide +kernel

/-- All the copies: those that are made and those that are not. -/
theorem allTr (Φ : Tr → sProp 𝕄) : bigSep Finset.univ Φ = iprop(bigSepL usedL Φ ∗ bigSepL idleL Φ) := by
  rw [bigSep_univ_eq_bigSepL (usedL ++ idleL) univ_tr nodup_tr, bigSepL_append]

def ckL : List CK := none :: ((usedL ++ idleL).map (fun t => some (false, t)) ++ (usedL ++ idleL).map (fun t => some (true, t)))
theorem univ_ck : (Finset.univ : Finset CK) = ckL.toFinset := by decide +kernel
theorem nodup_ck : ckL.Nodup := by decide +kernel

/-- All the semaphores: the barrier, the senders' and the receivers'. -/
theorem allCK (Φ : CK → sProp 𝕄) : bigSep Finset.univ Φ
    = iprop(Φ none ∗ (bigSep Finset.univ fun t => Φ (some (false, t))) ∗ (bigSep Finset.univ fun t => Φ (some (true, t)))) := by
  rw [bigSep_univ_eq_bigSepL ckL univ_ck nodup_ck, bigSep_univ_eq_bigSepL (usedL ++ idleL) univ_tr nodup_tr,
    bigSep_univ_eq_bigSepL (usedL ++ idleL) univ_tr nodup_tr]
  unfold ckL
  rw [bigSepL_cons', bigSepL_append, bigSepL_map, bigSepL_map]

theorem nums {n : ℕ} (Φ : Fin n → sProp 𝕄) : bigSep Finset.univ Φ = bigSepL (List.finRange n) Φ :=
  bigSep_univ_eq_bigSepL _ (by ext; simp) (List.nodup_finRange n) Φ

/-! ## A device's scratch -/

/-- The slots and the sum's buffer, each holding anything. -/
def raws : sProp 𝕄 :=
  iprop(bigSepL (List.finRange 2) (fun u => raw (F := F) c (.inr (.own u))) ∗ bigSepL (List.finRange 15) (fun j => raw (F := F) c (.inl (.tile j)))
    ∗ (bigSepL usedL (fun t => raw (F := F) c (dstOf t)) ∗ bigSepL idleL (fun t => raw (F := F) c (dstOf t)))
    ∗ (∃ f : Buf (Elt F) ((c : Thread nD τ).loc cc0_scratch5), ((c : Thread nD τ).loc cc0_scratch5) ↦{fullShare} f))

theorem landing : (bigSep Finset.univ fun t : Tr => raw (F := F) c (dstOf t) : sProp 𝕄)
    = iprop((bigSep Finset.univ fun j : Fin 15 => raw (F := F) c (.inl (.xt j)))
      ∗ (bigSep Finset.univ fun p : Fin 8 × Fin 2 => raw (F := F) c (.inr (.wb 0 p.1 p.2)))
      ∗ (bigSep Finset.univ fun p : Fin 8 × Fin 2 => raw (F := F) c (.inr (.wb 1 p.1 p.2)))) := by
  refine (bigSep_univ_sum (M := 𝕄) (fun t : Tr => raw (F := F) c (dstOf t))).trans ?_
  refine congrArg (fun X : sProp 𝕄 => iprop((bigSep Finset.univ fun j : Fin 15 => raw (F := F) c (.inl (.xt j))) ∗ X)) ?_
  refine (bigSep_univ_prod (M := 𝕄) (fun p : Fin 2 × Fin 8 × Fin 2 => raw (F := F) c (dstOf (.inr p)))).trans ?_
  rw [nums, show List.finRange 2 = [0, 1] from rfl, bigSepL_two, bigSepL_singleton]
  rfl

theorem bracket (A B C D E G : sProp 𝕄) : iprop(A ∗ B ∗ C ∗ D ∗ E ∗ G) = iprop(A ∗ B ∗ (C ∗ D ∗ E) ∗ G) := by
  have h1 : iprop(A ∗ B ∗ C ∗ D ∗ E ∗ G) ⊢ iprop(A ∗ B ∗ (C ∗ D ∗ E) ∗ G) := by
    iintro ⟨H1, H2, H3, H4, H5, H6⟩
    isplitl [H1]; · iexact H1
    isplitl [H2]; · iexact H2
    isplitl [H3 H4 H5]
    · isplitl [H3]; · iexact H3
      isplitl [H4] <;> iassumption
    iexact H6
  have h2 : iprop(A ∗ B ∗ (C ∗ D ∗ E) ∗ G) ⊢ iprop(A ∗ B ∗ C ∗ D ∗ E ∗ G) := by
    iintro ⟨H1, H2, ⟨H3, H4, H5⟩, H6⟩
    isplitl [H1]; · iexact H1
    isplitl [H2]; · iexact H2
    isplitl [H3]; · iexact H3
    isplitl [H4]; · iexact H4
    isplitl [H5]; · iexact H5
    iexact H6
  exact Entails.antisymm h1 h2

/-- The scratch buffers are the slots. -/
theorem scratch_eq : (Pipeline.scopedRest (Ix := Unit) (Name := ℕ) (U := UU) (Lvl := ℕ) (Val := Elt F) spec0 c : sProp 𝕄) = raws c := by
  have e1 := landing (F := F) c
  rw [allTr] at e1
  rw [scopedRest0_eq, buf_own, buf_tiles, buf_xt, buf_wb0, buf_wb1]
  unfold raws
  rw [e1, nums, nums (fun j : Fin 15 => raw (F := F) c (.inl (.tile j)))]
  exact bracket _ _ _ _ _ _

end Cert.KernelIdeal.Gen

end
-- ==== Proof.Enter.lean ====
/-
  What a device starts its body from and what it ends with, as its own share of the launch: its positions and payments,
  the credit it is owed, its scratch buffers and the staged inputs.
-/
module

public import proofs.«01_k».proof.Proof.Buffers

@[expose] public section

set_option maxRecDepth 8000

noncomputable section

namespace Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F) (K : Dev nD × CK → ℕ) (c : Dev nD)

/-- A device's positions in the rounds of its semaphores, and the payments it will make. -/
def lin : sProp 𝕄 :=
  iprop(atPos ER (barCell c) 0 ∅ 0
    ∗ (bigSep Finset.univ fun t : Tr => atPos ER (sendCell c t) 0 ∅ 0) ∗ (bigSep Finset.univ fun t : Tr => atPos ER (recvCell c t) 0 ∅ 0)
    ∗ (bigSep Finset.univ fun k : Fin 15 => dutyTok ER (barCell (sigDev c k)) 0 k)
    ∗ (bigSep Finset.univ fun t : Tr => dutyTok ER (sendCell c t) 0 0) ∗ (bigSep Finset.univ fun t : Tr => dutyTok ER (recvCell (devOf c t) t) 0 0))

/-- The credit it is owed. -/
def creds : sProp 𝕄 :=
  iprop(cred (tallyAt (barCell c) () 15) ∗ bigSepL usedL fun t => cred (tallyAt (recvCell c t) () (credit t)))

/-- What belongs to the copies that are not made. -/
def idle : sProp 𝕄 :=
  iprop(bigSepL idleL (fun t => atPos ER (sendCell c t) 0 ∅ 0) ∗ bigSepL idleL (fun t => atPos ER (recvCell c t) 0 ∅ 0)
    ∗ bigSepL idleL (fun t => raw (F := F) c (dstOf t)))

/-- The staged inputs, -/
def staged : sProp 𝕄 := iprop(res I c .x ∗ res I c .w ∗ res I c .sx ∗ res I c .sw)

theorem bigSepL_sep' {A : Type} (l : List A) (Φ Ψ : A → sProp 𝕄) : bigSepL l (fun a => iprop(Φ a ∗ Ψ a)) = iprop(bigSepL l Φ ∗ bigSepL l Ψ) := by
  induction l with
  | nil => exact Entails.antisymm (show (iprop(emp) : sProp 𝕄) ⊢ iprop(emp ∗ emp) from (emp_sep (PROP := sProp 𝕄)).2) (show iprop(emp ∗ emp) ⊢ (iprop(emp) : sProp 𝕄) from (emp_sep (PROP := sProp 𝕄)).1)
  | cons a l ih =>
    rw [bigSepL_cons', bigSepL_cons', bigSepL_cons', ih]
    exact Entails.antisymm (sep_sep_sep_comm (PROP := sProp 𝕄)).1 (sep_sep_sep_comm (PROP := sProp 𝕄)).2

/-- All signals with what they hand over. -/
theorem signals : iprop((bigSep Finset.univ fun k : Fin 15 => dutyTok ER (barCell (sigDev c k)) 0 k) ∗ bigSepL usedL (fun t => raw (F := F) c (dstOf t)))
    = bigSepL (List.finRange 15) fun k => res I c (.sg k) := by
  have e := deal_bar (F := F) c
  rw [bigSep_eq_bigSepL_of_eq usedL usedS_eq usedL_nodup] at e
  rw [e, nums, nums, ← bigSepL_sep']
  rfl

theorem bigSepL_atoms₀ : bigSepL atoms₀ (res I c)
    = iprop((((bigSepL [.x, .w, .sx, .sw, .out false, .accAny, .bar false, .raw (.inr (.own 0)), .raw (.inr (.own 1))] (res I c)
        ∗ bigSepL (List.finRange 15) (fun j => res I c (.raw (.inl (.tile j)))))
        ∗ bigSepL (List.finRange 15) (fun k => res I c (.sg k)))
        ∗ bigSepL usedL (fun t => res I c (.uns t)))
        ∗ bigSepL usedL (fun t => res I c (.ung t))) := by
  unfold atoms₀
  rw [bigSepL_append, bigSepL_append, bigSepL_append, bigSepL_append, bigSepL_map, bigSepL_map, bigSepL_map, bigSepL_map]

theorem uns_eq : bigSepL usedL (fun t => res I c (.uns t))
    = iprop(bigSepL usedL (fun t => dutyTok ER (sendCell c t) 0 0) ∗ bigSepL usedL (fun t => dutyTok ER (recvCell (devOf c t) t) 0 0)
      ∗ bigSepL usedL (fun t => atPos ER (sendCell c t) 0 ∅ 0)) := by
  rw [← bigSepL_sep', ← bigSepL_sep']
  rfl
theorem ung_eq : bigSepL usedL (fun t => res I c (.ung t))
    = iprop(bigSepL usedL (fun t => atPos ER (recvCell c t) 0 ∅ 0) ∗ bigSepL usedL (fun t => cred (tallyAt (recvCell c t) () (credit t)))) := by
  rw [← bigSepL_sep']
  rfl

theorem owns_two : bigSepL (List.finRange 2) (fun u => raw (F := F) c (.inr (.own u))) = iprop(res I c (.raw (.inr (.own 0))) ∗ res I c (.raw (.inr (.own 1)))) := rfl

/-- The device's share of the launch is what its body starts from. -/
theorem enter : iprop(lin c ∗ creds c ∗ raws c ∗ staged I c ∗ res I c (.out false) ∗ (∃ W, owes (c : Thread nD τ) (dsum c atoms₀) W))
    ⊢ iprop(held I c atoms₀ ∗ idle c) := by
  unfold held
  rw [bigSepL_atoms₀]
  unfold lin creds raws staged idle
  rw [allTr, allTr, allTr, allTr, owns_two I, uns_eq, ung_eq, ← signals]
  iintro ⟨⟨Hb, ⟨Hs, Hs'⟩, ⟨Hr, Hr'⟩, Htb, ⟨Hts, -⟩, ⟨Htr, -⟩⟩, ⟨Hcb, Hcr⟩, ⟨⟨Ho0, Ho1⟩, Htile, ⟨Hd, Hd'⟩, Hacc⟩, ⟨Hx, Hw, Hsx, Hsw⟩, Hout, HO⟩
  isplitr [Hs' Hr' Hd']
  · isplitl [HO]; · iexact HO
    isplitr [Hr Hcr]
    · isplitr [Hts Htr Hs]
      · isplitr [Htb Hd]
        · isplitr [Htile]
          · simp only [bigSepL_two, bigSepL_singleton]
            isplitl [Hx]; · iexact Hx
            isplitl [Hw]; · iexact Hw
            isplitl [Hsx]; · iexact Hsx
            isplitl [Hsw]; · iexact Hsw
            isplitl [Hout]; · iexact Hout
            isplitl [Hacc]; · (unfold res; iexact Hacc)
            isplitl [Hb Hcb]
            · unfold res
              isplitl [Hb]; · iexact Hb
              iexact Hcb
            isplitl [Ho0]; · iexact Ho0
            iexact Ho1
          · iexact Htile
        · isplitl [Htb]; · iexact Htb
          iexact Hd
      · isplitl [Hts]; · iexact Hts
        isplitl [Htr]; · iexact Htr
        iexact Hs
    · isplitl [Hr]; · iexact Hr
      iexact Hcr
  · isplitl [Hs']; · iexact Hs'
    isplitl [Hr']; · iexact Hr'
    iexact Hd'

/-! ## The end -/

/-- The round a cell is left at: one for those used, none for the others. -/
def lastRound : CK → ℕ
  | none => 1
  | some (_, t) => if used t = true then 1 else 0

/-- Every cell closes. -/
theorem close (k : CK) : iprop(known I K ∗ atPos ER (kcell c k) (lastRound k) ∅ 0) ⊢ |={Set.univ}=> (semVal (kcell c k) 0 : sProp 𝕄) := by
  have hd : ∀ r, lastRound k ≤ r → (sched (F := F) I).duties (kcell c k) r = ∅ := by
    rcases k with _ | ⟨b, t⟩
    · exact duties_later I _
    · by_cases h : used t = true
      · have e : lastRound (some (b, t)) = 1 := if_pos h
        rw [e]; exact duties_later I _
      · have e : lastRound (some (b, t)) = 0 := if_neg h
        rw [e]; exact duties_idle I c b (by revert h; cases used t <;> simp)
  iintro ⟨#HK, Hat⟩
  ihave #HI := (known_inv I K c k) $$ HK
  imod (Rounds.cell_close ER (sched I) (Set.mem_univ (K (c, k))) (fun h => h) (R := lastRound k) hd) $$ [Hat] with Hz
  · isplitr; · iexact HI
    iexact Hat
  imodintro
  iexact Hz

theorem closeAll : iprop(known I K ∗ bigSep Finset.univ fun k : CK => atPos ER (kcell c k) (lastRound k) ∅ 0)
    ⊢ |={Set.univ}=> (bigSep Finset.univ fun k : CK => semVal (kcell c k) 0 : sProp 𝕄) := by
  refine (sep_mono_left (BI.bigSep_of_persistent (Finset.univ : Finset CK) (known I K))).trans ?_
  rw [← bigSep_sep']
  exact (bigSep_mono fun k _ => close I K c k).trans (bigSep_fupd _ _)

theorem ended_used (b : Bool) (l : List Tr) (h : ∀ t ∈ l, used t = true) (Φ : Tr → ℕ → sProp 𝕄) :
    bigSepL l (fun t => Φ t (lastRound (some (b, t)))) = bigSepL l (fun t => Φ t 1) := by
  induction l with
  | nil => rfl
  | cons a l ih =>
    rw [bigSepL_cons', bigSepL_cons', ih fun t ht => h t (List.mem_cons_of_mem a ht)]
    have e : lastRound (some (b, a)) = 1 := if_pos (h a List.mem_cons_self)
    rw [e]
theorem ended_idle (b : Bool) (l : List Tr) (h : ∀ t ∈ l, used t = false) (Φ : Tr → ℕ → sProp 𝕄) :
    bigSepL l (fun t => Φ t (lastRound (some (b, t)))) = bigSepL l (fun t => Φ t 0) := by
  induction l with
  | nil => rfl
  | cons a l ih =>
    rw [bigSepL_cons', bigSepL_cons', ih fun t ht => h t (List.mem_cons_of_mem a ht)]
    have e : lastRound (some (b, a)) = 0 := if_neg (by rw [h a List.mem_cons_self]; exact Bool.false_ne_true)
    rw [e]

/-- All the cells' positions at the end. -/
theorem ended : (bigSep Finset.univ fun k : CK => atPos ER (kcell c k) (lastRound k) ∅ 0 : sProp 𝕄)
    = iprop(atPos ER (barCell c) 1 ∅ 0 ∗ (bigSepL usedL (fun t => atPos ER (sendCell c t) 1 ∅ 0) ∗ bigSepL idleL (fun t => atPos ER (sendCell c t) 0 ∅ 0))
      ∗ (bigSepL usedL (fun t => atPos ER (recvCell c t) 1 ∅ 0) ∗ bigSepL idleL (fun t => atPos ER (recvCell c t) 0 ∅ 0))) := by
  rw [allCK, allTr, allTr,
    ended_used false usedL (fun t => used_of_mem) (fun t n => atPos ER (kcell c (some (false, t))) n ∅ 0),
    ended_used true usedL (fun t => used_of_mem) (fun t n => atPos ER (kcell c (some (true, t))) n ∅ 0),
    ended_idle false idleL (fun t => idle_unused) (fun t n => atPos ER (kcell c (some (false, t))) n ∅ 0),
    ended_idle true idleL (fun t => idle_unused) (fun t n => atPos ER (kcell c (some (true, t))) n ∅ 0)]
  rfl

/-- Slots whose two halves are held are slots holding something. -/
theorem halves_raw {A : Type} (l : List A) (s : A → Slot) :
    bigSepL (l.flatMap fun a => [.half (s a) false, .half (s a) true]) (res I c) ⊢ bigSepL l fun a => raw (F := F) c (s a) := by
  induction l with
  | nil => exact Entails.refl _
  | cons a l ih =>
    rw [List.flatMap_cons, bigSepL_append, bigSepL_cons' a l]
    have h : bigSepL [Atom.half (s a) false, Atom.half (s a) true] (res I c) ⊢ raw (F := F) c (s a) := hold_raw I c (s a)
    iintro ⟨H, Hl⟩
    isplitl [H]
    · iapply h; iexact H
    iapply ih; iexact Hl

theorem bigSepL_atoms₁ : bigSepL atoms₁ (res I c)
    = iprop(((((bigSepL [.x, .w, .sx, .sw, .out true, .acc 14, .bar true] (res I c)
        ∗ bigSepL usedL (fun t => res I c (.left t)))
        ∗ bigSepL usedL (fun t => res I c (.got t)))
        ∗ bigSepL ((List.finRange 2).flatMap fun u => [.half (.inr (.own u)) false, .half (.inr (.own u)) true]) (res I c))
        ∗ bigSepL ((List.finRange 15).flatMap fun j => [.half (.inl (.tile j)) false, .half (.inl (.tile j)) true]) (res I c))
        ∗ bigSepL (usedL.flatMap fun t => [.half (dstOf t) false, .half (dstOf t) true]) (res I c)) := by
  unfold atoms₁
  rw [bigSepL_append, bigSepL_append, bigSepL_append, bigSepL_append, bigSepL_append, bigSepL_map, bigSepL_map]

/-- Nothing is owed at the end. -/
theorem dsum_atoms₁ : dsum c atoms₁ = 0 := by
  have h := dsum_free c atoms₁ [] (by decide +kernel)
  rw [List.append_nil] at h
  exact h

/-- What the body ends with gives back the launch's share: the buffers, and all semaphores at zero. -/
theorem leave : iprop(known I K ∗ held I c atoms₁ ∗ idle c)
    ⊢ |={Set.univ}=> iprop((bigSep Finset.univ fun k : CK => semVal (kcell c k) 0) ∗ raws (F := F) c ∗ staged I c ∗ res I c (.out true)
      ∗ (∃ W, owes (c : Thread nD τ) 0 W)) := by
  unfold held idle
  rw [bigSepL_atoms₁, dsum_atoms₁]
  iintro ⟨#HK, ⟨HO, ⟨⟨⟨⟨Hh, Hl⟩, Hg⟩, How⟩, Hti⟩, Hd⟩, Hs', Hr', Hd'⟩
  simp only [bigSepL_two, bigSepL_singleton]
  icases Hh with ⟨Hx, Hw, Hsx, Hsw, Hout, Hacc, Hb⟩
  ihave How' := (halves_raw I c (List.finRange 2) fun u => .inr (.own u)) $$ How
  ihave Hti' := (halves_raw I c (List.finRange 15) fun j => .inl (.tile j)) $$ Hti
  ihave Hdd := (halves_raw I c usedL dstOf) $$ Hd
  imod (closeAll I K c) $$ [Hb Hl Hg Hs' Hr'] with Hz
  · isplitr; · iexact HK
    rw [ended]
    isplitl [Hb]
    · iapply (show res I c (.bar true) ⊢ atPos ER (barCell c) 1 ∅ 0 from Entails.refl _); iexact Hb
    isplitl [Hl Hs']
    · isplitl [Hl]; · iexact Hl
      iexact Hs'
    isplitl [Hg]; · iexact Hg
    iexact Hr'
  imodintro
  isplitl [Hz]; · iexact Hz
  isplitl [How' Hti' Hdd Hd' Hacc]
  · unfold raws
    isplitl [How']; · iexact How'
    isplitl [Hti']; · iexact Hti'
    isplitl [Hdd Hd']
    · isplitl [Hdd]; · iexact Hdd
      iexact Hd'
    unfold res
    iexists _
    iexact Hacc
  isplitl [Hx Hw Hsx Hsw]
  · unfold staged
    isplitl [Hx]; · iexact Hx
    isplitl [Hw]; · iexact Hw
    isplitl [Hsx]; · iexact Hsx
    iexact Hsw
  isplitl [Hout]; · iexact Hout
  iexact HO

end Cert.KernelIdeal.Gen

end
-- ==== Proof.Deal.lean ====
/-
  The launch, all devices at once: the semaphores become cells of the protocol, every payment goes to the device that
  makes it, and what all devices owe together is what all are owed.
-/
module

public import proofs.«01_k».proof.Proof.Enter

@[expose] public section

set_option maxRecDepth 8000

noncomputable section

namespace Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F)

/-! ## Credit -/

/-- What a device owes when its body begins: its signals and its copies. -/
theorem dsum_atoms₀ (c : Dev nD) : dsum c atoms₀
    = (∑ k : Fin 15, tallyAt (barCell (sigDev c k)) () 1) + ∑ t ∈ usedS, tallyAt (recvCell (devOf c t) t) () (credit t) := by
  have free (A : List Atom) (h : A.all (fun a => (debtLev a).isNone) = true) : dsum c A = 0 := by
    have e := dsum_free c A [] h
    rw [List.append_nil] at e
    exact e
  have e1 : dsum c ((List.finRange 15).map .sg) = ∑ k : Fin 15, tallyAt (barCell (sigDev c k)) () 1 := by
    unfold dsum
    rw [List.map_map, Fin.sum_univ_def]
    rfl
  have e2 : dsum c (usedL.map .uns) = ∑ t ∈ usedS, tallyAt (recvCell (devOf c t) t) () (credit t) := by
    unfold dsum
    rw [List.map_map, usedS_eq, List.sum_toFinset _ usedL_nodup]
    rfl
  unfold atoms₀
  rw [dsum_append, dsum_append, dsum_append, dsum_append, e1, e2, free _ (by decide +kernel), free _ (by decide +kernel),
    free _ (by decide +kernel), zero_add, zero_add, add_zero]

/-- What a device is owed. -/
def owedTo (c : Dev nD) : CellTallies nD τ sig Unit :=
  (∑ k : Fin 15, tallyAt (barCell c) () 1) + ∑ t ∈ usedS, tallyAt (recvCell c t) () (credit t)

/-- All that is owed is owed to someone. -/
theorem sum_owed : (∑ c : Dev nD, dsum c atoms₀) = ∑ c : Dev nD, owedTo c := by
  have swap {J : Type} (S : Finset J) (e : J → Dev nD ≃ Dev nD) (T : Dev nD → J → CellTallies nD τ sig Unit) :
      (∑ c : Dev nD, ∑ j ∈ S, T (e j c) j) = ∑ c : Dev nD, ∑ j ∈ S, T c j := by
    rw [Finset.sum_comm, Finset.sum_comm (f := fun (c : Dev nD) (j : J) => T c j)]
    exact Finset.sum_congr rfl fun j _ => Equiv.sum_comp (e j) fun c => T c j
  rw [Finset.sum_congr rfl fun c _ => dsum_atoms₀ c]
  unfold owedTo
  rw [Finset.sum_add_distrib, Finset.sum_add_distrib]
  exact congrArg₂ (· + ·) (swap Finset.univ alongSig fun c _ => tallyAt (barCell c) () 1)
    (swap usedS alongTr fun c t => tallyAt (recvCell c t) () (credit t))

theorem owedTo_here (c : Dev nD) (g : GSem nD τ sig) (h : owedTo c g ≠ 0) : g.1 = (c : Thread nD τ) := by
  by_contra hn
  refine h ?_
  have h0 (sm : SemLoc sig) (n : ℕ) : (tallyAt ((c : Thread nD τ), sm) () n : CellTallies nD τ sig Unit) g = 0 :=
    tallyAt_ne_cell (fun e => hn (congrArg Prod.fst e)) () n
  unfold owedTo
  rw [Pi.add_apply, Finset.sum_apply, Finset.sum_apply, Finset.sum_eq_zero fun k _ => h0 _ 1, Finset.sum_eq_zero fun t _ => h0 _ (credit t), add_zero]

theorem tally_ones (g : GSem nD τ sig) : (∑ k : Fin 15, tallyAt g () 1) = (tallyAt g () 15 : CellTallies nD τ sig Unit) := by
  have h (n : ℕ) : (∑ k ∈ Finset.range n, tallyAt g () 1) = (tallyAt g () n : CellTallies nD τ sig Unit) := by
    induction n with
    | zero => rw [Finset.sum_range_zero, tallyAt_zero]
    | succ n ih => rw [Finset.sum_range_succ, ih, tallyAt_add]
  rw [← h 15, Finset.sum_const, Finset.sum_const, Finset.card_univ, Fintype.card_fin, Finset.card_range]

theorem cred_sum (s : Finset Tr) (T : Tr → CellTallies nD τ sig Unit) : (cred (∑ t ∈ s, T t) : sProp 𝕄) = bigSep s fun t => cred (T t) := by
  induction s using Finset.induction_on with
  | empty => rw [Finset.sum_empty, cred_zero, bigSep_empty]; rfl
  | insert a s ha ih => rw [Finset.sum_insert ha, bigSep_insert ha, Entails.antisymm (cred_add _ _).1 (cred_add _ _).2, ih]; rfl

/-- The launch deals every device the credit it is owed. -/
theorem creds_intro (c : Dev nD) : (Pipeline.launchCred (fun d => dsum d atoms₀) c : sProp 𝕄) ⊢ creds c := by
  rw [Pipeline.launchCred_of_sum (fun d => dsum d atoms₀) owedTo sum_owed (fun d g h => owedTo_here d g h) c]
  unfold owedTo creds
  rw [tally_ones, Entails.antisymm (cred_add _ _).1 (cred_add _ _).2, cred_sum, bigSep_eq_bigSepL_of_eq usedL usedS_eq usedL_nodup]

/-! ## The cells and the payments -/

/-- The kernel's own semaphores: the copies' on their senders and receivers. -/
abbrev osem : Bool × Tr → SemLoc sig := fun k => csem (some k)

theorem ownSemFacts : Pipeline.OwnSemFacts cfg0.spec osem where
  isScoped := by decide +kernel
  inj := fun a b h => Option.some.inj (csem_injective h)
  disj := by decide +kernel

theorem kcell_injective : Function.Injective fun p : Dev nD × CK => kcell p.1 p.2 := by
  rintro ⟨c, k⟩ ⟨c', k'⟩ h
  have h1 : c = c' := by have := congrArg (fun g : GSem nD τ sig => g.1.1) h; exact this
  have h2 : csem k = csem k' := congrArg Prod.snd h
  rw [h1, csem_injective h2]

def cells : Finset (GSem nD τ sig) := Finset.univ.map ⟨fun p : Dev nD × CK => kcell p.1 p.2, kcell_injective⟩

/-- A device's payments as minted: those its own cells expect. -/
abbrev tokOf (p : Dev nD × (Fin 15 ⊕ (Bool × Tr))) : GSem nD τ sig × ℕ × Fin 15 :=
  match p.2 with
  | .inl k => (barCell p.1, 0, k)
  | .inr j => (kcell p.1 (some j), 0, 0)

theorem tokOf_injective : Function.Injective tokOf := by
  rintro ⟨c, j⟩ ⟨c', j'⟩ h
  have h1 : c = c' := by
    have := congrArg (fun x : GSem nD τ sig × ℕ × Fin 15 => x.1.1.1) h
    rcases j with k | j <;> rcases j' with k' | j' <;> exact this
  subst h1
  rcases j with k | j <;> rcases j' with k' | j'
  · rw [show k = k' from congrArg (fun x : GSem nD τ sig × ℕ × Fin 15 => x.2.2) h]
  · exact nomatch csem_injective (show csem none = csem (some j') from congrArg (fun x : GSem nD τ sig × ℕ × Fin 15 => x.1.2) h)
  · exact nomatch csem_injective (show csem (some j) = csem none from congrArg (fun x : GSem nD τ sig × ℕ × Fin 15 => x.1.2) h)
  · rw [Option.some.inj (csem_injective (show csem (some j) = csem (some j') from congrArg (fun x : GSem nD τ sig × ℕ × Fin 15 => x.1.2) h))]

def paid : Finset (GSem nD τ sig × ℕ × Fin 15) := Finset.univ.map ⟨tokOf, tokOf_injective⟩

def u₀ : UU := (Rounds.initOf (Pipeline.cells cfgs cellOf_inj) (Pipeline.launchToks cfgs cellOf_inj), Rounds.initOf cells paid)

/-- The payments a device's own cells expect. -/
def toks (c : Dev nD) : sProp 𝕄 :=
  iprop((bigSep Finset.univ fun k : Fin 15 => dutyTok ER (barCell c) 0 k)
    ∗ (bigSep Finset.univ fun t : Tr => dutyTok ER (sendCell c t) 0 0) ∗ (bigSep Finset.univ fun t : Tr => dutyTok ER (recvCell c t) 0 0))
/-- The payments a device makes. -/
def pays (c : Dev nD) : sProp 𝕄 :=
  iprop((bigSep Finset.univ fun k : Fin 15 => dutyTok ER (barCell (sigDev c k)) 0 k)
    ∗ (bigSep Finset.univ fun t : Tr => dutyTok ER (sendCell c t) 0 0) ∗ (bigSep Finset.univ fun t : Tr => dutyTok ER (recvCell (devOf c t) t) 0 0))

/-- What the launch deals a device, -/
def G (c : Dev nD) : sProp 𝕄 :=
  iprop((bigSep Finset.univ fun k : CK => roundState ER (sched I) (kcell c k) 0)
    ∗ (bigSep Finset.univ fun k : CK => atPos ER (kcell c k) 0 ∅ 0) ∗ (bigSep Finset.univ fun k : CK => reached ER (kcell c k) 0) ∗ toks c)
/-- the cells' invariants and that all are at their first round, -/
def records (K : Dev nD × CK → ℕ) : sProp 𝕄 :=
  iprop((bigSep Finset.univ fun p : Dev nD × CK => cellInv ER (sched I) (K p) (kcell p.1 p.2))
    ∗ bigSep Finset.univ fun p : Dev nD × CK => reached ER (kcell p.1 p.2) 0)
/-- and what a device has once the payments are handed around. -/
def G' (c : Dev nD) : sProp 𝕄 := iprop(∃ K, records I K ∗ lin c)

instance records_persistent (K : Dev nD × CK → ℕ) : BI.Persistent (records I K) := by unfold records; infer_instance

theorem two (Ψ : Bool → sProp 𝕄) : bigSep Finset.univ Ψ = iprop(Ψ false ∗ Ψ true) :=
  bigSep_univ_eq_bigSepL [false, true] (by decide) (by decide) Ψ

theorem pairs (Ψ : Bool × Tr → sProp 𝕄) : bigSep Finset.univ Ψ
    = iprop((bigSep Finset.univ fun t => Ψ (false, t)) ∗ (bigSep Finset.univ fun t => Ψ (true, t))) := by
  rw [bigSep_univ_prod, two]

theorem fund : BI.own (ER (Rounds.initOf cells paid)) ⊢ (|==> bigSep Finset.univ (G I) : sProp 𝕄) := by
  have hX (Φ : GSem nD τ sig → sProp 𝕄) : bigSep cells Φ = bigSep Finset.univ fun c : Dev nD => bigSep Finset.univ fun k : CK => Φ (kcell c k) := by
    unfold cells; rw [bigSep_map, bigSep_univ_prod]; rfl
  have hT : bigSep paid (fun x => (dutyTok ER x.1 x.2.1 x.2.2 : sProp 𝕄)) = bigSep Finset.univ fun c : Dev nD => toks c := by
    unfold paid; rw [bigSep_map, bigSep_univ_prod]
    refine bigSep_congr fun c _ => ?_
    unfold toks
    refine (bigSep_univ_sum (M := 𝕄) _).trans ?_
    refine congrArg (fun X : sProp 𝕄 => iprop((bigSep Finset.univ fun k : Fin 15 => dutyTok ER (barCell c) 0 k) ∗ X)) ?_
    exact pairs fun p => dutyTok ER (kcell c (some p)) 0 0
  iintro HX
  imod (Rounds.fund ER (sched I) cells paid) $$ HX with ⟨Hst, Hr, Hat, Htok⟩
  imodintro
  ihave Hst' := (Entails.of_eq (hX fun g => roundState ER (sched I) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr']; · iexact Hr'
  iexact Htok'

/-! ## All semaphores of a device at zero -/

theorem unscopedSems0_eq (c : Dev nD) : (unscopedSems0 c : sProp 𝕄) = semVal (barCell c) 0 := by
  unfold unscopedSems0; rw [bigSep_eq_bigSepL_of_eq [SemLoc.reg barSem] (by decide +kernel) (by decide)]; rfl

theorem sems0_eq (c : Dev nD) : (bigSep Finset.univ fun k : CK => semVal (kcell c k) 0 : sProp 𝕄)
    = iprop(unscopedSems0 c ∗ Pipeline.ownSems0 (Ix := Unit) (Name := ℕ) (U := UU) (Lvl := ℕ) (Val := Elt F) (τ := τ) osem c) := by
  rw [allCK, unscopedSems0_eq]
  unfold Pipeline.ownSems0
  rw [pairs]
  rfl

/-- A device's semaphores become cells. -/
theorem core_alloc (c : Dev nD) :
    iprop(Pipeline.ownSems0 (Ix := Unit) (Name := ℕ) (U := UU) (Lvl := ℕ) (Val := Elt F) (τ := τ) osem c ∗ unscopedSems0 c ∗ G I c)
      ⊢ |={Set.univ}=> iprop((bigSep Finset.univ fun k : CK => iprop(∃ κ : ℕ, cellInv ER (sched I) κ (kcell c k)))
          ∗ (bigSep Finset.univ fun k : CK => atPos ER (kcell c k) 0 ∅ 0) ∗ (bigSep Finset.univ fun k : CK => reached ER (kcell c k) 0) ∗ toks c) := by
  unfold G
  iintro ⟨Hos, Hus, Hst, Hat, Hr, Htok⟩
  ihave Hv := (Entails.of_eq (sems0_eq (F := F) c).symm) $$ [Hos Hus]
  · isplitl [Hus] <;> iassumption
  imod (show iprop((bigSep Finset.univ fun k : CK => semVal (kcell c k) 0) ∗ bigSep Finset.univ fun k : CK => roundState ER (sched I) (kcell c k) 0)
      ⊢ (|={Set.univ}=> bigSep Finset.univ fun k : CK => iprop(∃ κ : ℕ, cellInv ER (sched I) κ (kcell c k)) : sProp 𝕄) from by
        rw [← bigSep_sep']
        exact (bigSep_mono fun k _ => (Rounds.body_intro ER (sched I) (kcell c k)).trans inv_alloc).trans (bigSep_fupd _ _)) $$ [Hv Hst] with Hinv
  · isplitl [Hv] <;> iassumption
  imodintro
  isplitl [Hinv]; · iexact Hinv
  isplitl [Hat]; · iexact Hat
  isplitl [Hr]; · iexact Hr
  iexact Htok

/-- Every payment goes to the device that makes it. -/
theorem hand_around : (bigSep Finset.univ fun c : Dev nD => (toks c : sProp 𝕄)) ⊢ bigSep Finset.univ fun c : Dev nD => pays c := by
  have e1 : (bigSep Finset.univ fun c : Dev nD => bigSep Finset.univ fun k : Fin 15 => (dutyTok ER (barCell c) 0 k : sProp 𝕄))
      = bigSep Finset.univ fun c : Dev nD => bigSep Finset.univ fun k : Fin 15 => dutyTok ER (barCell (sigDev c k)) 0 k := by
    rw [Pipeline.bigSep_univ_comm, Pipeline.bigSep_univ_comm (fun (c : Dev nD) (k : Fin 15) => (dutyTok ER (barCell (sigDev c k)) 0 k : sProp 𝕄))]
    exact bigSep_congr fun k _ => bigSep_univ_equiv (alongSig k) fun c : Dev nD => (dutyTok ER (barCell c) 0 k : sProp 𝕄)
  have e2 : (bigSep Finset.univ fun c : Dev nD => bigSep Finset.univ fun t : Tr => (dutyTok ER (recvCell c t) 0 0 : sProp 𝕄))
      = bigSep Finset.univ fun c : Dev nD => bigSep Finset.univ fun t : Tr => dutyTok ER (recvCell (devOf c t) t) 0 0 := by
    rw [Pipeline.bigSep_univ_comm, Pipeline.bigSep_univ_comm (fun (c : Dev nD) (t : Tr) => (dutyTok ER (recvCell (devOf c t) t) 0 0 : sProp 𝕄))]
    exact bigSep_congr fun t _ => bigSep_univ_equiv (alongTr t) fun c : Dev nD => (dutyTok ER (recvCell c t) 0 0 : sProp 𝕄)
  unfold toks pays
  rw [bigSep_sep', bigSep_sep', bigSep_sep', bigSep_sep', e1, e2]

theorem lin_intro (c : Dev nD) : iprop((bigSep Finset.univ fun k : CK => atPos ER (kcell c k) 0 ∅ 0) ∗ pays c) ⊢ (lin c : sProp 𝕄) := by
  rw [allCK]
  unfold pays lin
  iintro ⟨⟨H1, H2, H3⟩, H4, H5, H6⟩
  isplitl [H1]; · iexact H1
  isplitl [H2]; · iexact H2
  isplitl [H3]; · iexact H3
  isplitl [H4]; · iexact H4
  isplitl [H5] <;> iassumption

theorem with_persistent {A : Type} [DecidableEq A] {S : Finset A} {R : sProp 𝕄} [BI.Persistent R] {Φ Ψ : A → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : CK => iprop(∃ κ : ℕ, cellInv ER (sched I) κ (kcell c k)))
          ∗ (bigSep Finset.univ fun k : CK => atPos ER (kcell c k) 0 ∅ 0) ∗ (bigSep Finset.univ fun k : CK => reached ER (kcell c k) 0) ∗ toks c) : sProp 𝕄)
      ⊢ bigSep Finset.univ (G' I) := by
  rw [bigSep_sep', bigSep_sep', bigSep_sep', ← bigSep_univ_prod (fun p : Dev nD × CK => iprop(∃ κ : ℕ, cellInv ER (sched I) κ (kcell p.1 p.2))),
    ← bigSep_univ_prod (fun p : Dev nD × CK => (reached ER (kcell p.1 p.2) 0 : sProp 𝕄))]
  iintro ⟨HI, Hat, #HR, Htok⟩
  ihave HK := (BI.bigSep_exists_pi Finset.univ (fun (p : Dev nD × CK) (κ : ℕ) => (cellInv ER (sched I) κ (kcell p.1 p.2) : sProp 𝕄))) $$ HI
  icases HK with ⟨%K, #HI⟩
  ihave Htk := (hand_around (F := F)) $$ Htok
  iapply (with_persistent (R := records I K) (Φ := lin) fun c _ => show iprop(records I K ∗ lin c) ⊢ G' I c from by
    unfold G'
    iintro ⟨H1, H2⟩
    iexists K
    isplitl [H1] <;> iassumption)
  isplitr
  · unfold records; isplitl; · iexact HI
    iexact HR
  · iapply ((Entails.of_eq (bigSep_sep' Finset.univ (fun c : Dev nD => bigSep Finset.univ fun k : CK => (atPos ER (kcell c k) 0 ∅ 0 : sProp 𝕄)) pays).symm).trans
      (bigSep_mono fun c _ => lin_intro c))
    isplitl [Hat]; · iexact Hat
    iexact Htk

/-- The launch's step on all devices at once. -/
theorem glob : (bigSep Finset.univ fun c => iprop(Pipeline.ownSems0 (Ix := Unit) (Name := ℕ) (U := UU) (Lvl := ℕ) (Val := Elt F) (τ := τ) osem c ∗ unscopedSems0 c ∗ G I c) : sProp 𝕄)
    ⊢ |={Set.univ}=> bigSep Finset.univ (G' I) :=
  ((bigSep_mono fun c _ => core_alloc I c).trans (bigSep_fupd _ _)).trans (BI.fupd_mono (regroup I))

end Cert.KernelIdeal.Gen

end
-- ==== Proof.Launched.lean ====
/-
  The run of the program: every device's body from what the launch deals it, and the launch's theorem.
-/
module

public import proofs.«01_k».proof.Proof.Deal
public import proofs.«01_k».proof.Proof.Gen.KernelIdeal.Points
public import Idealize.ShloMosaic.Lib.Pipeline.Launch
public import Idealize.ShloMosaic.Lib.Pipeline.CollectiveSegs

@[expose] public section

set_option maxRecDepth 32000

noncomputable section

namespace Cert.KernelIdeal.Gen

open Idealize.ShloMosaic
open Idealize.ShloMosaic.TcCoe
open Idealize.ShloMosaic.Pipeline (Dat Cfg Window BodyObligation cellOf)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- The memory the run starts from, every counter at zero. -/
def s₀ : MemSt nD τ sig (Elt F) := ⟨m, fun _ => 0, ρ⟩

/-- What the devices' inputs are staged as. -/
def ins : Ins F where
  x c := (win0_0.blk t0_0).view.read (Elt F) (m ((c : Thread nD τ).loc main_arg0))
  w c := (win0_1.blk t0_0).view.read (Elt F) (m ((c : Thread nD τ).loc main_arg1))
  sx c := (win0_2.blk t0_0).view.read (Elt F) (m ((c : Thread nD τ).loc main_arg2))
  sw c := (win0_3.blk t0_0).view.read (Elt F) (m ((c : Thread nD τ).loc main_arg3))

/-- What a device's body starts from, but for its buffers, -/
def start (c : Dev nD) : sProp 𝕄 := iprop((∃ K, known (ins m) K ∗ lin c) ∗ creds c)
/-- with its scratch, -/
def Φ₀ (c : Dev nD) : sProp 𝕄 := iprop(start m c ∗ raws c)
/-- and what it ends with. -/
def Φ₁ (c : Dev nD) : sProp 𝕄 := iprop(raws c ∗ bigSep Finset.univ fun k : CK => semVal (kcell c k) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (ins m).x c
    | ⟨1, _⟩ => (ins m).w c
    | ⟨2, _⟩ => (ins m).sx c
    | ⟨3, _⟩ => (ins m).sw c
    | ⟨4, _⟩ => outV (ins m) c
  Φ t := match t with
    | ⟨0, _⟩ => Φ₀ m c
    | ⟨_ + 1, _⟩ => Φ₁ c
  q _ := fullShare
  owed t := match t with
    | ⟨0, _⟩ => dsum c atoms₀
    | ⟨_ + 1, _⟩ => 0

/-! ## The body -/

/-- A whole staging buffer, as the pipeline hands it over. -/
theorem owns_whole (c : Dev nD) (b : Ref sig .tc) (X : b.ty.Contents (Elt F)) :
    (owns (c : Thread nD τ) (Memref.whole b) fullShare X : sProp 𝕄)
      = iprop(∃ f : Buf (Elt F) ((c : Thread nD τ).loc b), ⌜f = X⌝ ∗ (c : Thread nD τ).loc b ↦{fullShare} f) := by
  unfold owns; simp only [Memref.view_whole, View.read_whole, View.set_whole]

abbrev stg (c : Dev nD) (b : Ref sig .tc) (X : b.ty.Contents (Elt F)) : sProp 𝕄 :=
  iprop(∃ f : Buf (Elt F) ((c : Thread nD τ).loc b), ⌜f = X⌝ ∗ (c : Thread nD τ).loc b ↦{fullShare} f)

theorem stg_eq (c : Dev nD) (b : Ref sig .tc) (X : Buf (Elt F) ((c : Thread nD τ).loc b)) :
    (stg c b X : sProp 𝕄) = iprop((c : Thread nD τ).loc b ↦{fullShare} X) := by
  have h1 : iprop(∃ f : Buf (Elt F) ((c : Thread nD τ).loc b), ⌜f = X⌝ ∗ (c : Thread nD τ).loc b ↦{fullShare} f)
      ⊢ (iprop((c : Thread nD τ).loc b ↦{fullShare} X) : sProp 𝕄) := by
    iintro ⟨%f, %hf, H⟩
    rw [← hf]
    iexact H
  have h2 : (iprop((c : Thread nD τ).loc b ↦{fullShare} X) : sProp 𝕄)
      ⊢ iprop(∃ f : Buf (Elt F) ((c : Thread nD τ).loc b), ⌜f = X⌝ ∗ (c : Thread nD τ).loc b ↦{fullShare} f) := by
    iintro H
    iexists X
    isplitr
    · ipureintro; rfl
    iexact H
  exact Entails.antisymm h1 h2

def bodyPre (c : Dev nD) : sProp 𝕄 :=
  iprop(Φ₀ m c ∗ (dats m ρ 0 c).owesAt () t0_0.castSucc
    ∗ (∃ d, stg c cc0_stg0_0 ((dats m ρ 0 c).before (0 : Fin 5) t0_0 d))
    ∗ (∃ d, stg c cc0_stg1_0 ((dats m ρ 0 c).before (1 : Fin 5) t0_0 d))
    ∗ (∃ d, stg c cc0_stg2_0 ((dats m ρ 0 c).before (2 : Fin 5) t0_0 d))
    ∗ (∃ d, stg c cc0_stg3_0 ((dats m ρ 0 c).before (3 : Fin 5) t0_0 d))
    ∗ (∃ d, stg c cc0_stg4_0 ((dats m ρ 0 c).before (4 : Fin 5) t0_0 d)))

def bodyPost (c : Dev nD) : sProp 𝕄 :=
  iprop(Φ₁ c ∗ (dats m ρ 0 c).owesAt () t0_0.succ
    ∗ stg c cc0_stg0_0 ((ins m).x c) ∗ stg c cc0_stg1_0 ((ins m).w c) ∗ stg c cc0_stg2_0 ((ins m).sx c) ∗ stg c cc0_stg3_0 ((ins m).sw c)
    ∗ stg c cc0_stg4_0 (outV (ins m) c))

theorem before_x (c : Dev nD) (d) : (dats m ρ 0 c).before (0 : Fin 5) t0_0 d = (ins m).x c := by
  unfold Dat.before; rw [if_pos (fetch0_0 t0_0)]; rfl
theorem before_w (c : Dev nD) (d) : (dats m ρ 0 c).before (1 : Fin 5) t0_0 d = (ins m).w c := by
  unfold Dat.before; rw [if_pos (fetch0_1 t0_0)]; rfl
theorem before_sx (c : Dev nD) (d) : (dats m ρ 0 c).before (2 : Fin 5) t0_0 d = (ins m).sx c := by
  unfold Dat.before; rw [if_pos (fetch0_2 t0_0)]; rfl
theorem before_sw (c : Dev nD) (d) : (dats m ρ 0 c).before (3 : Fin 5) t0_0 d = (ins m).sw c := by
  unfold Dat.before; rw [if_pos (fetch0_3 t0_0)]; rfl

/-- What the pipeline hands the body is what its steps start from. -/
theorem pre_enter (c : Dev nD) : bodyPre m ρ c ⊢ iprop(∃ K, known (ins m) K ∗ held (ins m) c atoms₀ ∗ idle c) := by
  unfold bodyPre Φ₀ start Dat.owesAt Pipeline.owesWithin
  rw [show (dats m ρ 0 c).owed t0_0.castSucc = dsum c atoms₀ from rfl]
  simp only [stg_eq, before_x, before_w, before_sx, before_sw]
  iintro ⟨⟨⟨⟨%K, HK, Hlin⟩, Hcr⟩, Hraw⟩, ⟨%W, -, HO⟩, ⟨%_, Hx⟩, ⟨%_, Hw⟩, ⟨%_, Hsx⟩, ⟨%_, Hsw⟩, ⟨%d, Hout⟩⟩
  iexists K
  isplitl [HK]; · iexact HK
  iapply (enter (ins m) c)
  unfold staged res
  isplitl [Hlin]; · iexact Hlin
  isplitl [Hcr]; · iexact Hcr
  isplitl [Hraw]; · iexact Hraw
  isplitl [Hx Hw Hsx Hsw]
  · isplitl [Hx]; · iexact Hx
    isplitl [Hw]; · iexact Hw
    isplitl [Hsx] <;> iassumption
  isplitl [Hout]
  · iexists _; iexact Hout
  iexists W; iexact HO

/-- What its steps end with is what it hands back. -/
theorem leave_post (K : Dev nD × CK → ℕ) (c : Dev nD) : iprop(known (ins m) K ∗ held (ins m) c atoms₁ ∗ idle c) ⊢ |={Set.univ}=> bodyPost m ρ c := by
  unfold bodyPost Φ₁ Dat.owesAt Pipeline.owesWithin
  rw [show (dats m ρ 0 c).owed t0_0.succ = 0 from rfl]
  simp only [stg_eq]
  iintro H
  imod (leave (ins m) K c) $$ H with ⟨Hs, Hraw, Hst, Hout, ⟨%W, HO⟩⟩
  imodintro
  unfold staged res
  icases Hst with ⟨Hx, Hw, Hsx, Hsw⟩
  isplitl [Hs Hraw]
  · isplitl [Hraw] <;> iassumption
  isplitl [HO]
  · iexists W
    isplitr
    · ipureintro; exact fun _ _ => Or.inl trivial
    iexact HO
  isplitl [Hx]; · iexact Hx
  isplitl [Hw]; · iexact Hw
  isplitl [Hsx]; · iexact Hsx
  isplitl [Hsw]; · iexact Hsw
  iexact Hout

theorem body_from (c : Dev nD) : bodyPre m ρ c ⊢ wpc c bodyActs fun _ => bodyPost m ρ c := by
  refine (pre_enter m ρ c).trans ?_
  iintro ⟨%K, #HK, Hh, Hi⟩
  iapply (show wpc c bodyActs (fun _ => iprop(|={Set.univ}=> bodyPost m ρ c)) ⊢ wpc c bodyActs fun _ => bodyPost m ρ c from
    wp_fupd _ _ _ _ _)
  iapply (body_sound (ins m) K c fun _ => iprop(|={Set.univ}=> bodyPost m ρ c))
  isplitr [Hh Hi]; · iexact HK
  isplitl [Hh]; · iexact Hh
  iintro Hh
  iapply (leave_post m ρ K c)
  isplitr [Hh Hi]; · iexact HK
  isplitl [Hh] <;> iassumption

theorem body_obligation (c : Dev nD) : BodyObligation (dats (F := F) m ρ 0 c) (defs₀ (F := F)) 𝒱₀ () Set.univ := fun t => by
  rw [fin_N0 t]
  rw [bigSep_W0, bigSep_W0]
  simp only [owns_whole]
  show bodyPre m ρ c ⊢ wpc c (cc0_body (F := F) xM (Memref.isWhole_whole _) wM (Memref.isWhole_whole _) sxM (Memref.isWhole_whole _) swM (Memref.isWhole_whole _)
      oM (Memref.isWhole_whole _) ownM (Memref.isWhole_whole _) (Memref.whole cc0_scratch1) (Memref.isWhole_whole _)
      (Memref.whole cc0_scratch2) (Memref.isWhole_whole _) (Memref.whole cc0_scratch3) (Memref.isWhole_whole _)
      (Memref.whole cc0_scratch4) (Memref.isWhole_whole _) accM (Memref.isWhole_whole _)
      cc0_scratch6 cc0_scratch7 cc0_scratch8 cc0_scratch9 cc0_scratch10 cc0_scratch11) (fun _ => bodyPost m ρ c)
  rw [body_eq_acts]
  exact body_from m ρ c

/-! ## The launch's side conditions -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred (fun d => dsum d atoms₀) c ∗ prngReg c (ρ c) ∗ G' (ins m) c)
      ⊢ |={Set.univ}=> iprop(start m c ∗ emp) := by
  unfold start G' records known
  iintro ⟨-, Hlev, Hcr, -, ⟨%K, ⟨H1, H2⟩, Hlin⟩⟩
  ihave Hc := (creds_intro (F := F) c) $$ Hcr
  imodintro
  isplitl
  · isplitr [Hc]
    · iexists K
      isplitr [Hlin]
      · isplitl [H1]; · iexact H1
        isplitl [H2]; · iexact H2
        iexact Hlev
      · iexact Hlin
    · iexact Hc
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, show Pipeline.scopedRest (Ix := Unit) (Name := ℕ) (U := UU) (Lvl := ℕ) (Val := Elt F) cfg0.spec c = raws c from scratch_eq c]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, show Pipeline.scopedRest (Ix := Unit) (Name := ℕ) (U := UU) (Lvl := ℕ) (Val := Elt F) cfg0.spec c = raws c from scratch_eq c]
  unfold Φ₁
  rw [sems0_eq]
  iintro ⟨Hr, Hu, Ho⟩
  isplitl [Hu]; · iexact Hu
  isplitl [Ho] <;> iassumption

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait c _ 0 atoms₀ (by decide +kernel) (by fin_cases w <;> fin_cases s <;> rfl)
    · show (levAts L lv : sProp 𝕄) ⊢ MayWait (c : Thread nD τ) _ () 0
      rw [MayWait_zero]; iintro -; iempintro

/-! ## The run -/

/-- What a window's array ends with. -/
def finalA (c : Dev nD) (w : Fin cfg0.W) : Buf (Elt F) ((cfg0.win w).arr.view.loc (c : Thread nD τ)) := (dats m ρ 0 c).arrAt w cfg0.N

/-- The sixteen devices' run from any memory with all counters at zero: it ends, whatever the schedule, with every
    array at its final contents and all counters at zero. -/
theorem run_main : θ_run defs (onTc (τ := τ) (main (F := F))) (s₀ m ρ)
    (fun r => (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun d => dsum d atoms₀) (howed₀ := fun _ => rfl) (howedN := fun _ => rfl)
    (L := L) (lv := lv) (hL := L_of_ne) (hwaits := waits m ρ)
    (G := G (ins m)) (G' := G' (ins m)) (u₀ := u₀)
    (hu₀ := by
      unfold u₀
      iintro Hu
      ihave H := (ownU_pair _ _) $$ Hu
      icases H with ⟨HP, HX⟩
      imod (fund (ins m)) $$ HX with HG
      imodintro
      isplitl [HP] <;> iassumption)
    (hglob := glob (ins m))
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- Every device's result array ends with its result, -/
theorem finalA_out (c : Dev nD) : (win0_4.blk t0_0).view.read (Elt F) (finalA m ρ c (4 : Fin 5)) = outV (ins m) c := by
  unfold finalA
  rw [show cfg0.N = (t0_0 : Fin cfg0.N).val + 1 from N_0, (dats m ρ 0 c).arrAt_succ (4 : Fin 5) t0_0]
  rw [show (cfg0.win (4 : Fin 5)).flush t0_0 = true from flush0_4 t0_0, if_pos rfl]
  exact View.read_write_univ _ _
/-- and its arguments with what they held. -/
theorem finalA_x (c : Dev nD) : finalA m ρ c (0 : Fin 5) = m ((c : Thread nD τ).loc main_arg0) := (dats (F := F) m ρ 0 c).arrAt_in (0 : Fin 5) rfl _
theorem finalA_w (c : Dev nD) : finalA m ρ c (1 : Fin 5) = m ((c : Thread nD τ).loc main_arg1) := (dats (F := F) m ρ 0 c).arrAt_in (1 : Fin 5) rfl _
theorem finalA_sx (c : Dev nD) : finalA m ρ c (2 : Fin 5) = m ((c : Thread nD τ).loc main_arg2) := (dats (F := F) m ρ 0 c).arrAt_in (2 : Fin 5) rfl _
theorem finalA_sw (c : Dev nD) : finalA m ρ c (3 : Fin 5) = m ((c : Thread nD τ).loc main_arg3) := (dats (F := F) m ρ 0 c).arrAt_in (3 : Fin 5) rfl _

end Cert.KernelIdeal.Gen

end
-- ==== Proof.Frames.lean ====
/-
  The frames: the kernel's, as printed and read at exact values, and the reference's.
-/
module

public import proofs.«01_k».proof.Defs
public import proofs.«01_k».proof.Proof.Launched
public import proofs.«01_k».proof.Proof.Gen.Kernel
public import proofs.«01_k».proof.Proof.Gen.ReferenceIdeal.Frame
public import Idealize.ShloMosaic.Lib.Tactic

@[expose] public section

set_option maxRecDepth 32000

noncomputable section

namespace Cert.Proof

open Idealize.ShloMosaic Idealize.SL.Sem
open Cert.KernelIdeal.Gen (run_main finalA_x finalA_w finalA_sx finalA_sw)

/-- The frame, for any float values. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩
      (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
        ∧ r.2.sem = fun _ => 0) :=
  (θ_run Cert.KernelIdeal.defs _ _).mono
    (fun _ h => ⟨fun c => ⟨(h.1 c (0 : Fin 5)).trans (finalA_x m ρ c), (h.1 c (1 : Fin 5)).trans (finalA_w m ρ c),
      (h.1 c (2 : Fin 5)).trans (finalA_sx m ρ c), (h.1 c (3 : Fin 5)).trans (finalA_sw m ρ c)⟩, h.2⟩)
    (run_main (F := F) m ρ)

theorem frame_ideal : Cert.quiescent_KernelIdeal (hKernelIdeal := Cert.KernelIdeal.Gen.facts) := fun m ρ _ => frame_any m ρ

/-- The printed kernel has the same text, so its claim is the same, read at the machine's values. -/
theorem kernel_text : Cert.quiescent_Kernel (hKernel := Cert.Kernel.Gen.facts)
    = ∀ (m : (ℓ : Loc Cert.KernelIdeal.nD Cert.KernelIdeal.τ Cert.KernelIdeal.sig) → Buf (Elt Bits) ℓ) (ρ : Dev Cert.KernelIdeal.nD → PrngReg), True →
    θ_run (Cert.KernelIdeal.defs (F := Bits)) (onTc (τ := Cert.KernelIdeal.τ) (Cert.KernelIdeal.main (F := Bits))) ⟨m, fun _ => 0, ρ⟩
      (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
        ∧ r.2.sem = fun _ => 0) := by
  sl_kernel_rfl

theorem frame_kernel : Cert.quiescent_Kernel (hKernel := Cert.Kernel.Gen.facts) := kernel_text.mpr fun m ρ _ => frame_any m ρ

theorem frame_reference : Cert.quiescent_ReferenceIdeal (hReferenceIdeal := Cert.ReferenceIdeal.Gen.facts) :=
  fun m ρ _ => Cert.ReferenceIdeal.Gen.frame m ρ

end Cert.Proof

end
-- ==== Proof.Sums.lean ====
/-
  Sums over the contracted positions: the 4096 of them lie in sixteen blocks of 256, one per device, and a block in two
  halves of 128.
-/
module

public import Mathlib.Algebra.BigOperators.Fin
public import Mathlib.Logic.Equiv.Fin.Basic
public import Mathlib.Tactic.Abel

@[expose] public section

namespace Cert.Sums

variable {M : Type*} [AddCommMonoid M]

/-- Position k of the first half of a block, -/
def lo (k : Fin 128) : Fin 256 := ⟨k.val, by omega⟩
/-- and of the second. -/
def hi (k : Fin 128) : Fin 256 := ⟨128 + k.val, by omega⟩
/-- Position k of block e. -/
def at' (e : Fin 16) (k : Fin 256) : Fin 4096 := ⟨256 * e.val + k.val, by omega⟩

theorem sum_halves (f : Fin 256 → M) : ∑ k, f (lo k) + ∑ k, f (hi k) = ∑ k, f k :=
  (Fin.sum_univ_add (a := 128) (b := 128) f).symm

theorem sum_blocks (f : Fin 4096 → M) : ∑ e, ∑ k, f (at' e k) = ∑ k, f k := by
  rw [← Fintype.sum_prod_type' (fun e k => f (at' e k)),
    ← Equiv.sum_comp (finProdFinEquiv (m := 16) (n := 256)) (fun k : Fin (16 * 256) => f k)]
  refine Finset.sum_congr rfl fun p _ => congrArg f (Fin.ext ?_)
  show 256 * p.1.val + p.2.val = p.2.val + 256 * p.1.val
  omega

/-- The sixteen places of a cycle, in the order in which a device's products meet them. -/
theorem sum_order (f : Fin 16 → M) :
    f 0 + (f 15 + f 1 + f 14 + f 2 + f 13 + f 3 + f 12 + f 4 + f 11 + f 5 + f 10 + f 6 + f 9 + f 7) + f 8 = ∑ p, f p := by
  simp only [Fin.sum_univ_succ, Fin.sum_univ_zero, add_zero]
  show _ = f 0 + (f 1 + (f 2 + (f 3 + (f 4 + (f 5 + (f 6 + (f 7 + (f 8 + (f 9 + (f 10 + (f 11 + (f 12 + (f 13 + (f 14 + f 15))))))))))))))
  abel

end Cert.Sums
-- ==== Proof.Payloads.lean ====
/-
  What the kernel's arithmetic is at exact values, entry by entry: the first product, a product by halves added to the
  sum, and the scaling.
-/
module

public import proofs.«01_k».proof.Proof.Atoms
public import proofs.«01_k».proof.Proof.Sums
public import Idealize.ShloMosaic.Lib.MatmulPlain
public import Idealize.ShloMosaic.Lib.ValueIdx
public import Idealize.ShloMosaic.Lib.Pipeline.Value

@[expose] public section

noncomputable section

namespace Cert.KernelIdeal.Gen

open Idealize.ShloMosaic Idealize.ShloMosaic.ValueIdx
open Cert.Sums

theorem zero_f32 (s : Shape) (i : s.Idx) : (constant (F := Ideal) s .f32 0x00000000#32 : FVec Ideal s .f32) i = (0 : EReal) :=
  Ideal.ofBits_zero_f32

theorem first_product (x : Vec Ideal S256x256 .fp8e4m3) (w : Vec Ideal S256x2048 .fp8e4m3) (r : Fin 256) (l : Fin 2048) :
    (k0_pay19 x w (ix2 r l) : EReal) = ∑ k : Fin 256, (x (ix2 r k) : EReal) * w (ix2 k l) := by
  unfold k0_pay19
  simp only [matmul, shapeCast_self]
  rw [show dot_S256x256_S256x2048_S256x2048_1_0_0_1_n_n = DotDims.plain 256 256 2048 from rfl, Ideal.matmul_plain_apply, zero_f32, zero_add]
  rfl

/-- The halves of a tile's columns. -/
theorem cols_lo (x : FVec Ideal S256x256 .bf16) (r : Fin 256) (k : Fin 128) :
    extractStridedSlice S256x128 ![0, 0] x slices_S256x256_o0_0_S256x128 (ix2 r k) = x (ix2 r (lo k)) := by
  unfold extractStridedSlice
  refine congrArg x (funext fun a => Fin.ext ?_)
  match a with
  | ⟨0, _⟩ => exact Nat.zero_add _
  | ⟨1, _⟩ => exact Nat.zero_add _
theorem cols_hi (x : FVec Ideal S256x256 .bf16) (r : Fin 256) (k : Fin 128) :
    extractStridedSlice S256x128 ![0, 128] x slices_S256x256_o0_128_S256x128 (ix2 r k) = x (ix2 r (hi k)) := by
  unfold extractStridedSlice
  refine congrArg x (funext fun a => Fin.ext ?_)
  match a with
  | ⟨0, _⟩ => exact Nat.zero_add _
  | ⟨1, _⟩ => rfl

/-- A product by halves, entry by entry. -/
def halves (x : Vec Ideal S256x256 .fp8e4m3) (a b : Vec Ideal S128x2048 .fp8e4m3) (r : Fin 256) (l : Fin 2048) : EReal :=
  ∑ k : Fin 128, (x (ix2 r (lo k)) : EReal) * a (ix2 k l) + ∑ k : Fin 128, (x (ix2 r (hi k)) : EReal) * b (ix2 k l)

theorem next_product (x : Vec Ideal S256x256 .fp8e4m3) (a b : Vec Ideal S128x2048 .fp8e4m3) (acc : Vec Ideal S256x2048 .f32)
    (r : Fin 256) (l : Fin 2048) :
    (k0_pay20 (shapeCast S1x1x128x2048 a casts_half) (shapeCast S1x1x128x2048 b casts_half) (shapeCast S1x256x256 x casts_tile) acc (ix2 r l) : EReal)
      = acc (ix2 r l) + halves x a b r l := by
  unfold k0_pay20 halves
  simp only [matmul, shapeCast_self, shapeCast_shapeCast, addf_apply]
  rw [show dot_S256x128_S128x2048_S256x2048_1_0_0_1_n_n = DotDims.plain 256 128 2048 from rfl, Ideal.matmul_plain_apply,
    Ideal.matmul_plain_apply, zero_f32, zero_add, zero_add]
  simp only [cols_lo, cols_hi]
  rfl

theorem last_product (x : Vec Ideal S256x256 .fp8e4m3) (a b : Vec Ideal S128x2048 .fp8e4m3) (acc : Vec Ideal S256x2048 .f32) (s t : Elt Ideal .f32)
    (r : Fin 256) (l : Fin 2048) :
    (k0_pay44 (k0_pay42 (shapeCast S1x256x256 x casts_tile) (shapeCast S1x1x128x2048 a casts_half) (shapeCast S1x1x128x2048 b casts_half) acc)
        (k0_pay43 s t) (ix2 r l) : EReal)
      = (acc (ix2 r l) + halves x a b r l) * ((s : EReal) * t) := by
  unfold k0_pay44 k0_pay43 k0_pay42 halves
  simp only [matmul, shapeCast_shapeCast, addf_apply, mulf_apply, broadcast_apply]
  rw [show dot_S256x128_S128x2048_S256x2048_1_0_0_1_n_n = DotDims.plain 256 128 2048 from rfl, Ideal.matmul_plain_apply,
    Ideal.matmul_plain_apply, zero_f32, zero_add, zero_add]
  simp only [cols_lo, cols_hi]
  rfl

end Cert.KernelIdeal.Gen

end
-- ==== Proof.Blocks.lean ====
/-
  What a device's slots hold, as entries of the whole arrays. Device d holds the columns 256 d … of x and the rows 256 d … of
  w, so the tile that device e sends to device c is rows 256 c … and columns 256 e … of x, and the halves of w that pass by are
  rows 256 e … of w. A tile of device e times the block of device e is device e's share of the contraction.
-/
module

public import proofs.«01_k».proof.Proof.Payloads

@[expose] public section

noncomputable section

namespace Cert.KernelIdeal.Gen

open Idealize.ShloMosaic Idealize.ShloMosaic.ValueIdx
open Cert.Sums

/-- Where a tile starts, -/
theorem tileOff_eq (c : Dev nD) (j : Fin 15) : tileOff c j = ![256 * (tileDev c j).val, 0] := by
  funext a
  revert c a; fin_cases j <;> decide +kernel
/-- and the device's own. -/
theorem ownOff_eq (c : Dev nD) : k0_off2 c = ![256 * c.val, 0] := by
  funext a
  revert c a; decide +kernel

variable {F : FTy → Type} [FloatOps F] (I : Ins F)

theorem xTile_apply (c : Dev nD) (j : Fin 15) (r k : Fin 256) : xTile I c j (ix2 r k) = I.x c (ix2 (at' (tileDev c j) r) k) := by
  unfold xTile
  rw [View.readAt_apply, View.read_apply]
  refine congrArg (I.x c) (funext fun a => Fin.ext ?_)
  have h := congrFun (tileOff_eq c j) a
  match a with
  | ⟨0, _⟩ => show tileOff c j 0 + 1 * r.val = 256 * (tileDev c j).val + r.val; rw [show tileOff c j 0 = _ from h]; simp
  | ⟨1, _⟩ => show tileOff c j 1 + 1 * k.val = k.val; rw [show tileOff c j 1 = _ from h]; simp

theorem xOwn_apply (c : Dev nD) (r k : Fin 256) : xOwn I c (ix2 r k) = I.x c (ix2 (at' c r) k) := by
  unfold xOwn
  rw [View.readAt_apply, View.read_apply]
  refine congrArg (I.x c) (funext fun a => Fin.ext ?_)
  have h := congrFun (ownOff_eq c) a
  match a with
  | ⟨0, _⟩ => show k0_off2 c 0 + 1 * r.val = 256 * c.val + r.val; rw [show k0_off2 c 0 = _ from h]; simp
  | ⟨1, _⟩ => show k0_off2 c 1 + 1 * k.val = k.val; rw [show k0_off2 c 1 = _ from h]; simp

theorem wHalf_lo (c : Dev nD) (k : Fin 128) (l : Fin 2048) : wHalf I c 0 (ix2 k l) = I.w c (ix2 (lo k) l) := by
  unfold wHalf
  rw [View.readAt_apply, View.read_apply]
  refine congrArg (I.w c) (funext fun a => Fin.ext ?_)
  match a with
  | ⟨0, _⟩ => show 128 * 0 + 1 * k.val = k.val; omega
  | ⟨1, _⟩ => show 0 + 1 * l.val = l.val; omega
theorem wHalf_hi (c : Dev nD) (k : Fin 128) (l : Fin 2048) : wHalf I c 1 (ix2 k l) = I.w c (ix2 (hi k) l) := by
  unfold wHalf
  rw [View.readAt_apply, View.read_apply]
  refine congrArg (I.w c) (funext fun a => Fin.ext ?_)
  match a with
  | ⟨0, _⟩ => show 128 * 1 + 1 * k.val = 128 + k.val; omega
  | ⟨1, _⟩ => show 0 + 1 * l.val = l.val; omega

/-- The tile that arrives was cut for this device. -/
theorem tval_apply (c : Dev nD) (j : Fin 15) (r k : Fin 256) :
    tval I c (.xt j) (ix2 r k) = I.x (fromDev c (.inl j)) (ix2 (at' c r) k) := by
  show xTile I (fromDev c (.inl j)) j (ix2 r k) = _
  rw [xTile_apply, show tileDev (fromDev c (.inl j)) j = c from devOf_fromDev c (.inl j)]

/-! ## Shares of the contraction -/

section Shares

variable (I : Ins Ideal) (X : (⟨2, ![4096, 4096]⟩ : Shape).Idx → EReal) (W : (⟨2, ![4096, 2048]⟩ : Shape).Idx → EReal)

/-- Device e's share of entry (r, l) of device c's result. -/
def part (c e : Fin 16) (r : Fin 256) (l : Fin 2048) : EReal :=
  ∑ k : Fin 256, X (ix2 (at' c r) (at' e k)) * W (ix2 (at' e k) l)

/-- The devices hold blocks of the whole arrays. -/
structure Held : Prop where
  x : ∀ (d : Dev nD) (i : Fin 4096) (k : Fin 256), I.x d (ix2 i k) = X (ix2 i (at' d k))
  w : ∀ (d : Dev nD) (k : Fin 256) (l : Fin 2048), I.w d (ix2 k l) = W (ix2 (at' d k) l)

variable {I X W} (H : Held I X W)
include H

theorem own_share (c : Dev nD) (r : Fin 256) (l : Fin 2048) : k0_pay19 (xOwn I c) (I.w c) (ix2 r l) = part X W c c r l := by
  rw [first_product]
  exact Finset.sum_congr rfl fun k _ => by rw [xOwn_apply, H.x, H.w]

theorem halves_share (c e : Dev nD) (x : Vec Ideal S256x256 .fp8e4m3) (a b : Vec Ideal S128x2048 .fp8e4m3)
    (hx : ∀ r k, x (ix2 r k) = I.x e (ix2 (at' c r) k)) (ha : a = wHalf I e 0) (hb : b = wHalf I e 1) (r : Fin 256) (l : Fin 2048) :
    halves x a b r l = part X W c e r l := by
  subst ha hb
  unfold halves part
  rw [← sum_halves]
  refine congrArg₂ (· + ·) (Finset.sum_congr rfl fun k _ => ?_) (Finset.sum_congr rfl fun k _ => ?_)
  · rw [hx, wHalf_lo, H.x, H.w]
  · rw [hx, wHalf_hi, H.x, H.w]

end Shares

end Cert.KernelIdeal.Gen

end
-- ==== Proof.Total.lean ====
/-
  The kernel's result: the shares of all sixteen devices, added in the order in which they arrive, are the whole contraction.
-/
module

public import proofs.«01_k».proof.Proof.Blocks

@[expose] public section

noncomputable section

namespace Cert.KernelIdeal.Gen

open Idealize.ShloMosaic Idealize.ShloMosaic.ValueIdx
open Cert.Sums

/-- The device whose share the n-th product adds. -/
def giver (c : Dev nD) (n : ℕ) : Dev nD := fromDev c (.inl (gj n))

/-- Its tile and its halves of w come to meet. -/
theorem giver_walk (c : Dev nD) (n : Fin 14) : walk (gd n) ((gh n).val + 1) c = giver c n := by
  revert c n; decide +kernel
theorem last_tile (c : Dev nD) : fromDev c (.inl 7) = rot 8 c := by revert c; decide +kernel
theorem last_walk (c : Dev nD) (d : Fin 2) : walk d 8 c = rot 8 c := by revert c d; decide +kernel
theorem rot_zero (c : Dev nD) : rot 0 c = c := by revert c; decide +kernel

/-- Going round the cycle from c meets every device once. -/
def around (c : Dev nD) : Fin 16 ≃ Fin 16 :=
  Equiv.ofBijective (fun p => rot p c) (by revert c; decide +kernel)

theorem givers {M : Type*} [AddCommMonoid M] (c : Dev nD) (f : Fin 16 → M) :
    f c + ∑ n ∈ Finset.range 14, f (giver c n) + f (rot 8 c) = ∑ e, f e := by
  rw [← Equiv.sum_comp (around c) f]
  refine Eq.trans ?_ (sum_order fun p => f (rot p c))
  have h : ∀ n : Fin 14, giver c n = rot (![15, 1, 14, 2, 13, 3, 12, 4, 11, 5, 10, 6, 9, 7] n) c := by revert c; decide +kernel
  simp only [Finset.sum_range_succ, Finset.sum_range_zero, zero_add, rot_zero]
  rw [show giver c 0 = _ from h 0, show giver c 1 = _ from h 1, show giver c 2 = _ from h 2, show giver c 3 = _ from h 3,
    show giver c 4 = _ from h 4, show giver c 5 = _ from h 5, show giver c 6 = _ from h 6, show giver c 7 = _ from h 7,
    show giver c 8 = _ from h 8, show giver c 9 = _ from h 9, show giver c 10 = _ from h 10, show giver c 11 = _ from h 11,
    show giver c 12 = _ from h 12, show giver c 13 = _ from h 13]
  rfl

/-- A scale is the one cell of its argument. -/
theorem one_idx (i : S1.Idx) : i = ix1 0 := by
  rw [eq_ix1 i]
  exact congrArg ix1 (Subsingleton.elim (α := Fin 1) _ _)
theorem scale_x (f : (cc0_stg2_0 : Ref sig .tc).ty.Contents (Elt Ideal)) : scaleOf sxM f = f (ix1 0) := congrArg f (one_idx _)
theorem scale_w (f : (cc0_stg3_0 : Ref sig .tc).ty.Contents (Elt Ideal)) : scaleOf swM f = f (ix1 0) := congrArg f (one_idx _)

variable {I : Ins Ideal} {X : (⟨2, ![4096, 4096]⟩ : Shape).Idx → EReal} {W : (⟨2, ![4096, 2048]⟩ : Shape).Idx → EReal} (H : Held I X W)
include H

/-- The sum after n products beyond the first. -/
theorem accV_apply (c : Dev nD) (r : Fin 256) (l : Fin 2048) : ∀ n, n ≤ 14 →
    accV I c n (ix2 r l) = part X W c c r l + ∑ i ∈ Finset.range n, part X W c (giver c i) r l
  | 0, _ => by
    rw [Finset.sum_range_zero, add_zero]
    exact own_share H c r l
  | n + 1, hn => by
    rw [Finset.sum_range_succ, ← add_assoc, ← accV_apply c r l n (by omega)]
    have hw := giver_walk c ⟨n, by omega⟩
    refine (next_product _ _ _ _ r l).trans (congrArg (accV I c n (ix2 r l) + ·) ?_)
    exact halves_share H c (giver c n) _ _ _ (tval_apply I c (gj n)) (congrArg (wHalf I · 0) hw) (congrArg (wHalf I · 1) hw) r l

/-- An entry of the result: the whole contraction, times the two scales. -/
theorem outV_apply (c : Dev nD) (r : Fin 256) (l : Fin 2048) :
    outV I c (ix2 r l) = (∑ k : Fin 4096, X (ix2 (at' c r) k) * W (ix2 k l)) * (scaleOf sxM (I.sx c) * scaleOf swM (I.sw c)) := by
  refine (last_product _ _ _ _ _ _ r l).trans (congrArg (· * _) ?_)
  have h : halves (tval I c (.xt 7)) (wval I c (.wb 0 7 0)) (wval I c (.wb 1 7 1)) r l = part X W c (rot 8 c) r l :=
    halves_share H c (rot 8 c) _ _ _ (fun r k => by rw [tval_apply, last_tile])
      (congrArg (wHalf I · 0) (last_walk c 0)) (congrArg (wHalf I · 1) (last_walk c 1)) r l
  rw [accV_apply H c r l 14 le_rfl, h, givers c fun e => part X W c e r l]
  exact sum_blocks fun k => X (ix2 (at' c r) k) * W (ix2 k l)

end Cert.KernelIdeal.Gen

end
-- ==== Proof.RefValue.lean ====
/-
  What the reference computes: one product of the whole arrays, scaled.
-/
module

public import proofs.«01_k».proof.Proof.Gen.ReferenceIdeal.Value
public import Idealize.ShloMosaic.Lib.MatmulPlain
public import Idealize.ShloMosaic.Lib.ValueIdx
public import Idealize.ShloMosaic.Lib.Tactic

@[expose] public section

set_option maxRecDepth 16384

noncomputable section

namespace Cert.ReferenceIdeal.Value

open Cert.ReferenceIdeal Cert.ReferenceIdeal.Gen Idealize.ShloMosaic Idealize.ShloMosaic.TcCoe Idealize.SL.Sem
open Idealize.ShloMosaic.ValueIdx
open Idealize.ShloMosaic.Pipeline (Dat)

theorem zeros2 : (![0, 0] : Fin 2 → Nat) = fun _ => 0 := funext fun a => by fin_cases a <;> rfl

/-- A single cell has one index. -/
theorem one_idx (i : S1.Idx) : i = ix1 0 := by
  rw [eq_ix1 i]
  exact congrArg ix1 (Subsingleton.elim (α := Fin 1) _ _)

variable {F : FTy → Type} [FloatOps F]

/-- The body's one store, read back. -/
theorem out_eq (c : Dev nD) (a0 : Memref sig .tc .vmem S4096x4096 .fp8e4m3) (h0 : a0.IsWhole) (a1 : Memref sig .tc .vmem S4096x2048 .fp8e4m3)
    (h1 : a1.IsWhole) (a2 : Memref sig .tc .smem S1 .f32) (h2 : a2.IsWhole) (a3 : Memref sig .tc .smem S1 .f32) (h3 : a3.IsWhole)
    (a4 : Memref sig .tc .vmem S4096x2048 .f32) (h4 : a4.IsWhole)
    (x : Vec F S4096x4096 .fp8e4m3) (w : Vec F S4096x2048 .fp8e4m3) (sx sw : Vec F S1 .f32) :
    out0_A_4 c a0 h0 a1 h1 a2 h2 a3 h3 a4 h4 x w sx sw = k0_pay1 x w (sx (ix1 0)) (sw (ix1 0)) := by
  unfold out0_A_4
  rw [View.read_writes_eq_canon _ _ _ (cover0_A_4 c a0 h0 a1 h1 a2 h2 a3 h3 a4 h4 x w sx sw)]
  unfold kernelRun0_A
  dsimp only
  rw [View.canon_unit_zero zeros2]
  sl_unfold_words
  simp only [View.readAt_eq_ld, h0.read_unread, h1.read_unread, h2.read_unread, h3.read_unread, View.ld_unit_zero (S := S4096x4096) zeros2,
    View.ld_unit_zero (S := S4096x2048) zeros2]
  exact congrArg₂ (k0_pay1 x w) (congrArg sx (one_idx _)) (congrArg sw (one_idx _))

variable (m : (ℓ : Loc nD τ sig) → Buf (Elt F) ℓ) (ρ : Dev nD → PrngReg)

/-- The reference's result. -/
def result (c : Dev nD) : Buf (Elt F) ((c : Thread nD τ).loc main_v0) :=
  k0_pay1 (m ((c : Thread nD τ).loc main_arg0)) (m ((c : Thread nD τ).loc main_arg1))
    (m ((c : Thread nD τ).loc main_arg2) (ix1 0)) (m ((c : Thread nD τ).loc main_arg3) (ix1 0))

/-- Each argument's window is the whole argument. -/
theorem iblk0 (c : Dev nD) : iblk m c 0 t0_0 = m ((c : Thread nD τ).loc main_arg0) := by
  have hz : (fun a => win0_0.index t0_0 a * main_arg0.ty.shape.size a) = fun _ => 0 := funext fun a => by fin_cases a <;> decide
  exact Memref.read_access_unit_zero (Elt F) main_arg0 hz (fun a => by rw [congrFun hz a]; simp) _
theorem iblk1 (c : Dev nD) : iblk m c 1 t0_0 = m ((c : Thread nD τ).loc main_arg1) := by
  have hz : (fun a => win0_1.index t0_0 a * main_arg1.ty.shape.size a) = fun _ => 0 := funext fun a => by fin_cases a <;> decide
  exact Memref.read_access_unit_zero (Elt F) main_arg1 hz (fun a => by rw [congrFun hz a]; simp) _
theorem iblk2 (c : Dev nD) : iblk m c 2 t0_0 = m ((c : Thread nD τ).loc main_arg2) := by
  have hz : (fun a => win0_2.index t0_0 a * main_arg2.ty.shape.size a) = fun _ => 0 := funext fun a => by fin_cases a <;> decide
  exact Memref.read_access_unit_zero (Elt F) main_arg2 hz (fun a => by rw [congrFun hz a]; simp) _
theorem iblk3 (c : Dev nD) : iblk m c 3 t0_0 = m ((c : Thread nD τ).loc main_arg3) := by
  have hz : (fun a => win0_3.index t0_0 a * main_arg3.ty.shape.size a) = fun _ => 0 := funext fun a => by fin_cases a <;> decide
  exact Memref.read_access_unit_zero (Elt F) main_arg3 hz (fun a => by rw [congrFun hz a]; simp) _

/-- The result's one block is the whole result. -/
theorem final_result (c : Dev nD) : (dats m 0 c).arrAt 4 cfg0.N = result m c := by
  have hz : (fun a => win0_4.index t0_0 a * main_v0.ty.shape.size a) = fun _ => 0 := funext fun a => by fin_cases a <;> decide
  have h := blocks4 m c t0_0 (by decide +kernel)
  rw [flushed4_A, out_eq, iblk0, iblk1, iblk2, iblk3] at h
  exact (Memref.read_access_unit_zero (Elt F) main_v0 hz (fun a => by rw [congrFun hz a]; simp) _).symm.trans h

/-- The run, read. -/
theorem run_result : θ_run defs (onTc (τ := τ) (main (F := F))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final_result m c), (h c).2⟩) (run_blocks m ρ)

/-- At exact values the reference's entry (i, l) is the sum over all 4096 contracted positions, times the two scales. -/
theorem pay_apply (x : Vec Ideal S4096x4096 .fp8e4m3) (w : Vec Ideal S4096x2048 .fp8e4m3) (s t : Elt Ideal .f32) (i : Fin 4096) (l : Fin 2048) :
    (k0_pay1 x w s t (ix2 i l) : EReal) = (∑ k : Fin 4096, (x (ix2 i k) : EReal) * w (ix2 k l)) * ((s : EReal) * t) := by
  unfold k0_pay1
  simp only [matmul, mulf_apply, broadcast_apply]
  rw [show dot_S4096x4096_S4096x2048_S4096x2048_1_0_0_1_n_n = DotDims.plain 4096 4096 2048 from rfl, Ideal.matmul_plain_apply,
    show (constant (F := Ideal) S4096x2048 .f32 0x00000000#32 : FVec Ideal S4096x2048 .f32) (ix2 i l) = (0 : EReal) from Ideal.ofBits_zero_f32, zero_add]
  rfl

end Cert.ReferenceIdeal.Value

end
-- ==== Proof.Values.lean ====
/-
  The claim on values: every device's result is its block of the reference's.
-/
module

public import proofs.«01_k».proof.Defs
public import proofs.«01_k».proof.Proof.Launched
public import proofs.«01_k».proof.Proof.Total
public import proofs.«01_k».proof.Proof.RefValue

@[expose] public section

set_option maxRecDepth 32000

noncomputable section

namespace Cert.KernelIdeal.Gen

open Idealize.ShloMosaic Idealize.ShloMosaic.ValueIdx Idealize.SL.Sem

section Whole

variable {F : FTy → Type} [FloatOps F] (m : (ℓ : Loc nD τ sig) → Buf (Elt F) ℓ)

/-- Each argument's window is the whole argument. -/
theorem ins_x (c : Dev nD) : (ins m).x c = m ((c.tc : Thread nD τ).loc main_arg0) := by
  have hz : (fun a => win0_0.index t0_0 a * main_arg0.ty.shape.size a) = fun _ => 0 := funext fun a => by fin_cases a <;> decide
  exact Memref.read_access_unit_zero (Elt F) main_arg0 hz (fun a => by rw [congrFun hz a]; simp) _
theorem ins_w (c : Dev nD) : (ins m).w c = m ((c.tc : Thread nD τ).loc main_arg1) := by
  have hz : (fun a => win0_1.index t0_0 a * main_arg1.ty.shape.size a) = fun _ => 0 := funext fun a => by fin_cases a <;> decide
  exact Memref.read_access_unit_zero (Elt F) main_arg1 hz (fun a => by rw [congrFun hz a]; simp) _
theorem ins_sx (c : Dev nD) : (ins m).sx c = m ((c.tc : Thread nD τ).loc main_arg2) := by
  have hz : (fun a => win0_2.index t0_0 a * main_arg2.ty.shape.size a) = fun _ => 0 := funext fun a => by fin_cases a <;> decide
  exact Memref.read_access_unit_zero (Elt F) main_arg2 hz (fun a => by rw [congrFun hz a]; simp) _
theorem ins_sw (c : Dev nD) : (ins m).sw c = m ((c.tc : Thread nD τ).loc main_arg3) := by
  have hz : (fun a => win0_3.index t0_0 a * main_arg3.ty.shape.size a) = fun _ => 0 := funext fun a => by fin_cases a <;> decide
  exact Memref.read_access_unit_zero (Elt F) main_arg3 hz (fun a => by rw [congrFun hz a]; simp) _
/-- And the result's window is the whole result. -/
theorem final_out (ρ : Dev nD → PrngReg) (c : Dev nD) : finalA m ρ c (4 : Fin 5) = outV (ins m) c := by
  have hz : (fun a => win0_4.index t0_0 a * main_v1.ty.shape.size a) = fun _ => 0 := funext fun a => by fin_cases a <;> decide
  exact (Memref.read_access_unit_zero (Elt F) main_v1 hz (fun a => by rw [congrFun hz a]; simp) _).symm.trans (finalA_out m ρ c)

end Whole

end Cert.KernelIdeal.Gen

namespace Cert.Proof

open Idealize.ShloMosaic Idealize.ShloMosaic.ValueIdx Idealize.SL.Sem
open Cert.KernelIdeal.Gen Cert.Sums

/-- A block's entry in the whole array. -/
theorem block_cols {α : Type} (c : Fin 16) (v : (⟨2, ![4096, 4096]⟩ : Shape).Idx → α) (i : Fin 4096) (k : Fin 256) :
    Layout.block ⟨2, ![4096, 256]⟩ ⟨2, ![4096, 4096]⟩ 1 16 c v (by decide) (ix2 i k) = v (ix2 i (at' c k)) := by
  rw [Layout.block_apply]
  refine congrArg v (funext fun a => Fin.ext ?_)
  match a with
  | ⟨0, _⟩ => rfl
  | ⟨1, _⟩ => show c.val * 256 + k.val = 256 * c.val + k.val; omega
theorem block_rows {α : Type} (c : Fin 16) (v : (⟨2, ![4096, 2048]⟩ : Shape).Idx → α) (r : Fin 256) (l : Fin 2048) :
    Layout.block ⟨2, ![256, 2048]⟩ ⟨2, ![4096, 2048]⟩ 0 16 c v (by decide) (ix2 r l) = v (ix2 (at' c r) l) := by
  rw [Layout.block_apply]
  refine congrArg v (funext fun a => Fin.ext ?_)
  match a with
  | ⟨0, _⟩ => show c.val * 256 + r.val = 256 * c.val + r.val; omega
  | ⟨1, _⟩ => rfl

theorem algebraic : Cert.algebraic_KernelIdeal_ReferenceIdeal (hKernelIdeal := Cert.KernelIdeal.Gen.facts)
    (hReferenceIdeal := Cert.ReferenceIdeal.Gen.facts) := by
  intro m g m' g' _ hm
  have H : Held (ins m) (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)) :=
    ⟨fun d i k => by rw [ins_x, (hm d).1]; exact block_cols d _ i k, fun d k l => by rw [ins_w, (hm d).2.1]; exact block_rows d _ k l⟩
  refine ⟨Cert.ReferenceIdeal.Value.result m' 0, ?_, ?_⟩
  · refine (θ_run Cert.KernelIdeal.defs _ _).mono (fun r h c => ⟨?_, (h.1 c (0 : Fin 5)).trans (finalA_x m g c), (h.1 c (1 : Fin 5)).trans (finalA_w m g c),
      (h.1 c (2 : Fin 5)).trans (finalA_sx m g c), (h.1 c (3 : Fin 5)).trans (finalA_sw m g c)⟩) (run_main (F := Ideal) m g)
    refine ((h.1 c (4 : Fin 5)).trans (final_out m g c)).trans (funext fun i => ?_)
    obtain ⟨r, l, rfl⟩ : ∃ (r : Fin 256) (l : Fin 2048), i = ix2 r l := ⟨i 0, i 1, eq_ix2 i⟩
    refine (outV_apply H c r l).trans (Eq.trans ?_ (block_rows c _ r l).symm)
    unfold Cert.ReferenceIdeal.Value.result
    rw [Cert.ReferenceIdeal.Value.pay_apply, scale_x, scale_w, ins_sx, ins_sw, (hm c).2.2.1, (hm c).2.2.2]
  · exact (θ_run Cert.ReferenceIdeal.defs _ _).mono (fun _ h => h 0) (Cert.ReferenceIdeal.Value.run_result m' g')

end Cert.Proof

end
-- ==== Proof.lean ====
/-
  The proof of the claims: the frames of the kernel and of the reference, and what the kernel computes.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Frames
public import proofs.«01_k».proof.Proof.Values
public import proofs.«01_k».proof.Proof.Gen.ReferenceIdeal.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  frame_kernel, frame_ideal, frame_reference, trivial, algebraic⟩

end Cert.Proof

end
